-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v98)) (v1 : (c : Dev Cert.KernelIdeal.nD) → Buf (Elt Ideal) ((c.tc : Thread Cert.KernelIdeal.nD Cert.KernelIdeal.τ).loc Cert.KernelIdeal.main_v100)) (v2 : (c : Dev Cert.KernelIdeal.nD) → Buf (Elt Ideal) ((c.tc : Thread Cert.KernelIdeal.nD Cert.KernelIdeal.τ).loc Cert.KernelIdeal.main_v101)) (v3 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_v101) = v2 c
          ∧ r.2.mem ((c.tc : Thread Cert.KernelIdeal.nD Cert.KernelIdeal.τ).loc Cert.KernelIdeal.main_v106) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16384x8x64 : Shape := ⟨3, ![16384, 8, 64]⟩
abbrev S8x16384 : Shape := ⟨2, ![8, 16384]⟩
abbrev S_ : Shape := ⟨0, ![]⟩
abbrev S16384x8 : Shape := ⟨2, ![16384, 8]⟩
abbrev S16384x8x1 : Shape := ⟨3, ![16384, 8, 1]⟩

class Facts : Prop where
  bcast_S_S16384x8x64 : S_.BroadcastsInDim S16384x8x64 (![] : Fin 0 → Fin S16384x8x64.rank)
  transposes_S8x16384_S16384x8_1_0 : S8x16384.Transposes [1, 0] S16384x8
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  bcast_S16384x8x1_S16384x8x64_0_1_2 : S16384x8x1.BroadcastsInDim S16384x8x64 (![0, 1, 2] : Fin 3 → Fin S16384x8x64.rank)

variable [Facts]

def fn_part1 {F : FTy → Type} [FloatOps F] (main_v14 : IVec S16384x8x64 1) (main_v18 : IVec S16384x8 1) : IVec S16384x8x64 1 :=
  let main_v19 : IVec S16384x8x1 1 := broadcastInDim S16384x8x1 ![0, 1] bcast_S16384x8_S16384x8x1_0_1 main_v18
  let main_v20 : IVec S16384x8x64 1 := broadcastInDim S16384x8x64 ![0, 1, 2] bcast_S16384x8x1_S16384x8x64_0_1_2 main_v19
  let main_v21 : IVec S16384x8x64 1 := andi main_v14 main_v20
  main_v21

def fn {F : FTy → Type} [FloatOps F] (main_arg0 : FVec F S16384x8x64 .f32) (main_arg1 : FVec F S16384x8x64 .f32) (main_arg2 : FVec F S16384x8x64 .f32) (main_arg3 : FVec F S8x16384 .f32) (main_arg4 : FVec F S16384x8x64 .f32) : IVec S16384x8x64 1 :=
  let main_v0 : FVec F S16384x8x64 .f32 := Host.absf main_arg0
  let main_cst : FVec F S_ .f32 := constant S_ .f32 0x7F800000#32
  let main_v1 : FVec F S16384x8x64 .f32 := broadcastInDim S16384x8x64 ![] bcast_S_S16384x8x64 main_cst
  let main_v2 : IVec S16384x8x64 1 := cmpf .olt main_v0 main_v1
  let main_v3 : FVec F S16384x8x64 .f32 := Host.absf main_arg1
  let main_cst_0 : FVec F S_ .f32 := constant S_ .f32 0x7F800000#32
  let main_v4 : FVec F S16384x8x64 .f32 := broadcastInDim S16384x8x64 ![] bcast_S_S16384x8x64 main_cst_0
  let main_v5 : IVec S16384x8x64 1 := cmpf .olt main_v3 main_v4
  let main_v6 : IVec S16384x8x64 1 := andi main_v2 main_v5
  let main_v7 : FVec F S16384x8x64 .f32 := Host.absf main_arg2
  let main_cst_1 : FVec F S_ .f32 := constant S_ .f32 0x7F800000#32
  let main_v8 : FVec F S16384x8x64 .f32 := broadcastInDim S16384x8x64 ![] bcast_S_S16384x8x64 main_cst_1
  let main_v9 : IVec S16384x8x64 1 := cmpf .olt main_v7 main_v8
  let main_v10 : IVec S16384x8x64 1 := andi main_v6 main_v9
  let main_v11 : FVec F S16384x8x64 .f32 := Host.absf main_arg4
  let main_cst_2 : FVec F S_ .f32 := constant S_ .f32 0x7F800000#32
  let main_v12 : FVec F S16384x8x64 .f32 := broadcastInDim S16384x8x64 ![] bcast_S_S16384x8x64 main_cst_2
  let main_v13 : IVec S16384x8x64 1 := cmpf .olt main_v11 main_v12
  let main_v14 : IVec S16384x8x64 1 := andi main_v10 main_v13
  let main_v15 : FVec F S16384x8 .f32 := (transpose S16384x8 [1, 0] · transposes_S8x16384_S16384x8_1_0) main_arg3
  let main_v16 : FVec F S16384x8 .f32 := Host.absf main_v15
  let main_cst_3 : FVec F S_ .f32 := constant S_ .f32 0x7F800000#32
  let main_v17 : FVec F S16384x8 .f32 := broadcastInDim S16384x8 ![] bcast_S_S16384x8 main_cst_3
  let main_v18 : IVec S16384x8 1 := cmpf .olt main_v16 main_v17
  fn_part1 (F := F) main_v14 main_v18
-- ==== Kernel.lean ====
abbrev S16384x8x64 : Shape := ⟨3, ![16384, 8, 64]⟩
abbrev S8x16384 : Shape := ⟨2, ![8, 16384]⟩
abbrev S_ : Shape := ⟨0, ![]⟩
abbrev S16384x8x128 : Shape := ⟨3, ![16384, 8, 128]⟩
abbrev S16384x1024 : Shape := ⟨2, ![16384, 1024]⟩
abbrev S16384x512 : Shape := ⟨2, ![16384, 512]⟩
abbrev S16384x4096 : Shape := ⟨2, ![16384, 4096]⟩
abbrev S16384x8 : Shape := ⟨2, ![16384, 8]⟩
abbrev S16384x8x1 : Shape := ⟨3, ![16384, 8, 1]⟩
abbrev S16384x8x3 : Shape := ⟨3, ![16384, 8, 3]⟩
abbrev S16384x8x58 : Shape := ⟨3, ![16384, 8, 58]⟩
abbrev S8x16384x16384 : Shape := ⟨3, ![8, 16384, 16384]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S8x32 : Shape := ⟨2, ![8, 32]⟩
abbrev S1024x16384 : Shape := ⟨2, ![1024, 16384]⟩
abbrev S512x16384 : Shape := ⟨2, ![512, 16384]⟩
abbrev S4x2x16384 : Shape := ⟨3, ![4, 2, 16384]⟩
abbrev S4x8x16384 : Shape := ⟨3, ![4, 8, 16384]⟩
abbrev S16384x128 : Shape := ⟨2, ![16384, 128]⟩
abbrev S128x16384 : Shape := ⟨2, ![128, 16384]⟩
abbrev S512x128 : Shape := ⟨2, ![512, 128]⟩
abbrev S128x512 : Shape := ⟨2, ![128, 512]⟩
abbrev S1x8x16384 : Shape := ⟨3, ![1, 8, 16384]⟩
abbrev S64x512 : Shape := ⟨2, ![64, 512]⟩
abbrev S80x512 : Shape := ⟨2, ![80, 512]⟩
abbrev S512x512 : Shape := ⟨2, ![512, 512]⟩
abbrev S1x1x512 : Shape := ⟨3, ![1, 1, 512]⟩
abbrev S1x512 : Shape := ⟨2, ![1, 512]⟩
abbrev S1x1 : Shape := ⟨2, ![1, 1]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S80x1024 : Shape := ⟨2, ![80, 1024]⟩
abbrev S64x1024 : Shape := ⟨2, ![64, 1024]⟩
abbrev S48x512 : Shape := ⟨2, ![48, 512]⟩
abbrev S8x128x16384 : Shape := ⟨3, ![8, 128, 16384]⟩

abbrev nBuf : Space → Nat
  | .hbm => 140
  | .vmem => 23
  | .smem => 2
  | _ => 0

abbrev hbmTy0_0 (i : Nat) : BufTy := match i % 128 with
  | 0 => ⟨S16384x8x64, .f32⟩
  | 1 => ⟨S16384x8x64, .f32⟩
  | 2 => ⟨S16384x8x64, .f32⟩
  | 3 => ⟨S8x16384, .f32⟩
  | 4 => ⟨S16384x8x64, .f32⟩
  | 5 => ⟨S16384x8x64, .bf16⟩
  | 6 => ⟨S_, .i32⟩
  | 7 => ⟨S_, .bf16⟩
  | 8 => ⟨S16384x8x128, .bf16⟩
  | 9 => ⟨S16384x8x64, .bf16⟩
  | 10 => ⟨S_, .i32⟩
  | 11 => ⟨S_, .bf16⟩
  | 12 => ⟨S16384x8x128, .bf16⟩
  | 13 => ⟨S_, .bf16⟩
  | 14 => ⟨S16384x1024, .bf16⟩
  | 15 => ⟨S16384x1024, .bf16⟩
  | 16 => ⟨S16384x1024, .bf16⟩
  | 17 => ⟨S16384x8x64, .bf16⟩
  | 18 => ⟨S16384x512, .bf16⟩
  | 19 => ⟨S_, .bf16⟩
  | 20 => ⟨S16384x512, .bf16⟩
  | 21 => ⟨S16384x4096, .bf16⟩
  | 22 => ⟨S16384x8, .f32⟩
  | 23 => ⟨S16384x8, .bf16⟩
  | 24 => ⟨S16384x8, .f32⟩
  | 25 => ⟨S16384x8, .f32⟩
  | 26 => ⟨S16384x8, .bf16⟩
  | 27 => ⟨S16384x8, .f32⟩
  | 28 => ⟨S16384x8, .f32⟩
  | 29 => ⟨S16384x8, .f32⟩
  | 30 => ⟨S16384x8, .bf16⟩
  | 31 => ⟨S16384x8, .f32⟩
  | 32 => ⟨S16384x8x1, .f32⟩
  | 33 => ⟨S16384x8x1, .f32⟩
  | 34 => ⟨S16384x8x1, .f32⟩
  | 35 => ⟨S_, .f32⟩
  | 36 => ⟨S16384x8x3, .f32⟩
  | 37 => ⟨S_, .f32⟩
  | 38 => ⟨S16384x8x58, .f32⟩
  | 39 => ⟨S16384x8x64, .bf16⟩
  | 40 => ⟨S16384x8x64, .f32⟩
  | 41 => ⟨S_, .f32⟩
  | 42 => ⟨S16384x8x64, .f32⟩
  | 43 => ⟨S16384x8x64, .f32⟩
  | 44 => ⟨S16384x8x128, .f32⟩
  | 45 => ⟨S16384x8x128, .bf16⟩
  | 46 => ⟨S16384x1024, .bf16⟩
  | 47 => ⟨S16384x8x64, .bf16⟩
  | 48 => ⟨S16384x8x64, .f32⟩
  | 49 => ⟨S16384x8x1, .f32⟩
  | 50 => ⟨S16384x8x1, .f32⟩
  | 51 => ⟨S16384x8x1, .f32⟩
  | 52 => ⟨S16384x8x128, .f32⟩
  | 53 => ⟨S16384x8x128, .bf16⟩
  | 54 => ⟨S16384x1024, .bf16⟩
  | 55 => ⟨S8x16384x16384, .f32⟩
  | 56 => ⟨S_, .f32⟩
  | 57 => ⟨S8x16384x16384, .f32⟩
  | 58 => ⟨S8x16384x16384, .f32⟩
  | 59 => ⟨S8x16384x1, .f32⟩
  | 60 => ⟨S8x16384x16384, .f32⟩
  | 61 => ⟨S8x16384x16384, .f32⟩
  | 62 => ⟨S8x1x16384, .f32⟩
  | 63 => ⟨S8x16384x16384, .f32⟩
  | 64 => ⟨S8x16384x16384, .f32⟩
  | 65 => ⟨S16384, .i32⟩
  | 66 => ⟨S1x16384, .i32⟩
  | 67 => ⟨S16384x1, .i32⟩
  | 68 => ⟨S16384x16384, .i32⟩
  | 69 => ⟨S16384x16384, .i32⟩
  | 70 => ⟨S16384x16384, .i1⟩
  | 71 => ⟨S_, .f32⟩
  | 72 => ⟨S_, .f32⟩
  | 73 => ⟨S8x16384x16384, .i1⟩
  | 74 => ⟨S8x16384x16384, .f32⟩
  | 75 => ⟨S8x16384x16384, .f32⟩
  | 76 => ⟨S_, .f32⟩
  | 77 => ⟨S8x16384, .f32⟩
  | 78 => ⟨S8x16384x1, .f32⟩
  | 79 => ⟨S8x16384x16384, .f32⟩
  | 80 => ⟨S8x16384x16384, .f32⟩
  | 81 => ⟨S8x16384x16384, .f32⟩
  | 82 => ⟨S_, .f32⟩
  | 83 => ⟨S8x16384, .f32⟩
  | 84 => ⟨S8x16384x1, .f32⟩
  | 85 => ⟨S8x16384x1, .f32⟩
  | 86 => ⟨S8x16384x1, .f32⟩
  | 87 => ⟨S8x16384, .f32⟩
  | 88 => ⟨S8x16384x16384, .f32⟩
  | 89 => ⟨S8x16384x16384, .f32⟩
  | 90 => ⟨S8x64x16384, .f32⟩
  | 91 => ⟨S16384x8x64, .f32⟩
  | 92 => ⟨S16384x8x64, .f32⟩
  | 93 => ⟨S_, .f32⟩
  | 94 => ⟨S16384x8, .f32⟩
  | 95 => ⟨S8x16384, .f32⟩
  | 96 => ⟨S16384x8x64, .bf16⟩
  | 97 => ⟨S16384x512, .bf16⟩
  | 98 => ⟨S8x32, .i32⟩
  | 99 => ⟨S_, .i32⟩
  | 100 => ⟨S8x32, .i32⟩
  | 101 => ⟨S8x32, .i32⟩
  | 102 => ⟨S_, .i32⟩
  | 103 => ⟨S8x32, .i32⟩
  | 104 => ⟨S8x32, .i32⟩
  | 105 => ⟨S_, .i32⟩
  | 106 => ⟨S8x32, .i32⟩
  | 107 => ⟨S8x32, .i32⟩
  | 108 => ⟨S_, .i32⟩
  | 109 => ⟨S8x32, .i32⟩
  | 110 => ⟨S1024x16384, .bf16⟩
  | 111 => ⟨S1024x16384, .bf16⟩
  | 112 => ⟨S512x16384, .bf16⟩
  | 113 => ⟨S4x2x16384, .f32⟩
  | 114 => ⟨S_, .i32⟩
  | 115 => ⟨S_, .f32⟩
  | 116 => ⟨S4x8x16384, .f32⟩
  | 117 => ⟨S4x2x16384, .f32⟩
  | 118 => ⟨S_, .i32⟩
  | 119 => ⟨S_, .f32⟩
  | 120 => ⟨S4x8x16384, .f32⟩
  | 121 => ⟨S1024x16384, .f32⟩
  | 122 => ⟨S1024x16384, .f32⟩
  | 123 => ⟨S512x16384, .f32⟩
  | 124 => ⟨S8x128x16384, .f32⟩
  | 125 => ⟨S8x128x16384, .f32⟩
  | 126 => ⟨S8x64x16384, .f32⟩
  | 127 => ⟨S8x64x16384, .f32⟩
  | _ => ⟨S16384x8x64, .f32⟩

abbrev hbmTy0_1 (i : Nat) : BufTy := match i % 128 with
  | 0 => ⟨S_, .f32⟩
  | 1 => ⟨S8x64x16384, .f32⟩
  | 2 => ⟨S8x64x16384, .f32⟩
  | 3 => ⟨S16384x8x64, .f32⟩
  | 4 => ⟨S8x64x16384, .f32⟩
  | 5 => ⟨S16384x8x64, .f32⟩
  | 6 => ⟨S16384x8x64, .f32⟩
  | 7 => ⟨S8x1x16384, .f32⟩
  | 8 => ⟨S8x16384, .f32⟩
  | 9 => ⟨S8x1x16384, .f32⟩
  | 10 => ⟨S8x16384, .f32⟩
  | 11 => ⟨S8x16384, .f32⟩
  | _ => ⟨S16384x8x64, .f32⟩

abbrev hbmTy (i : Nat) : BufTy := match i / 128 with
  | 0 => hbmTy0_0 i
  | 1 => hbmTy0_1 i
  | _ => ⟨S16384x8x64, .f32⟩

abbrev bufTy : (tb : Table) → Fin (tcTables nBuf tb) → BufTy
  | .hbm, ⟨i, _⟩ => hbmTy i
  | .local _ .vmem, ⟨0, _⟩ => ⟨S16384x128, .bf16⟩
  | .local _ .vmem, ⟨1, _⟩ => ⟨S16384x128, .bf16⟩
  | .local _ .vmem, ⟨2, _⟩ => ⟨S128x16384, .bf16⟩
  | .local _ .vmem, ⟨3, _⟩ => ⟨S128x16384, .bf16⟩
  | .local _ .vmem, ⟨4, _⟩ => ⟨S512x128, .bf16⟩
  | .local _ .vmem, ⟨5, _⟩ => ⟨S512x128, .bf16⟩
  | .local _ .vmem, ⟨6, _⟩ => ⟨S128x512, .bf16⟩
  | .local _ .vmem, ⟨7, _⟩ => ⟨S128x512, .bf16⟩
  | .local _ .vmem, ⟨8, _⟩ => ⟨S512x128, .bf16⟩
  | .local _ .vmem, ⟨9, _⟩ => ⟨S512x128, .bf16⟩
  | .local _ .vmem, ⟨10, _⟩ => ⟨S16384x128, .bf16⟩
  | .local _ .vmem, ⟨11, _⟩ => ⟨S16384x128, .bf16⟩
  | .local _ .vmem, ⟨12, _⟩ => ⟨S128x16384, .bf16⟩
  | .local _ .vmem, ⟨13, _⟩ => ⟨S128x16384, .bf16⟩
  | .local _ .vmem, ⟨14, _⟩ => ⟨S1x8x16384, .f32⟩
  | .local _ .vmem, ⟨15, _⟩ => ⟨S1x8x16384, .f32⟩
  | .local _ .vmem, ⟨16, _⟩ => ⟨S1x8x16384, .f32⟩
  | .local _ .vmem, ⟨17, _⟩ => ⟨S1x8x16384, .f32⟩
  | .local _ .vmem, ⟨18, _⟩ => ⟨S128x16384, .f32⟩
  | .local _ .vmem, ⟨19, _⟩ => ⟨S128x512, .f32⟩
  | .local _ .vmem, ⟨20, _⟩ => ⟨S128x512, .f32⟩
  | .local _ .vmem, ⟨21, _⟩ => ⟨S64x512, .f32⟩
  | .local _ .vmem, ⟨22, _⟩ => ⟨S64x512, .f32⟩
  | .local _ .smem, ⟨0, _⟩ => ⟨S8x32, .i32⟩
  | .local _ .smem, ⟨1, _⟩ => ⟨S8x32, .i32⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_9 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_10 : Ref sig .tc := ⟨.hbm, 99, rfl⟩
abbrev main_v77 : Ref sig .tc := ⟨.hbm, 100, rfl⟩
abbrev main_v78 : Ref sig .tc := ⟨.hbm, 101, rfl⟩
abbrev main_c_11 : Ref sig .tc := ⟨.hbm, 102, rfl⟩
abbrev main_v79 : Ref sig .tc := ⟨.hbm, 103, rfl⟩
abbrev main_v80 : Ref sig .tc := ⟨.hbm, 104, rfl⟩
abbrev main_c_12 : Ref sig .tc := ⟨.hbm, 105, rfl⟩
abbrev main_v81 : Ref sig .tc := ⟨.hbm, 106, rfl⟩
abbrev main_v82 : Ref sig .tc := ⟨.hbm, 107, rfl⟩
abbrev main_c_13 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_14 : Ref sig .tc := ⟨.hbm, 114, rfl⟩
abbrev main_call3_v0 : Ref sig .tc := ⟨.hbm, 115, rfl⟩
abbrev main_v88 : Ref sig .tc := ⟨.hbm, 116, rfl⟩
abbrev main_v89 : Ref sig .tc := ⟨.hbm, 117, rfl⟩
abbrev main_c_15 : Ref sig .tc := ⟨.hbm, 118, rfl⟩
abbrev main_call4_v0 : Ref sig .tc := ⟨.hbm, 119, rfl⟩
abbrev main_v90 : Ref sig .tc := ⟨.hbm, 120, rfl⟩
abbrev main_v91_0 : Ref sig .tc := ⟨.hbm, 121, rfl⟩
abbrev main_v91_1 : Ref sig .tc := ⟨.hbm, 122, rfl⟩
abbrev main_v91_2 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_16 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  v26
def k0_mult2 (i : grid0.Coords) : BitVec 32 :=
  let arg1 : BitVec 32 := BitVec.ofNat 32 (i 1).val
  let c512_i32 : BitVec 32 := 512#32
  let v30 : BitVec 32 := Scalar.muli arg1 c512_i32
  v30
def k0_off1 (i : grid0.Coords) : Fin 2 → Nat :=
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  let c0_12 : Index := 0#32
  ![v32.toNat, 0]
def k0_off2 (i : grid0.Coords) : Fin 3 → Nat :=
  let c0_14 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : Index := Scalar.indexCast v9
  let arg1 : BitVec 32 := BitVec.ofNat 32 (i 1).val
  let c512_i32 : BitVec 32 := 512#32
  let v30 : BitVec 32 := Scalar.muli arg1 c512_i32
  let v31 : BitVec 32 := v30
  let v37 : Index := Scalar.indexCast v31
  ![0, v36.toNat, v37.toNat]
def k0_off3 (i : grid0.Coords) : Fin 2 → Nat :=
  let c0_19 : Index := 0#32
  let arg1 : BitVec 32 := BitVec.ofNat 32 (i 1).val
  let c512_i32 : BitVec 32 := 512#32
  let v30 : BitVec 32 := Scalar.muli arg1 c512_i32
  let v31 : BitVec 32 := v30
  let v60 : Index := Scalar.indexCast v31
  ![0, v60.toNat]
def k0_off4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v72 : Index := Scalar.indexCast v27
  let arg1 : BitVec 32 := BitVec.ofNat 32 (i 1).val
  let c512_i32 : BitVec 32 := 512#32
  let v30 : BitVec 32 := Scalar.muli arg1 c512_i32
  let v31 : BitVec 32 := v30
  let v73 : Index := Scalar.indexCast v31
  ![v72.toNat, v73.toNat]
def k0_off5 (i : grid0.Coords) : Fin 2 → Nat :=
  let arg0 : BitVec 32 := BitVec.ofNat 32 (i 0).val
  let v98 : Index := Scalar.indexCast arg0
  let arg1 : BitVec 32 := BitVec.ofNat 32 (i 1).val
  let v99 : Index := Scalar.indexCast arg1
  ![v98.toNat, v99.toNat]
@[reducible] def k0_t1_loop (i : grid0.Coords) (v100 : BitVec 32) : Scf.Loop 32 :=
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_35 : BitVec 32 := 1#32
  ⟨v97, v105, c1_i32_35⟩

def k0_mult3 (i : grid0.Coords) (v100 : BitVec 32) (k0_t1 : Fin (k0_t1_loop i v100).trips) : BitVec 32 :=
  let arg1 : BitVec 32 := BitVec.ofNat 32 (i 1).val
  let c1_i32_33 : BitVec 32 := 1#32
  let v97 : BitVec 32 := Scalar.addi arg1 c1_i32_33
  let c1_i32_35 : BitVec 32 := 1#32
  let arg16 : BitVec 32 := Scf.iv v97 c1_i32_35 k0_t1
  let c512_i32_63 : BitVec 32 := 512#32
  let v155 : BitVec 32 := Scalar.muli arg16 c512_i32_63
  v155
def k0_off6 (i : grid0.Coords) (v100 : BitVec 32) (k0_t1 : Fin (k0_t1_loop i v100).trips) : Fin 2 → Nat :=
  let arg1 : BitVec 32 := BitVec.ofNat 32 (i 1).val
  let c1_i32_33 : BitVec 32 := 1#32
  let v97 : BitVec 32 := Scalar.addi arg1 c1_i32_33
  let c1_i32_35 : BitVec 32 := 1#32
  let arg16 : BitVec 32 := Scf.iv v97 c1_i32_35 k0_t1
  let c512_i32_63 : BitVec 32 := 512#32
  let v155 : BitVec 32 := Scalar.muli arg16 c512_i32_63
  let v156 : BitVec 32 := v155
  let v157 : Index := Scalar.indexCast v156
  let c0_64 : Index := 0#32
  ![v157.toNat, 0]
def k0_off7 (i : grid0.Coords) (v100 : BitVec 32) (k0_t1 : Fin (k0_t1_loop i v100).trips) : Fin 3 → Nat :=
  let c0_66 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v161 : Index := Scalar.indexCast v9
  let arg1 : BitVec 32 := BitVec.ofNat 32 (i 1).val
  let c1_i32_33 : BitVec 32 := 1#32
  let v97 : BitVec 32 := Scalar.addi arg1 c1_i32_33
  let c1_i32_35 : BitVec 32 := 1#32
  let arg16 : BitVec 32 := Scf.iv v97 c1_i32_35 k0_t1
  let c512_i32_63 : BitVec 32 := 512#32
  let v155 : BitVec 32 := Scalar.muli arg16 c512_i32_63
  let v156 : BitVec 32 := v155
  let v162 : Index := Scalar.indexCast v156
  ![0, v161.toNat, v162.toNat]
def k0_off8 (i : grid0.Coords) (v100 : BitVec 32) (k0_t1 : Fin (k0_t1_loop i v100).trips) : Fin 2 → Nat :=
  let c0_70 : Index := 0#32
  let arg1 : BitVec 32 := BitVec.ofNat 32 (i 1).val
  let c1_i32_33 : BitVec 32 := 1#32
  let v97 : BitVec 32 := Scalar.addi arg1 c1_i32_33
  let c1_i32_35 : BitVec 32 := 1#32
  let arg16 : BitVec 32 := Scf.iv v97 c1_i32_35 k0_t1
  let c512_i32_63 : BitVec 32 := 512#32
  let v155 : BitVec 32 := Scalar.muli arg16 c512_i32_63
  let v156 : BitVec 32 := v155
  let v180 : Index := Scalar.indexCast v156
  ![0, v180.toNat]
def k0_off9 (i : grid0.Coords) (v100 : BitVec 32) (k0_t1 : Fin (k0_t1_loop i v100).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v192 : Index := Scalar.indexCast v27
  let arg1 : BitVec 32 := BitVec.ofNat 32 (i 1).val
  let c1_i32_33 : BitVec 32 := 1#32
  let v97 : BitVec 32 := Scalar.addi arg1 c1_i32_33
  let c1_i32_35 : BitVec 32 := 1#32
  let arg16 : BitVec 32 := Scf.iv v97 c1_i32_35 k0_t1
  let c512_i32_63 : BitVec 32 := 512#32
  let v155 : BitVec 32 := Scalar.muli arg16 c512_i32_63
  let v156 : BitVec 32 := v155
  let v193 : Index := Scalar.indexCast v156
  ![v192.toNat, v193.toNat]
@[reducible] def k0_t2_loop (i : grid0.Coords) (v100 : BitVec 32) : Scf.Loop 32 :=
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let v102 : BitVec 32 := Scalar.addi v97 v101
  let c1_i32_36 : BitVec 32 := 1#32
  ⟨v105, v102, c1_i32_36⟩
def k0_mult4 (i : grid0.Coords) (v100 : BitVec 32) (k0_t2 : Fin (k0_t2_loop i v100).trips) : BitVec 32 :=
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_36 : BitVec 32 := 1#32
  let arg16 : BitVec 32 := Scf.iv v105 c1_i32_36 k0_t2
  let c512_i32_63 : BitVec 32 := 512#32
  let v155 : BitVec 32 := Scalar.muli arg16 c512_i32_63
  v155
def k0_off10 (i : grid0.Coords) (v100 : BitVec 32) (k0_t2 : Fin (k0_t2_loop i v100).trips) : Fin 2 → Nat :=
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_36 : BitVec 32 := 1#32
  let arg16 : BitVec 32 := Scf.iv v105 c1_i32_36 k0_t2
  let c512_i32_63 : BitVec 32 := 512#32
  let v155 : BitVec 32 := Scalar.muli arg16 c512_i32_63
  let v156 : BitVec 32 := v155
  let v157 : Index := Scalar.indexCast v156
  let c0_64 : Index := 0#32
  ![v157.toNat, 0]
def k0_off11 (i : grid0.Coords) (v100 : BitVec 32) (k0_t2 : Fin (k0_t2_loop i v100).trips) : Fin 3 → Nat :=
  let c0_66 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v161 : Index := Scalar.indexCast v9
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_36 : BitVec 32 := 1#32
  let arg16 : BitVec 32 := Scf.iv v105 c1_i32_36 k0_t2
  let c512_i32_63 : BitVec 32 := 512#32
  let v155 : BitVec 32 := Scalar.muli arg16 c512_i32_63
  let v156 : BitVec 32 := v155
  let v162 : Index := Scalar.indexCast v156
  ![0, v161.toNat, v162.toNat]
def k0_off12 (i : grid0.Coords) (v100 : BitVec 32) (k0_t2 : Fin (k0_t2_loop i v100).trips) : Fin 2 → Nat :=
  let c0_70 : Index := 0#32
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_36 : BitVec 32 := 1#32
  let arg16 : BitVec 32 := Scf.iv v105 c1_i32_36 k0_t2
  let c512_i32_63 : BitVec 32 := 512#32
  let v155 : BitVec 32 := Scalar.muli arg16 c512_i32_63
  let v156 : BitVec 32 := v155
  let v180 : Index := Scalar.indexCast v156
  ![0, v180.toNat]
def k0_off13 (i : grid0.Coords) (v100 : BitVec 32) (k0_t2 : Fin (k0_t2_loop i v100).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v192 : Index := Scalar.indexCast v27
  let arg1 : BitVec 32 := BitVec.ofNat 32 (i 1).val
  let c1_i32_33 : BitVec 32 := 1#32
  let v97 : BitVec 32 := Scalar.addi arg1 c1_i32_33
  let v101 : BitVec 32 := Scalar.subi v100 v97
  let c1_i32_34 : BitVec 32 := 1#32
  let v103 : BitVec 32 := Scalar.divsi v101 c1_i32_34
  let v104 : BitVec 32 := Scalar.muli v103 c1_i32_34
  let v105 : BitVec 32 := Scalar.addi v97 v104
  let c1_i32_36 : BitVec 32 := 1#32
  let arg16 : BitVec 32 := Scf.iv v105 c1_i32_36 k0_t2
  let c512_i32_63 : BitVec 32 := 512#32
  let v155 : BitVec 32 := Scalar.muli arg16 c512_i32_63
  let v156 : BitVec 32 := v155
  let v193 : Index := Scalar.indexCast v156
  ![v192.toNat, v193.toNat]

def k0_chk1 (i : grid0.Coords) (v100 : BitVec 32) : Prop :=
  ((k0_t1_loop i v100).OK) ∧
  (∀ k0_t1 : Fin (k0_t1_loop i v100).trips, 512 ∣ (k0_mult3 i v100 k0_t1).toNat) ∧
  (∀ k0_t1 : Fin (k0_t1_loop i v100).trips, ∀ a, (k0_off6 i v100 k0_t1) a + S512x128.size a ≤ S16384x128.size a) ∧
  (∀ k0_t1 : Fin (k0_t1_loop i v100).trips, ∀ a, (k0_off7 i v100 k0_t1) a + S1x1x512.size a ≤ S1x8x16384.size a) ∧
  (∀ k0_t1 : Fin (k0_t1_loop i v100).trips, ∀ a, (k0_off8 i v100 k0_t1) a + S80x512.size a ≤ S128x16384.size a) ∧
  (∀ k0_t1 : Fin (k0_t1_loop i v100).trips, ∀ a, (k0_off9 i v100 k0_t1) a + S64x512.size a ≤ S128x16384.size a) ∧
  ((k0_t2_loop i v100).OK) ∧
  (∀ k0_t2 : Fin (k0_t2_loop i v100).trips, 512 ∣ (k0_mult4 i v100 k0_t2).toNat) ∧
  (∀ k0_t2 : Fin (k0_t2_loop i v100).trips, ∀ a, (k0_off10 i v100 k0_t2) a + S512x128.size a ≤ S16384x128.size a) ∧
  (∀ k0_t2 : Fin (k0_t2_loop i v100).trips, ∀ a, (k0_off11 i v100 k0_t2) a + S1x1x512.size a ≤ S1x8x16384.size a) ∧
  (∀ k0_t2 : Fin (k0_t2_loop i v100).trips, ∀ a, (k0_off12 i v100 k0_t2) a + S80x512.size a ≤ S128x16384.size a) ∧
  (∀ k0_t2 : Fin (k0_t2_loop i v100).trips, ∀ a, (k0_off13 i v100 k0_t2) a + S64x512.size a ≤ S128x16384.size a)
theorem k0_t1_ok : ∀ (i : grid0.Coords) (v100 : BitVec 32) (k0_hw1 : k0_chk1 i v100), (k0_t1_loop i v100).OK := fun i v100 k0_hw1 => k0_hw1.1
theorem k0_mult3_dvd : ∀ (i : grid0.Coords) (v100 : BitVec 32) (k0_hw1 : k0_chk1 i v100) (k0_t1 : Fin (k0_t1_loop i v100).trips), 512 ∣ (k0_mult3 i v100 k0_t1).toNat := fun i v100 k0_hw1 k0_t1 => k0_hw1.2.1 k0_t1
theorem k0_off6_inb : ∀ (i : grid0.Coords) (v100 : BitVec 32) (k0_hw1 : k0_chk1 i v100) (k0_t1 : Fin (k0_t1_loop i v100).trips), ∀ a, (k0_off6 i v100 k0_t1) a + S512x128.size a ≤ S16384x128.size a := fun i v100 k0_hw1 k0_t1 => k0_hw1.2.2.1 k0_t1
theorem k0_off7_inb : ∀ (i : grid0.Coords) (v100 : BitVec 32) (k0_hw1 : k0_chk1 i v100) (k0_t1 : Fin (k0_t1_loop i v100).trips), ∀ a, (k0_off7 i v100 k0_t1) a + S1x1x512.size a ≤ S1x8x16384.size a := fun i v100 k0_hw1 k0_t1 => k0_hw1.2.2.2.1 k0_t1
theorem k0_off8_inb : ∀ (i : grid0.Coords) (v100 : BitVec 32) (k0_hw1 : k0_chk1 i v100) (k0_t1 : Fin (k0_t1_loop i v100).trips), ∀ a, (k0_off8 i v100 k0_t1) a + S80x512.size a ≤ S128x16384.size a := fun i v100 k0_hw1 k0_t1 => k0_hw1.2.2.2.2.1 k0_t1
theorem k0_off9_inb : ∀ (i : grid0.Coords) (v100 : BitVec 32) (k0_hw1 : k0_chk1 i v100) (k0_t1 : Fin (k0_t1_loop i v100).trips), ∀ a, (k0_off9 i v100 k0_t1) a + S64x512.size a ≤ S128x16384.size a := fun i v100 k0_hw1 k0_t1 => k0_hw1.2.2.2.2.2.1 k0_t1
theorem k0_t2_ok : ∀ (i : grid0.Coords) (v100 : BitVec 32) (k0_hw1 : k0_chk1 i v100), (k0_t2_loop i v100).OK := fun i v100 k0_hw1 => k0_hw1.2.2.2.2.2.2.1
theorem k0_mult4_dvd : ∀ (i : grid0.Coords) (v100 : BitVec 32) (k0_hw1 : k0_chk1 i v100) (k0_t2 : Fin (k0_t2_loop i v100).trips), 512 ∣ (k0_mult4 i v100 k0_t2).toNat := fun i v100 k0_hw1 k0_t2 => k0_hw1.2.2.2.2.2.2.2.1 k0_t2
theorem k0_off10_inb : ∀ (i : grid0.Coords) (v100 : BitVec 32) (k0_hw1 : k0_chk1 i v100) (k0_t2 : Fin (k0_t2_loop i v100).trips), ∀ a, (k0_off10 i v100 k0_t2) a + S512x128.size a ≤ S16384x128.size a := fun i v100 k0_hw1 k0_t2 => k0_hw1.2.2.2.2.2.2.2.2.1 k0_t2
theorem k0_off11_inb : ∀ (i : grid0.Coords) (v100 : BitVec 32) (k0_hw1 : k0_chk1 i v100) (k0_t2 : Fin (k0_t2_loop i v100).trips), ∀ a, (k0_off11 i v100 k0_t2) a + S1x1x512.size a ≤ S1x8x16384.size a := fun i v100 k0_hw1 k0_t2 => k0_hw1.2.2.2.2.2.2.2.2.2.1 k0_t2
theorem k0_off12_inb : ∀ (i : grid0.Coords) (v100 : BitVec 32) (k0_hw1 : k0_chk1 i v100) (k0_t2 : Fin (k0_t2_loop i v100).trips), ∀ a, (k0_off12 i v100 k0_t2) a + S80x512.size a ≤ S128x16384.size a := fun i v100 k0_hw1 k0_t2 => k0_hw1.2.2.2.2.2.2.2.2.2.2.1 k0_t2
theorem k0_off13_inb : ∀ (i : grid0.Coords) (v100 : BitVec 32) (k0_hw1 : k0_chk1 i v100) (k0_t2 : Fin (k0_t2_loop i v100).trips), ∀ a, (k0_off13 i v100 k0_t2) a + S64x512.size a ≤ S128x16384.size a := fun i v100 k0_hw1 k0_t2 => k0_hw1.2.2.2.2.2.2.2.2.2.2.2 k0_t2

def k0_off14 (i : grid0.Coords) : Fin 2 → Nat :=
  let arg0 : BitVec 32 := BitVec.ofNat 32 (i 0).val
  let v108 : Index := Scalar.indexCast arg0
  let arg1 : BitVec 32 := BitVec.ofNat 32 (i 1).val
  let v109 : Index := Scalar.indexCast arg1
  ![v108.toNat, v109.toNat]
@[reducible] def k0_t3_loop (i : grid0.Coords) (v110 : BitVec 32) : Scf.Loop 32 :=
  let c0_i32_45 : BitVec 32 := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_47 : BitVec 32 := 1#32
  ⟨c0_i32_45, v134, c1_i32_47⟩

def k0_mult5 (i : grid0.Coords) (v110 : BitVec 32) (k0_t3 : Fin (k0_t3_loop i v110).trips) : BitVec 32 :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let c1_i32_47 : BitVec 32 := 1#32
  let arg16 : BitVec 32 := Scf.iv c0_i32_45 c1_i32_47 k0_t3
  let v158 : BitVec 32 := Scalar.muli c2_i32_65 arg16
  let v159 : BitVec 32 := Scalar.addi v96 v158
  let c1024_i32 : BitVec 32 := 1024#32
  let v160 : BitVec 32 := Scalar.muli v159 c1024_i32
  v160
def k0_off15 (i : grid0.Coords) (v110 : BitVec 32) (k0_t3 : Fin (k0_t3_loop i v110).trips) : Fin 2 → Nat :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let c1_i32_47 : BitVec 32 := 1#32
  let arg16 : BitVec 32 := Scf.iv c0_i32_45 c1_i32_47 k0_t3
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v162 : Index := Scalar.indexCast v161
  let c0_66 : Index := 0#32
  ![v162.toNat, 0]
def k0_off16 (i : grid0.Coords) (v110 : BitVec 32) (k0_t3 : Fin (k0_t3_loop i v110).trips) : Fin 3 → Nat :=
  let c0_68 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v166 : Index := Scalar.indexCast v9
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let c1_i32_47 : BitVec 32 := 1#32
  let arg16 : BitVec 32 := Scf.iv c0_i32_45 c1_i32_47 k0_t3
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v167 : Index := Scalar.indexCast v161
  ![0, v166.toNat, v167.toNat]
def k0_off17 (i : grid0.Coords) (v110 : BitVec 32) (k0_t3 : Fin (k0_t3_loop i v110).trips) : Fin 2 → Nat :=
  let c0_72 : Index := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let c1_i32_47 : BitVec 32 := 1#32
  let arg16 : BitVec 32 := Scf.iv c0_i32_45 c1_i32_47 k0_t3
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v185 : Index := Scalar.indexCast v161
  ![0, v185.toNat]
def k0_off18 (i : grid0.Coords) (v110 : BitVec 32) (k0_t3 : Fin (k0_t3_loop i v110).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v197 : Index := Scalar.indexCast v27
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let c1_i32_47 : BitVec 32 := 1#32
  let arg16 : BitVec 32 := Scf.iv c0_i32_45 c1_i32_47 k0_t3
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v198 : Index := Scalar.indexCast v161
  ![v197.toNat, v198.toNat]
def k0_mult6 (i : grid0.Coords) (v110 : BitVec 32) (k0_t3 : Fin (k0_t3_loop i v110).trips) : BitVec 32 :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let c1_i32_47 : BitVec 32 := 1#32
  let arg16 : BitVec 32 := Scf.iv c0_i32_45 c1_i32_47 k0_t3
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  v204
def k0_off19 (i : grid0.Coords) (v110 : BitVec 32) (k0_t3 : Fin (k0_t3_loop i v110).trips) : Fin 2 → Nat :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let c1_i32_47 : BitVec 32 := 1#32
  let arg16 : BitVec 32 := Scf.iv c0_i32_45 c1_i32_47 k0_t3
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v206 : Index := Scalar.indexCast v205
  let c0_79 : Index := 0#32
  ![v206.toNat, 0]
def k0_off20 (i : grid0.Coords) (v110 : BitVec 32) (k0_t3 : Fin (k0_t3_loop i v110).trips) : Fin 3 → Nat :=
  let c0_81 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v210 : Index := Scalar.indexCast v9
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let c1_i32_47 : BitVec 32 := 1#32
  let arg16 : BitVec 32 := Scf.iv c0_i32_45 c1_i32_47 k0_t3
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v211 : Index := Scalar.indexCast v205
  ![0, v210.toNat, v211.toNat]
def k0_off21 (i : grid0.Coords) (v110 : BitVec 32) (k0_t3 : Fin (k0_t3_loop i v110).trips) : Fin 2 → Nat :=
  let c0_85 : Index := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let c1_i32_47 : BitVec 32 := 1#32
  let arg16 : BitVec 32 := Scf.iv c0_i32_45 c1_i32_47 k0_t3
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v229 : Index := Scalar.indexCast v205
  ![0, v229.toNat]
def k0_off22 (i : grid0.Coords) (v110 : BitVec 32) (k0_t3 : Fin (k0_t3_loop i v110).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v241 : Index := Scalar.indexCast v27
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let c1_i32_47 : BitVec 32 := 1#32
  let arg16 : BitVec 32 := Scf.iv c0_i32_45 c1_i32_47 k0_t3
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v242 : Index := Scalar.indexCast v205
  ![v241.toNat, v242.toNat]
@[reducible] def k0_t4_loop (i : grid0.Coords) (v110 : BitVec 32) : Scf.Loop 32 :=
  let c0_i32_45 : BitVec 32 := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let v131 : BitVec 32 := Scalar.addi c0_i32_45 v130
  let c1_i32_48 : BitVec 32 := 1#32
  ⟨v134, v131, c1_i32_48⟩
def k0_mult7 (i : grid0.Coords) (v110 : BitVec 32) (k0_t4 : Fin (k0_t4_loop i v110).trips) : BitVec 32 :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v158 : BitVec 32 := Scalar.muli c2_i32_65 arg16
  let v159 : BitVec 32 := Scalar.addi v96 v158
  let c1024_i32 : BitVec 32 := 1024#32
  let v160 : BitVec 32 := Scalar.muli v159 c1024_i32
  v160
def k0_off23 (i : grid0.Coords) (v110 : BitVec 32) (k0_t4 : Fin (k0_t4_loop i v110).trips) : Fin 2 → Nat :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v162 : Index := Scalar.indexCast v161
  let c0_66 : Index := 0#32
  ![v162.toNat, 0]
def k0_off24 (i : grid0.Coords) (v110 : BitVec 32) (k0_t4 : Fin (k0_t4_loop i v110).trips) : Fin 3 → Nat :=
  let c0_68 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v166 : Index := Scalar.indexCast v9
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v167 : Index := Scalar.indexCast v161
  ![0, v166.toNat, v167.toNat]
def k0_off25 (i : grid0.Coords) (v110 : BitVec 32) (k0_t4 : Fin (k0_t4_loop i v110).trips) : Fin 2 → Nat :=
  let c0_72 : Index := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v185 : Index := Scalar.indexCast v161
  ![0, v185.toNat]
def k0_off26 (i : grid0.Coords) (v110 : BitVec 32) (k0_t4 : Fin (k0_t4_loop i v110).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v197 : Index := Scalar.indexCast v27
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_65 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v158 : BitVec 32 := Scalar.muli c2_i32_65 arg16
  let v159 : BitVec 32 := Scalar.addi v96 v158
  let c1024_i32 : BitVec 32 := 1024#32
  let v160 : BitVec 32 := Scalar.muli v159 c1024_i32
  let v161 : BitVec 32 := v160
  let v198 : Index := Scalar.indexCast v161
  ![v197.toNat, v198.toNat]
def k0_mult8 (i : grid0.Coords) (v110 : BitVec 32) (k0_t4 : Fin (k0_t4_loop i v110).trips) : BitVec 32 :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  v204
def k0_off27 (i : grid0.Coords) (v110 : BitVec 32) (k0_t4 : Fin (k0_t4_loop i v110).trips) : Fin 2 → Nat :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v206 : Index := Scalar.indexCast v205
  let c0_79 : Index := 0#32
  ![v206.toNat, 0]
def k0_off28 (i : grid0.Coords) (v110 : BitVec 32) (k0_t4 : Fin (k0_t4_loop i v110).trips) : Fin 3 → Nat :=
  let c0_81 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v210 : Index := Scalar.indexCast v9
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v211 : Index := Scalar.indexCast v205
  ![0, v210.toNat, v211.toNat]
def k0_off29 (i : grid0.Coords) (v110 : BitVec 32) (k0_t4 : Fin (k0_t4_loop i v110).trips) : Fin 2 → Nat :=
  let c0_85 : Index := 0#32
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v229 : Index := Scalar.indexCast v205
  ![0, v229.toNat]
def k0_off30 (i : grid0.Coords) (v110 : BitVec 32) (k0_t4 : Fin (k0_t4_loop i v110).trips) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v241 : Index := Scalar.indexCast v27
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let c2_i32_63 : BitVec 32 := 2#32
  let c0_i32_45 : BitVec 32 := 0#32
  let v111 : BitVec 32 := Scalar.subi v110 v96
  let c0_i32_37 : BitVec 32 := 0#32
  let v112 : BitVec 32 := Scalar.maxsi v111 c0_i32_37
  let c0_i32_39 : BitVec 32 := 0#32
  let v114 : BitVec 1 := Scalar.cmpi .sgt v112 c0_i32_39
  let v115 : BitVec 32 := Scalar.extui v114
  let c0_i32_40 : BitVec 32 := 0#32
  let v116 : BitVec 1 := Scalar.cmpi .slt v112 c0_i32_40
  let v117 : BitVec 32 := Scalar.extui v116
  let v118 : BitVec 32 := Scalar.subi v115 v117
  let c2_i32_38 : BitVec 32 := 2#32
  let c0_i32_41 : BitVec 32 := 0#32
  let v119 : BitVec 1 := Scalar.cmpi .sgt c2_i32_38 c0_i32_41
  let v120 : BitVec 32 := Scalar.extui v119
  let c0_i32_42 : BitVec 32 := 0#32
  let v121 : BitVec 1 := Scalar.cmpi .slt c2_i32_38 c0_i32_42
  let v122 : BitVec 32 := Scalar.extui v121
  let v123 : BitVec 32 := Scalar.subi v120 v122
  let v124 : BitVec 1 := Scalar.cmpi .ne v118 v123
  let v125 : BitVec 32 := Scalar.remsi v112 c2_i32_38
  let c0_i32_43 : BitVec 32 := 0#32
  let v126 : BitVec 1 := Scalar.cmpi .ne v125 c0_i32_43
  let v127 : BitVec 1 := Scalar.andi v124 v126
  let v113 : BitVec 32 := Scalar.divsi v112 c2_i32_38
  let c1_i32_44 : BitVec 32 := 1#32
  let v128 : BitVec 32 := Scalar.subi v113 c1_i32_44
  let v129 : BitVec 32 := Scalar.select v127 v128 v113
  let v130 : BitVec 32 := Scalar.subi v129 c0_i32_45
  let c1_i32_46 : BitVec 32 := 1#32
  let v132 : BitVec 32 := Scalar.divsi v130 c1_i32_46
  let v133 : BitVec 32 := Scalar.muli v132 c1_i32_46
  let v134 : BitVec 32 := Scalar.addi c0_i32_45 v133
  let c1_i32_48 : BitVec 32 := 1#32
  let arg16 : BitVec 32 := Scf.iv v134 c1_i32_48 k0_t4
  let v155 : BitVec 32 := Scalar.muli c2_i32_63 arg16
  let v156 : BitVec 32 := Scalar.addi v96 v155
  let c1_i32_64 : BitVec 32 := 1#32
  let v157 : BitVec 32 := Scalar.addi v156 c1_i32_64
  let c1024_i32_78 : BitVec 32 := 1024#32
  let v204 : BitVec 32 := Scalar.muli v157 c1024_i32_78
  let v205 : BitVec 32 := v204
  let v242 : Index := Scalar.indexCast v205
  ![v241.toNat, v242.toNat]
def k0_mult9 (v110 : BitVec 32) : BitVec 32 :=
  let c1_i32_63 : BitVec 32 := 1#32
  let v155 : BitVec 32 := Scalar.subi v110 c1_i32_63
  let c1024_i32 : BitVec 32 := 1024#32
  let v156 : BitVec 32 := Scalar.muli v155 c1024_i32
  v156
def k0_cond2 (i : grid0.Coords) (v110 : BitVec 32) : BitVec 1 :=
  let arg1 : BitVec 32 := BitVec.ofNat 32 (i 1).val
  let c0_i32_26 : BitVec 32 := 0#32
  let v80 : BitVec 1 := Scalar.cmpi .sgt arg1 c0_i32_26
  let v81 : BitVec 32 := Scalar.extui v80
  let c0_i32_27 : BitVec 32 := 0#32
  let v82 : BitVec 1 := Scalar.cmpi .slt arg1 c0_i32_27
  let v83 : BitVec 32 := Scalar.extui v82
  let v84 : BitVec 32 := Scalar.subi v81 v83
  let c2_i32_25 : BitVec 32 := 2#32
  let c0_i32_28 : BitVec 32 := 0#32
  let v85 : BitVec 1 := Scalar.cmpi .sgt c2_i32_25 c0_i32_28
  let v86 : BitVec 32 := Scalar.extui v85
  let c0_i32_29 : BitVec 32 := 0#32
  let v87 : BitVec 1 := Scalar.cmpi .slt c2_i32_25 c0_i32_29
  let v88 : BitVec 32 := Scalar.extui v87
  let v89 : BitVec 32 := Scalar.subi v86 v88
  let v90 : BitVec 1 := Scalar.cmpi .ne v84 v89
  let v91 : BitVec 32 := Scalar.remsi arg1 c2_i32_25
  let c0_i32_30 : BitVec 32 := 0#32
  let v92 : BitVec 1 := Scalar.cmpi .ne v91 c0_i32_30
  let v93 : BitVec 1 := Scalar.andi v90 v92
  let v79 : BitVec 32 := Scalar.divsi arg1 c2_i32_25
  let c1_i32_31 : BitVec 32 := 1#32
  let v94 : BitVec 32 := Scalar.subi v79 c1_i32_31
  let v95 : BitVec 32 := Scalar.select v93 v94 v79
  let c1_i32_32 : BitVec 32 := 1#32
  let v96 : BitVec 32 := Scalar.addi v95 c1_i32_32
  let v111 : BitVec 32 := Scalar.subi v110 v96
  let c0_i32_37 : BitVec 32 := 0#32
  let v112 : BitVec 32 := Scalar.maxsi v111 c0_i32_37
  let c2_i32_49 : BitVec 32 := 2#32
  let c0_i32_50 : BitVec 32 := 0#32
  let v137 : BitVec 1 := Scalar.cmpi .eq c2_i32_49 c0_i32_50
  let c1_i32_51 : BitVec 32 := 1#32
  let v138 : BitVec 32 := Scalar.select v137 c1_i32_51 c2_i32_49
  let v139 : BitVec 32 := Scalar.remsi v112 v138
  let c0_i32_53 : BitVec 32 := 0#32
  let v141 : BitVec 1 := Scalar.cmpi .slt v139 c0_i32_53
  let c0_i32_54 : BitVec 32 := 0#32
  let v142 : BitVec 1 := Scalar.cmpi .slt v138 c0_i32_54
  let v143 : BitVec 1 := Scalar.xori v141 v142
  let c0_i32_52 : BitVec 32 := 0#32
  let v140 : BitVec 1 := Scalar.cmpi .ne v139 c0_i32_52
  let v144 : BitVec 1 := Scalar.andi v143 v140
  let v145 : BitVec 32 := Scalar.addi v139 v138
  let v146 : BitVec 32 := Scalar.select v144 v145 v139
  let c1_i32_55 : BitVec 32 := 1#32
  let v147 : BitVec 1 := Scalar.cmpi .eq v146 c1_i32_55
  let v148 : BitVec 32 := Scalar.extui v147
  let c0_i32_56 : BitVec 32 := 0#32
  let v149 : BitVec 1 := Scalar.cmpi .ne v148 c0_i32_56
  v149

def k0_off31 (v110 : BitVec 32) : Fin 2 → Nat :=
  let c1_i32_63 : BitVec 32 := 1#32
  let v155 : BitVec 32 := Scalar.subi v110 c1_i32_63
  let c1024_i32 : BitVec 32 := 1024#32
  let v156 : BitVec 32 := Scalar.muli v155 c1024_i32
  let v157 : BitVec 32 := v156
  let v158 : Index := Scalar.indexCast v157
  let c0_64 : Index := 0#32
  ![v158.toNat, 0]
def k0_off32 (i : grid0.Coords) (v110 : BitVec 32) : Fin 3 → Nat :=
  let c0_66 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v162 : Index := Scalar.indexCast v9
  let c1_i32_63 : BitVec 32 := 1#32
  let v155 : BitVec 32 := Scalar.subi v110 c1_i32_63
  let c1024_i32 : BitVec 32 := 1024#32
  let v156 : BitVec 32 := Scalar.muli v155 c1024_i32
  let v157 : BitVec 32 := v156
  let v163 : Index := Scalar.indexCast v157
  ![0, v162.toNat, v163.toNat]
def k0_off33 (v110 : BitVec 32) : Fin 2 → Nat :=
  let c0_70 : Index := 0#32
  let c1_i32_63 : BitVec 32 := 1#32
  let v155 : BitVec 32 := Scalar.subi v110 c1_i32_63
  let c1024_i32 : BitVec 32 := 1024#32
  let v156 : BitVec 32 := Scalar.muli v155 c1024_i32
  let v157 : BitVec 32 := v156
  let v181 : Index := Scalar.indexCast v157
  ![0, v181.toNat]
def k0_off34 (i : grid0.Coords) (v110 : BitVec 32) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c64_i32 : BitVec 32 := 64#32
  let v26 : BitVec 32 := Scalar.muli v9 c64_i32
  let v27 : BitVec 32 := v26
  let v193 : Index := Scalar.indexCast v27
  let c1_i32_63 : BitVec 32 := 1#32
  let v155 : BitVec 32 := Scalar.subi v110 c1_i32_63
  let c1024_i32 : BitVec 32 := 1024#32
  let v156 : BitVec 32 := Scalar.muli v155 c1024_i32
  let v157 : BitVec 32 := v156
  let v194 : Index := Scalar.indexCast v157
  ![v193.toNat, v194.toNat]

def k0_chk2 (i : grid0.Coords) (v110 : BitVec 32) : Prop :=
  ((k0_t3_loop i v110).OK) ∧
  (∀ k0_t3 : Fin (k0_t3_loop i v110).trips, 1024 ∣ (k0_mult5 i v110 k0_t3).toNat) ∧
  (∀ k0_t3 : Fin (k0_t3_loop i v110).trips, ∀ a, (k0_off15 i v110 k0_t3) a + S1024x128.size a ≤ S16384x128.size a) ∧
  (∀ k0_t3 : Fin (k0_t3_loop i v110).trips, ∀ a, (k0_off16 i v110 k0_t3) a + S1x1x1024.size a ≤ S1x8x16384.size a) ∧
  (∀ k0_t3 : Fin (k0_t3_loop i v110).trips, ∀ a, (k0_off17 i v110 k0_t3) a + S80x1024.size a ≤ S128x16384.size a) ∧
  (∀ k0_t3 : Fin (k0_t3_loop i v110).trips, ∀ a, (k0_off18 i v110 k0_t3) a + S64x1024.size a ≤ S128x16384.size a) ∧
  (∀ k0_t3 : Fin (k0_t3_loop i v110).trips, 1024 ∣ (k0_mult6 i v110 k0_t3).toNat) ∧
  (∀ k0_t3 : Fin (k0_t3_loop i v110).trips, ∀ a, (k0_off19 i v110 k0_t3) a + S1024x128.size a ≤ S16384x128.size a) ∧
  (∀ k0_t3 : Fin (k0_t3_loop i v110).trips, ∀ a, (k0_off20 i v110 k0_t3) a + S1x1x1024.size a ≤ S1x8x16384.size a) ∧
  (∀ k0_t3 : Fin (k0_t3_loop i v110).trips, ∀ a, (k0_off21 i v110 k0_t3) a + S80x1024.size a ≤ S128x16384.size a) ∧
  (∀ k0_t3 : Fin (k0_t3_loop i v110).trips, ∀ a, (k0_off22 i v110 k0_t3) a + S64x1024.size a ≤ S128x16384.size a) ∧
  ((k0_t4_loop i v110).OK) ∧
  (∀ k0_t4 : Fin (k0_t4_loop i v110).trips, 1024 ∣ (k0_mult7 i v110 k0_t4).toNat) ∧
  (∀ k0_t4 : Fin (k0_t4_loop i v110).trips, ∀ a, (k0_off23 i v110 k0_t4) a + S1024x128.size a ≤ S16384x128.size a) ∧
  (∀ k0_t4 : Fin (k0_t4_loop i v110).trips, ∀ a, (k0_off24 i v110 k0_t4) a + S1x1x1024.size a ≤ S1x8x16384.size a) ∧
  (∀ k0_t4 : Fin (k0_t4_loop i v110).trips, ∀ a, (k0_off25 i v110 k0_t4) a + S80x1024.size a ≤ S128x16384.size a) ∧
  (∀ k0_t4 : Fin (k0_t4_loop i v110).trips, ∀ a, (k0_off26 i v110 k0_t4) a + S64x1024.size a ≤ S128x16384.size a) ∧
  (∀ k0_t4 : Fin (k0_t4_loop i v110).trips, 1024 ∣ (k0_mult8 i v110 k0_t4).toNat) ∧
  (∀ k0_t4 : Fin (k0_t4_loop i v110).trips, ∀ a, (k0_off27 i v110 k0_t4) a + S1024x128.size a ≤ S16384x128.size a) ∧
  (∀ k0_t4 : Fin (k0_t4_loop i v110).trips, ∀ a, (k0_off28 i v110 k0_t4) a + S1x1x1024.size a ≤ S1x8x16384.size a) ∧
  (∀ k0_t4 : Fin (k0_t4_loop i v110).trips, ∀ a, (k0_off29 i v110 k0_t4) a + S80x1024.size a ≤ S128x16384.size a) ∧
  (∀ k0_t4 : Fin (k0_t4_loop i v110).trips, ∀ a, (k0_off30 i v110 k0_t4) a + S64x1024.size a ≤ S128x16384.size a) ∧
  (∀ (k0_h2 : k0_cond2 i v110 = 1#1), 1024 ∣ (k0_mult9 v110).toNat) ∧
  (∀ (k0_h2 : k0_cond2 i v110 = 1#1), ∀ a, (k0_off31 v110) a + S1024x128.size a ≤ S16384x128.size a) ∧
  (∀ (k0_h2 : k0_cond2 i v110 = 1#1), ∀ a, (k0_off32 i v110) a + S1x1x1024.size a ≤ S1x8x16384.size a) ∧
  (∀ (k0_h2 : k0_cond2 i v110 = 1#1), ∀ a, (k0_off33 v110) a + S80x1024.size a ≤ S128x16384.size a) ∧
  (∀ (k0_h2 : k0_cond2 i v110 = 1#1), ∀ a, (k0_off34 i v110) a + S64x1024.size a ≤ S128x16384.size a)
theorem k0_t3_ok : ∀ (i : grid0.Coords) (v110 : BitVec 32) (k0_hw2 : k0_chk2 i v110), (k0_t3_loop i v110).OK := fun i v110 k0_hw2 => k0_hw2.1
theorem k0_mult5_dvd : ∀ (i : grid0.Coords) (v110 : BitVec 32) (k0_hw2 : k0_chk2 i v110) (k0_t3 : Fin (k0_t3_loop i v110).trips), 1024 ∣ (k0_mult5 i v110 k0_t3).toNat := fun i v110 k0_hw2 k0_t3 => k0_hw2.2.1 k0_t3
theorem k0_off15_inb : ∀ (i : grid0.Coords) (v110 : BitVec 32) (k0_hw2 : k0_chk2 i v110) (k0_t3 : Fin (k0_t3_loop i v110).trips), ∀ a, (k0_off15 i v110 k0_t3) a + S1024x128.size a ≤ S16384x128.size a := fun i v110 k0_hw2 k0_t3 => k0_hw2.2.2.1 k0_t3
theorem k0_off16_inb : ∀ (i : grid0.Coords) (v110 : BitVec 32) (k0_hw2 : k0_chk2 i v110) (k0_t3 : Fin (k0_t3_loop i v110).trips), ∀ a, (k0_off16 i v110 k0_t3) a + S1x1x1024.size a ≤ S1x8x16384.size a := fun i v110 k0_hw2 k0_t3 => k0_hw2.2.2.2.1 k0_t3
theorem k0_off17_inb : ∀ (i : grid0.Coords) (v110 : BitVec 32) (k0_hw2 : k0_chk2 i v110) (k0_t3 : Fin (k0_t3_loop i v110).trips), ∀ a, (k0_off17 i v110 k0_t3) a + S80x1024.size a ≤ S128x16384.size a := fun i v110 k0_hw2 k0_t3 => k0_hw2.2.2.2.2.1 k0_t3
theorem k0_off18_inb : ∀ (i : grid0.Coords) (v110 : BitVec 32) (k0_hw2 : k0_chk2 i v110) (k0_t3 : Fin (k0_t3_loop i v110).trips), ∀ a, (k0_off18 i v110 k0_t3) a + S64x1024.size a ≤ S128x16384.size a := fun i v110 k0_hw2 k0_t3 => k0_hw2.2.2.2.2.2.1 k0_t3
theorem k0_mult6_dvd : ∀ (i : grid0.Coords) (v110 : BitVec 32) (k0_hw2 : k0_chk2 i v110) (k0_t3 : Fin (k0_t3_loop i v110).trips), 1024 ∣ (k0_mult6 i v110 k0_t3).toNat := fun i v110 k0_hw2 k0_t3 => k0_hw2.2.2.2.2.2.2.1 k0_t3
theorem k0_off19_inb : ∀ (i : grid0.Coords) (v110 : BitVec 32) (k0_hw2 : k0_chk2 i v110) (k0_t3 : Fin (k0_t3_loop i v110).trips), ∀ a, (k0_off19 i v110 k0_t3) a + S1024x128.size a ≤ S16384x128.size a := fun i v110 k0_hw2 k0_t3 => k0_hw2.2.2.2.2.2.2.2.1 k0_t3
theorem k0_off20_inb : ∀ (i : grid0.Coords) (v110 : BitVec 32) (k0_hw2 : k0_chk2 i v110) (k0_t3 : Fin (k0_t3_loop i v110).trips), ∀ a, (k0_off20 i v110 k0_t3) a + S1x1x1024.size a ≤ S1x8x16384.size a := fun i v110 k0_hw2 k0_t3 => k0_hw2.2.2.2.2.2.2.2.2.1 k0_t3
theorem k0_off21_inb : ∀ (i : grid0.Coords) (v110 : BitVec 32) (k0_hw2 : k0_chk2 i v110) (k0_t3 : Fin (k0_t3_loop i v110).trips), ∀ a, (k0_off21 i v110 k0_t3) a + S80x1024.size a ≤ S128x16384.size a := fun i v110 k0_hw2 k0_t3 => k0_hw2.2.2.2.2.2.2.2.2.2.1 k0_t3
theorem k0_off22_inb : ∀ (i : grid0.Coords) (v110 : BitVec 32) (k0_hw2 : k0_chk2 i v110) (k0_t3 : Fin (k0_t3_loop i v110).trips), ∀ a, (k0_off22 i v110 k0_t3) a + S64x1024.size a ≤ S128x16384.size a := fun i v110 k0_hw2 k0_t3 => k0_hw2.2.2.2.2.2.2.2.2.2.2.1 k0_t3
theorem k0_t4_ok : ∀ (i : grid0.Coords) (v110 : BitVec 32) (k0_hw2 : k0_chk2 i v110), (k0_t4_loop i v110).OK := fun i v110 k0_hw2 => k0_hw2.2.2.2.2.2.2.2.2.2.2.2.1
theorem k0_mult7_dvd : ∀ (i : grid0.Coords) (v110 : BitVec 32) (k0_hw2 : k0_chk2 i v110) (k0_t4 : Fin (k0_t4_loop i v110).trips), 1024 ∣ (k0_mult7 i v110 k0_t4).toNat := fun i v110 k0_hw2 k0_t4 => k0_hw2.2.2.2.2.2.2.2.2.2.2.2.2.1 k0_t4
theorem k0_off23_inb : ∀ (i : grid0.Coords) (v110 : BitVec 32) (k0_hw2 : k0_chk2 i v110) (k0_t4 : Fin (k0_t4_loop i v110).trips), ∀ a, (k0_off23 i v110 k0_t4) a + S1024x128.size a ≤ S16384x128.size a := fun i v110 k0_hw2 k0_t4 => k0_hw2.2.2.2.2.2.2.2.2.2.2.2.2.2.1 k0_t4
theorem k0_off24_inb : ∀ (i : grid0.Coords) (v110 : BitVec 32) (k0_hw2 : k0_chk2 i v110) (k0_t4 : Fin (k0_t4_loop i v110).trips), ∀ a, (k0_off24 i v110 k0_t4) a + S1x1x1024.size a ≤ S1x8x16384.size a := fun i v110 k0_hw2 k0_t4 => k0_hw2.2.2.2.2.2.2.2.2.2.2.2.2.2.2.1 k0_t4
theorem k0_off25_inb : ∀ (i : grid0.Coords) (v110 : BitVec 32) (k0_hw2 : k0_chk2 i v110) (k0_t4 : Fin (k0_t4_loop i v110).trips), ∀ a, (k0_off25 i v110 k0_t4) a + S80x1024.size a ≤ S128x16384.size a := fun i v110 k0_hw2 k0_t4 => k0_hw2.2.2.2.2.2.2.2.2.2.2.2.2.2.2.2.1 k0_t4
theorem k0_off26_inb : ∀ (i : grid0.Coords) (v110 : BitVec 32) (k0_hw2 : k0_chk2 i v110) (k0_t4 : Fin (k0_t4_loop i v110).trips), ∀ a, (k0_off26 i v110 k0_t4) a + S64x1024.size a ≤ S128x16384.size a := fun i v110 k0_hw2 k0_t4 => k0_hw2.2.2.2.2.2.2.2.2.2.2.2.2.2.2.2.2.1 k0_t4
theorem k0_mult8_dvd : ∀ (i : grid0.Coords) (v110 : BitVec 32) (k0_hw2 : k0_chk2 i v110) (k0_t4 : Fin (k0_t4_loop i v110).trips), 1024 ∣ (k0_mult8 i v110 k0_t4).toNat := fun i v110 k0_hw2 k0_t4 => k0_hw2.2.2.2.2.2.2.2.2.2.2.2.2.2.2.2.2.2.1 k0_t4
theorem k0_off27_inb : ∀ (i : grid0.Coords) (v110 : BitVec 32) (k0_hw2 : k0_chk2 i v110) (k0_t4 : Fin (k0_t4_loop i v110).trips), ∀ a, (k0_off27 i v110 k0_t4) a + S1024x128.size a ≤ S16384x128.size a := fun i v110 k0_hw2 k0_t4 => k0_hw2.2.2.2.2.2.2.2.2.2.2.2.2.2.2.2.2.2.2.1 k0_t4
theorem k0_off28_inb : ∀ (i : grid0.Coords) (v110 : BitVec 32) (k0_hw2 : k0_chk2 i v110) (k0_t4 : Fin (k0_t4_loop i v110).trips), ∀ a, (k0_off28 i v110 k0_t4) a + S1x1x1024.size a ≤ S1x8x16384.size a := fun i v110 k0_hw2 k0_t4 => k0_hw2.2.2.2.2.2.2.2.2.2.2.2.2.2.2.2.2.2.2.2.1 k0_t4
theorem k0_off29_inb : ∀ (i : grid0.Coords) (v110 : BitVec 32) (k0_hw2 : k0_chk2 i v110) (k0_t4 : Fin (k0_t4_loop i v110).trips), ∀ a, (k0_off29 i v110 k0_t4) a + S80x1024.size a ≤ S128x16384.size a := fun i v110 k0_hw2 k0_t4 => k0_hw2.2.2.2.2.2.2.2.2.2.2.2.2.2.2.2.2.2.2.2.2.1 k0_t4
theorem k0_off30_inb : ∀ (i : grid0.Coords) (v110 : BitVec 32) (k0_hw2 : k0_chk2 i v110) (k0_t4 : Fin (k0_t4_loop i v110).trips), ∀ a, (k0_off30 i v110 k0_t4) a + S64x1024.size a ≤ S128x16384.size a := fun i v110 k0_hw2 k0_t4 => k0_hw2.2.2.2.2.2.2.2.2.2.2.2.2.2.2.2.2.2.2.2.2.2.1 k0_t4
theorem k0_mult9_dvd : ∀ (i : grid0.Coords) (v110 : BitVec 32) (k0_hw2 : k0_chk2 i v110), ∀ (k0_h2 : k0_cond2 i v110 = 1#1), 1024 ∣ (k0_mult9 v110).toNat := fun i v110 k0_hw2 k0_h2 => k0_hw2.2.2.2.2.2.2.2.2.2.2.2.2.2.2.2.2.2.2.2.2.2.2.1 k0_h2
theorem k0_off31_inb : ∀ (i : grid0.Coords) (v110 : BitVec 32) (k0_hw2 : k0_chk2 i v110), ∀ (k0_h2 : k0_cond2 i v110 = 1#1), ∀ a, (k0_off31 v110) a + S1024x128.size a ≤ S16384x128.size a := fun i v110 k0_hw2 k0_h2 => k0_hw2.2.2.2.2.2.2.2.2.2.2.2.2.2.2.2.2.2.2.2.2.2.2.2.1 k0_h2
theorem k0_off32_inb : ∀ (i : grid0.Coords) (v110 : BitVec 32) (k0_hw2 : k0_chk2 i v110), ∀ (k0_h2 : k0_cond2 i v110 = 1#1), ∀ a, (k0_off32 i v110) a + S1x1x1024.size a ≤ S1x8x16384.size a := fun i v110 k0_hw2 k0_h2 => k0_hw2.2.2.2.2.2.2.2.2.2.2.2.2.2.2.2.2.2.2.2.2.2.2.2.2.1 k0_h2
theorem k0_off33_inb : ∀ (i : grid0.Coords) (v110 : BitVec 32) (k0_hw2 : k0_chk2 i v110), ∀ (k0_h2 : k0_cond2 i v110 = 1#1), ∀ a, (k0_off33 v110) a + S80x1024.size a ≤ S128x16384.size a := fun i v110 k0_hw2 k0_h2 => k0_hw2.2.2.2.2.2.2.2.2.2.2.2.2.2.2.2.2.2.2.2.2.2.2.2.2.2.1 k0_h2
theorem k0_off34_inb : ∀ (i : grid0.Coords) (v110 : BitVec 32) (k0_hw2 : k0_chk2 i v110), ∀ (k0_h2 : k0_cond2 i v110 = 1#1), ∀ a, (k0_off34 i v110) a + S64x1024.size a ≤ S128x16384.size a := fun i v110 k0_hw2 k0_h2 => k0_hw2.2.2.2.2.2.2.2.2.2.2.2.2.2.2.2.2.2.2.2.2.2.2.2.2.2.2 k0_h2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c24_i32 : BitVec 32 := 24#32
  let v17 : BitVec 32 := Scalar.addi c24_i32 v16
  let c0_i32_4 : BitVec 32 := 0#32
  ![arg1.toNat, v17.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S8x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x16384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x16384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S128x16384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S16384x8x64 : Shape := ⟨3, ![16384, 8, 64]⟩
abbrev S8x16384 : Shape := ⟨2, ![8, 16384]⟩
abbrev S8x16384x16384 : Shape := ⟨3, ![8, 16384, 16384]⟩
abbrev S_ : Shape := ⟨0, ![]⟩
abbrev S8x16384x1 : Shape := ⟨3, ![8, 16384, 1]⟩
abbrev S8x1x16384 : Shape := ⟨3, ![8, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x64x16384 : Shape := ⟨3, ![8, 64, 16384]⟩
abbrev S8x16384x64 : Shape := ⟨3, ![8, 16384, 64]⟩

abbrev nBuf : Space → Nat
  | .hbm => 108
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x8x64, .f32⟩
  | .hbm, ⟨3, _⟩ => ⟨S8x16384, .f32⟩
  | .hbm, ⟨4, _⟩ => ⟨S16384x8x64, .f32⟩
  | .hbm, ⟨5, _⟩ => ⟨S8x16384x16384, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S8x16384x1, .f32⟩
  | .hbm, ⟨10, _⟩ => ⟨S8x16384x16384, .f32⟩
  | .hbm, ⟨11, _⟩ => ⟨S8x16384x16384, .f32⟩
  | .hbm, ⟨12, _⟩ => ⟨S8x1x16384, .f32⟩
  | .hbm, ⟨13, _⟩ => ⟨S8x16384x16384, .f32⟩
  | .hbm, ⟨14, _⟩ => ⟨S8x16384x16384, .f32⟩
  | .hbm, ⟨15, _⟩ => ⟨S16384, .i32⟩
  | .hbm, ⟨16, _⟩ => ⟨S1x16384, .i32⟩
  | .hbm, ⟨17, _⟩ => ⟨S16384x1, .i32⟩
  | .hbm, ⟨18, _⟩ => ⟨S16384x16384, .i32⟩
  | .hbm, ⟨19, _⟩ => ⟨S16384x16384, .i32⟩
  | .hbm, ⟨20, _⟩ => ⟨S16384x16384, .i1⟩
  | .hbm, ⟨21, _⟩ => ⟨S_, .f32⟩
  | .hbm, ⟨22, _⟩ => ⟨S_, .f32⟩
  | .hbm, ⟨23, _⟩ => ⟨S8x16384x16384, .i1⟩
  | .hbm, ⟨24, _⟩ => ⟨S8x16384x16384, .f32⟩
  | .hbm, ⟨25, _⟩ => ⟨S8x16384x16384, .f32⟩
  | .hbm, ⟨26, _⟩ => ⟨S_, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S8x16384x1, .f32⟩
  | .hbm, ⟨31, _⟩ => ⟨S8x16384x16384, .f32⟩
  | .hbm, ⟨32, _⟩ => ⟨S8x16384x16384, .i1⟩
  | .hbm, ⟨33, _⟩ => ⟨S8x16384x16384, .f32⟩
  | .hbm, ⟨34, _⟩ => ⟨S_, .f32⟩
  | .hbm, ⟨35, _⟩ => ⟨S8x16384, .f32⟩
  | .hbm, ⟨36, _⟩ => ⟨S_, .f32⟩
  | .hbm, ⟨37, _⟩ => ⟨S8x16384, .f32⟩
  | .hbm, ⟨38, _⟩ => ⟨S8x16384, .f32⟩
  | .hbm, ⟨39, _⟩ => ⟨S_, .f32⟩
  | .hbm, ⟨40, _⟩ => ⟨S8x16384, .f32⟩
  | .hbm, ⟨41, _⟩ => ⟨S8x16384, .i1⟩
  | .hbm, ⟨42, _⟩ => ⟨S_, .f32⟩
  | .hbm, ⟨43, _⟩ => ⟨S8x16384, .f32⟩
  | .hbm, ⟨44, _⟩ => ⟨S8x16384, .i1⟩
  | .hbm, ⟨45, _⟩ => ⟨S_, .f32⟩
  | .hbm, ⟨46, _⟩ => ⟨S8x16384, .f32⟩
  | .hbm, ⟨47, _⟩ => ⟨S_, .f32⟩
  | .hbm, ⟨48, _⟩ => ⟨S8x16384, .f32⟩
  | .hbm, ⟨49, _⟩ => ⟨S_, .f32⟩
  | .hbm, ⟨50, _⟩ => ⟨S8x16384, .f32⟩
  | .hbm, ⟨51, _⟩ => ⟨S8x16384, .f32⟩
  | .hbm, ⟨52, _⟩ => ⟨S8x16384, .f32⟩
  | .hbm, ⟨53, _⟩ => ⟨S8x16384x1, .f32⟩
  | .hbm, ⟨54, _⟩ => ⟨S8x16384x16384, .f32⟩
  | .hbm, ⟨55, _⟩ => ⟨S8x16384x16384, .f32⟩
  | .hbm, ⟨56, _⟩ => ⟨S8x16384x16384, .f32⟩
  | .hbm, ⟨57, _⟩ => ⟨S_, .f32⟩
  | .hbm, ⟨58, _⟩ => ⟨S8x16384, .f32⟩
  | .hbm, ⟨59, _⟩ => ⟨S8x16384x1, .f32⟩
  | .hbm, ⟨60, _⟩ => ⟨S8x16384x16384, .f32⟩
  | .hbm, ⟨61, _⟩ => ⟨S8x16384x16384, .f32⟩
  | .hbm, ⟨62, _⟩ => ⟨S8x16384x1, .f32⟩
  | .hbm, ⟨63, _⟩ => ⟨S_, .f32⟩
  | .hbm, ⟨64, _⟩ => ⟨S8x16384x1, .f32⟩
  | .hbm, ⟨65, _⟩ => ⟨S8x16384x1, .f32⟩
  | .hbm, ⟨66, _⟩ => ⟨S8x64x16384, .f32⟩
  | .hbm, ⟨67, _⟩ => ⟨S16384x8x64, .f32⟩
  | .hbm, ⟨68, _⟩ => ⟨S8x64x16384, .f32⟩
  | .hbm, ⟨69, _⟩ => ⟨S8x16384x16384, .f32⟩
  | .hbm, ⟨70, _⟩ => ⟨S8x64x16384, .f32⟩
  | .hbm, ⟨71, _⟩ => ⟨S16384x8x64, .f32⟩
  | .hbm, ⟨72, _⟩ => ⟨S8x16384x16384, .f32⟩
  | .hbm, ⟨73, _⟩ => ⟨S8x16384x16384, .f32⟩
  | .hbm, ⟨74, _⟩ => ⟨S8x16384x16384, .f32⟩
  | .hbm, ⟨75, _⟩ => ⟨S_, .f32⟩
  | .hbm, ⟨76, _⟩ => ⟨S8x16384, .f32⟩
  | .hbm, ⟨77, _⟩ => ⟨S8x16384x1, .f32⟩
  | .hbm, ⟨78, _⟩ => ⟨S8x16384x1, .f32⟩
  | .hbm, ⟨79, _⟩ => ⟨S8x16384x16384, .f32⟩
  | .hbm, ⟨80, _⟩ => ⟨S8x16384x16384, .f32⟩
  | .hbm, ⟨81, _⟩ => ⟨S_, .f32⟩
  | .hbm, ⟨82, _⟩ => ⟨S8x16384, .f32⟩
  | .hbm, ⟨83, _⟩ => ⟨S8x16384x16384, .f32⟩
  | .hbm, ⟨84, _⟩ => ⟨S8x16384x16384, .f32⟩
  | .hbm, ⟨85, _⟩ => ⟨S8x16384x16384, .f32⟩
  | .hbm, ⟨86, _⟩ => ⟨S_, .f32⟩
  | .hbm, ⟨87, _⟩ => ⟨S8x16384x16384, .f32⟩
  | .hbm, ⟨88, _⟩ => ⟨S8x16384x16384, .f32⟩
  | .hbm, ⟨89, _⟩ => ⟨S8x16384x16384, .f32⟩
  | .hbm, ⟨90, _⟩ => ⟨S_, .f32⟩
  | .hbm, ⟨91, _⟩ => ⟨S8x16384, .f32⟩
  | .hbm, ⟨92, _⟩ => ⟨S8x1x16384, .f32⟩
  | .hbm, ⟨93, _⟩ => ⟨S_, .f32⟩
  | .hbm, ⟨94, _⟩ => ⟨S8x16384, .f32⟩
  | .hbm, ⟨95, _⟩ => ⟨S_, .f32⟩
  | .hbm, ⟨96, _⟩ => ⟨S8x16384, .f32⟩
  | .hbm, ⟨97, _⟩ => ⟨S8x16384x1, .f32⟩
  | .hbm, ⟨98, _⟩ => ⟨S_, .f32⟩
  | .hbm, ⟨99, _⟩ => ⟨S8x16384, .f32⟩
  | .hbm, ⟨100, _⟩ => ⟨S8x16384, .f32⟩
  | .hbm, ⟨101, _⟩ => ⟨S_, .f32⟩
  | .hbm, ⟨102, _⟩ => ⟨S8x16384x16384, .f32⟩
  | .hbm, ⟨103, _⟩ => ⟨S8x16384x16384, .f32⟩
  | .hbm, ⟨104, _⟩ => ⟨S8x16384x64, .f32⟩
  | .hbm, ⟨105, _⟩ => ⟨S16384x8x64, .f32⟩
  | .hbm, ⟨106, _⟩ => ⟨S8x16384x64, .f32⟩
  | .hbm, ⟨107, _⟩ => ⟨S16384x8x64, .f32⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_call0_v0 : Ref sig .tc := ⟨.hbm, 22, rfl⟩
abbrev main_v15_1 : Ref sig .tc := ⟨.hbm, 23, rfl⟩
abbrev main_call0_v2 : Ref sig .tc := ⟨.hbm, 24, rfl⟩
abbrev main_v15_0 : Ref sig .tc := ⟨.hbm, 25, rfl⟩
abbrev main_call0_cst : Ref sig .tc := ⟨.hbm, 26, rfl⟩
abbrev main_v15_2 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== Kernel2.lean ====
abbrev S16384x4096 : Shape := ⟨2, ![16384, 4096]⟩
abbrev S4096x1024 : Shape := ⟨2, ![4096, 1024]⟩
abbrev S16384x1024 : Shape := ⟨2, ![16384, 1024]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S16384x1024, .bf16⟩
  | .hbm, ⟨4, _⟩ => ⟨S4096x1024, .bf16⟩
  | .hbm, ⟨5, _⟩ => ⟨S16384x4096, .bf16⟩
  | .hbm, ⟨6, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x4096 : Shape := ⟨2, ![16384, 4096]⟩
abbrev S4096x1024 : Shape := ⟨2, ![4096, 1024]⟩
abbrev S16384x1024 : Shape := ⟨2, ![16384, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x1024, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S16384x4096 : Shape := ⟨2, ![16384, 4096]⟩
abbrev S16384x1024 : Shape := ⟨2, ![16384, 1024]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S16384x4096, .bf16⟩
  | .hbm, ⟨3, _⟩ => ⟨S16384x1024, .bf16⟩
  | .hbm, ⟨4, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x1024, .f32⟩
  | .hbm, ⟨2, _⟩ => ⟨S_, .f32⟩
  | .hbm, ⟨3, _⟩ => ⟨S4096x1024, .f32⟩
  | .hbm, ⟨4, _⟩ => ⟨S16384x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S16384x1024 : Shape := ⟨2, ![16384, 1024]⟩
abbrev S16384x4096 : Shape := ⟨2, ![16384, 4096]⟩
abbrev S8x1024x512 : Shape := ⟨3, ![8, 1024, 512]⟩
abbrev S4096x1024 : Shape := ⟨2, ![4096, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S16384x1024, .bf16⟩
  | .hbm, ⟨3, _⟩ => ⟨S16384x4096, .bf16⟩
  | .hbm, ⟨4, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x1024 : Shape := ⟨2, ![16384, 1024]⟩
abbrev S16384x4096 : Shape := ⟨2, ![16384, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x4096, .f32⟩
  | .hbm, ⟨2, _⟩ => ⟨S_, .f32⟩
  | .hbm, ⟨3, _⟩ => ⟨S1024x4096, .f32⟩
  | .hbm, ⟨4, _⟩ => ⟨S16384x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S16384x1024 : Shape := ⟨2, ![16384, 1024]⟩
abbrev S1024x4096 : Shape := ⟨2, ![1024, 4096]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x1024, .bf16⟩
  | .hbm, ⟨3, _⟩ => ⟨S1024x4096, .bf16⟩
  | .hbm, ⟨4, _⟩ => ⟨S16384x4096, .bf16⟩
  | .hbm, ⟨5, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16384x1024 : Shape := ⟨2, ![16384, 1024]⟩
abbrev S1024x4096 : Shape := ⟨2, ![1024, 4096]⟩
abbrev S16384x4096 : Shape := ⟨2, ![16384, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4096, .f32⟩
  | .hbm, ⟨2, _⟩ => ⟨S16384x4096, .f32⟩
  | .hbm, ⟨3, _⟩ => ⟨S16384x4096, .bf16⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S16384x1024 : Shape := ⟨2, ![16384, 1024]⟩
abbrev S16384x8192 : Shape := ⟨2, ![16384, 8192]⟩
abbrev S1024x8192 : Shape := ⟨2, ![1024, 8192]⟩
abbrev S4096x1024 : Shape := ⟨2, ![4096, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x8192, .f32⟩
  | .hbm, ⟨2, _⟩ => ⟨S16384x1024, .bf16⟩
  | .hbm, ⟨3, _⟩ => ⟨S16384x8192, .bf16⟩
  | .hbm, ⟨4, _⟩ => ⟨S1024x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x1024 : Shape := ⟨2, ![16384, 1024]⟩
abbrev S16384x8192 : Shape := ⟨2, ![16384, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x8192, .f32⟩
  | .hbm, ⟨2, _⟩ => ⟨S_, .f32⟩
  | .hbm, ⟨3, _⟩ => ⟨S1024x8192, .f32⟩
  | .hbm, ⟨4, _⟩ => ⟨S16384x8192, .f32⟩
  | .hbm, ⟨5, _⟩ => ⟨S8192x1024, .f32⟩
  | .hbm, ⟨6, _⟩ => ⟨S1024x8192, .f32⟩
  | .hbm, ⟨7, _⟩ => ⟨S1024x8192, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Steps.lean ====
module

public import proofs.«01_k».proof.Proof.Gen.KernelIdeal.Frame
public import proofs.«01_k».proof.Proof.Gen.KernelIdeal.Skeleton

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]

/-- The two carried sums: the rows of `dk` (with the bias lanes) and the rows of `dv`. -/
abbrev Acc (F : FTy → Type) [FloatOps F] : Type := FVec F S80x512 .f32 × FVec F S64x512 .f32

/-- `n` steps from `s`, each step knowing its number; past the last one nothing changes. -/
def iter {σ : Type} (n : ℕ) (f : Fin n → σ → σ) (s : σ) : ℕ → σ
  | 0 => s
  | k + 1 => if h : k < n then f ⟨k, h⟩ (iter n f s k) else iter n f s k

theorem iter_succ {σ : Type} (n : ℕ) (f : Fin n → σ → σ) (s : σ) (k : Fin n) :
    iter n f s (k.val + 1) = f k (iter n f s k.val) := by
  rw [iter.eq_2]; exact dif_pos k.isLt

/-! ## One block of queries, on vectors

The arguments of a step: the masked values, the keys and the transposed keys of the block of keys,
the six arrays of the queries' side, and where the block of queries lies in each of them. -/

section Steps

variable (vm kk : FVec F S512x128 .bf16) (kt : FVec F S80x512 .bf16)
variable (x2 : Vec F S16384x128 .bf16) (x3 : Vec F S128x16384 .bf16) (x7 : Vec F S16384x128 .bf16)
  (x8 : Vec F S128x16384 .bf16) (x9 x10 : Vec F S1x8x16384 .f32)

/-- The diagonal block: queries and keys of the same block, under the causal mask. -/
def diagV (i : grid0.Coords) (s : Acc F × Vec F S128x16384 .f32) : Acc F × Vec F S128x16384 .f32 :=
  let a := k0_pay33 (View.ld x2 (Rect.unit (s := S16384x128) (k0_off1 i) S512x128.size (k0_off1_inb i)))
  let l := View.ld x9 (Rect.unit (s := S1x8x16384) (k0_off2 i) S1x1x512.size (k0_off2_inb i))
  let d := View.ld x7 (Rect.unit (s := S16384x128) (k0_off1 i) S512x128.size (k0_off1_inb i))
  let e := View.ld x10 (Rect.unit (s := S1x8x16384) (k0_off2 i) S1x1x512.size (k0_off2_inb i))
  let r := Rect.unit (s := S128x16384) (k0_off3 i) S80x512.size (k0_off3_inb i)
  let z : FVec F S512x512 .f32 := constant S512x512 .f32 0x00000000#32
  ((k0_pay37 vm kk s.1.1 a z l d e (View.ld x3 r),
    k0_pay38 kk s.1.2 a z l (View.ld x8 (Rect.unit (s := S128x16384) (k0_off4 i) S64x512.size (k0_off4_inb i)))),
   r.overlay s.2 (k0_pay36 vm kk kt a z l d e (View.ld s.2 r)))

/-- A block of 512 queries after the diagonal. -/
def narrowV (o6 : Fin 2 → ℕ) (h6 : ∀ a, o6 a + S512x128.size a ≤ S16384x128.size a)
    (o7 : Fin 3 → ℕ) (h7 : ∀ a, o7 a + S1x1x512.size a ≤ S1x8x16384.size a)
    (o8 : Fin 2 → ℕ) (h8 : ∀ a, o8 a + S80x512.size a ≤ S128x16384.size a)
    (o9 : Fin 2 → ℕ) (h9 : ∀ a, o9 a + S64x512.size a ≤ S128x16384.size a)
    (s : Acc F × Vec F S128x16384 .f32) : Acc F × Vec F S128x16384 .f32 :=
  let a := View.ld x2 (Rect.unit (s := S16384x128) o6 S512x128.size h6)
  let l := View.ld x9 (Rect.unit (s := S1x8x16384) o7 S1x1x512.size h7)
  let d := View.ld x7 (Rect.unit (s := S16384x128) o6 S512x128.size h6)
  let e := View.ld x10 (Rect.unit (s := S1x8x16384) o7 S1x1x512.size h7)
  let r := Rect.unit (s := S128x16384) o8 S80x512.size h8
  ((k0_pay42 vm kk s.1.1 a l d e (View.ld x3 r),
    k0_pay43 kk s.1.2 a l (View.ld x8 (Rect.unit (s := S128x16384) o9 S64x512.size h9))),
   r.overlay s.2 (k0_pay41 vm kk kt a l d e (View.ld s.2 r)))

/-- A block of 1024 queries after the diagonal. -/
def wideV (o6 : Fin 2 → ℕ) (h6 : ∀ a, o6 a + S1024x128.size a ≤ S16384x128.size a)
    (o7 : Fin 3 → ℕ) (h7 : ∀ a, o7 a + S1x1x1024.size a ≤ S1x8x16384.size a)
    (o8 : Fin 2 → ℕ) (h8 : ∀ a, o8 a + S80x1024.size a ≤ S128x16384.size a)
    (o9 : Fin 2 → ℕ) (h9 : ∀ a, o9 a + S64x1024.size a ≤ S128x16384.size a)
    (s : Acc F × Vec F S128x16384 .f32) : Acc F × Vec F S128x16384 .f32 :=
  let a := View.ld x2 (Rect.unit (s := S16384x128) o6 S1024x128.size h6)
  let l := View.ld x9 (Rect.unit (s := S1x8x16384) o7 S1x1x1024.size h7)
  let d := View.ld x7 (Rect.unit (s := S16384x128) o6 S1024x128.size h6)
  let e := View.ld x10 (Rect.unit (s := S1x8x16384) o7 S1x1x1024.size h7)
  let r := Rect.unit (s := S128x16384) o8 S80x1024.size h8
  ((k0_pay25 vm kk s.1.1 a l d e (View.ld x3 r),
    k0_pay26 kk s.1.2 a l (View.ld x8 (Rect.unit (s := S128x16384) o9 S64x1024.size h9))),
   r.overlay s.2 (k0_pay24 vm kk kt a l d e (View.ld s.2 r)))

/-- All blocks of queries of one grid point, on vectors. -/
def bodyV (i : grid0.Coords) (w1 w2 : BitVec 32) (h1 : k0_chk1 i w1) (h2 : k0_chk2 i w2)
    (A : Vec F S128x16384 .f32) : Acc F × Vec F S128x16384 .f32 :=
  let s1 := diagV vm kk kt x2 x3 x7 x8 x9 x10 i ((k0_pay31, k0_pay32), A)
  let s2 := iter (k0_t1_loop i w1).trips (fun k => narrowV vm kk kt x2 x3 x7 x8 x9 x10
    (k0_off6 i w1 k) (k0_off6_inb i w1 h1 k) (k0_off7 i w1 k) (k0_off7_inb i w1 h1 k)
    (k0_off8 i w1 k) (k0_off8_inb i w1 h1 k) (k0_off9 i w1 k) (k0_off9_inb i w1 h1 k)) s1 (k0_t1_loop i w1).trips
  let s3 := iter (k0_t3_loop i w2).trips (fun k s => wideV vm kk kt x2 x3 x7 x8 x9 x10
      (k0_off19 i w2 k) (k0_off19_inb i w2 h2 k) (k0_off20 i w2 k) (k0_off20_inb i w2 h2 k)
      (k0_off21 i w2 k) (k0_off21_inb i w2 h2 k) (k0_off22 i w2 k) (k0_off22_inb i w2 h2 k)
    (wideV vm kk kt x2 x3 x7 x8 x9 x10
      (k0_off15 i w2 k) (k0_off15_inb i w2 h2 k) (k0_off16 i w2 k) (k0_off16_inb i w2 h2 k)
      (k0_off17 i w2 k) (k0_off17_inb i w2 h2 k) (k0_off18 i w2 k) (k0_off18_inb i w2 h2 k) s)) s2 (k0_t3_loop i w2).trips
  if h : k0_cond2 i w2 = 1#1 then wideV vm kk kt x2 x3 x7 x8 x9 x10
      (k0_off31 w2) (k0_off31_inb i w2 h2 h) (k0_off32 i w2) (k0_off32_inb i w2 h2 h)
      (k0_off33 w2) (k0_off33_inb i w2 h2 h) (k0_off34 i w2) (k0_off34_inb i w2 h2 h) s3
  else s3

end Steps

theorem pay6_eq (vm kk : FVec F S512x128 .bf16) (kt : FVec F S80x512 .bf16) (a : Vec F S1024x128 .bf16) (l : Vec F S1x1x1024 .f32) (d : Vec F S1024x128 .bf16) (e : Vec F S1x1x1024 .f32) (y : Vec F S80x1024 .f32) :
    k0_pay6 vm kk kt a l d e y = k0_pay24 vm kk kt a l d e y := rfl
theorem pay11_eq (vm kk : FVec F S512x128 .bf16) (kt : FVec F S80x512 .bf16) (a : Vec F S1024x128 .bf16) (l : Vec F S1x1x1024 .f32) (d : Vec F S1024x128 .bf16) (e : Vec F S1x1x1024 .f32) (y : Vec F S80x1024 .f32) :
    k0_pay11 vm kk kt a l d e y = k0_pay24 vm kk kt a l d e y := rfl
theorem pay7_eq (vm kk : FVec F S512x128 .bf16) (s : FVec F S80x512 .f32) (a : Vec F S1024x128 .bf16) (l : Vec F S1x1x1024 .f32) (d : Vec F S1024x128 .bf16) (e : Vec F S1x1x1024 .f32) (y : Vec F S80x1024 .bf16) :
    k0_pay7 vm kk s a l d e y = k0_pay25 vm kk s a l d e y := rfl
theorem pay12_eq (vm kk : FVec F S512x128 .bf16) (s : FVec F S80x512 .f32) (a : Vec F S1024x128 .bf16) (l : Vec F S1x1x1024 .f32) (d : Vec F S1024x128 .bf16) (e : Vec F S1x1x1024 .f32) (y : Vec F S80x1024 .bf16) :
    k0_pay12 vm kk s a l d e y = k0_pay25 vm kk s a l d e y := rfl
theorem pay8_eq (kk : FVec F S512x128 .bf16) (s : FVec F S64x512 .f32) (a : Vec F S1024x128 .bf16) (l : Vec F S1x1x1024 .f32) (y : Vec F S64x1024 .bf16) :
    k0_pay8 s (k0_pay4 kk a l) y = k0_pay26 kk s a l y := rfl
theorem pay1_eq (kk : FVec F S512x128 .bf16) (s : FVec F S64x512 .f32) (a : Vec F S1024x128 .bf16) (l : Vec F S1x1x1024 .f32) (y : Vec F S64x1024 .bf16) :
    k0_pay1 s (k0_pay9 kk a l) y = k0_pay26 kk s a l y := rfl

end Cert.KernelIdeal.Own
end
-- ==== Proof.Trips.lean ====
module

public import proofs.«01_k».proof.Proof.Steps

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole)

/-- One trip of the first loop: a block of 512 queries. -/
def stp1 (i : grid0.Coords) (v21 v23 : FVec F S512x128 .bf16) (v25 : FVec F S80x512 .bf16) (w : BitVec 32) (h : k0_chk1 i w) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin (k0_t1_loop i w).trips) (s : Acc F × BufTy.Contents (Elt F) arg13.view.ty) : Acc F × BufTy.Contents (Elt F) arg13.view.ty :=
  ((k0_pay42 v21 v23 s.1.1 (arg4.view.readAt (Elt F) (Rect.unit (s := S16384x128) (k0_off6 i w k) S512x128.size (k0_off6_inb i w h k)).toLoadRect X_arg4) (arg11.view.readAt (Elt F) (Rect.unit (s := S1x8x16384) (k0_off7 i w k) S1x1x512.size (k0_off7_inb i w h k)).toLoadRect X_arg11) (arg9.view.readAt (Elt F) (Rect.unit (s := S16384x128) (k0_off6 i w k) S512x128.size (k0_off6_inb i w h k)).toLoadRect X_arg9) (arg12.view.readAt (Elt F) (Rect.unit (s := S1x8x16384) (k0_off7 i w k) S1x1x512.size (k0_off7_inb i w h k)).toLoadRect X_arg12) (arg5.view.readAt (Elt F) (Rect.unit (s := S128x16384) (k0_off8 i w k) S80x512.size (k0_off8_inb i w h k)).toLoadRect X_arg5), k0_pay43 v23 s.1.2 (arg4.view.readAt (Elt F) (Rect.unit (s := S16384x128) (k0_off6 i w k) S512x128.size (k0_off6_inb i w h k)).toLoadRect X_arg4) (arg11.view.readAt (Elt F) (Rect.unit (s := S1x8x16384) (k0_off7 i w k) S1x1x512.size (k0_off7_inb i w h k)).toLoadRect X_arg11) (arg10.view.readAt (Elt F) (Rect.unit (s := S128x16384) (k0_off9 i w k) S64x512.size (k0_off9_inb i w h k)).toLoadRect X_arg10)), arg13.view.writes (Elt F) s.2 [⟨Rect.unit (s := S128x16384) (k0_off8 i w k) S80x512.size (k0_off8_inb i w h k), k0_pay41 v21 v23 v25 (arg4.view.readAt (Elt F) (Rect.unit (s := S16384x128) (k0_off6 i w k) S512x128.size (k0_off6_inb i w h k)).toLoadRect X_arg4) (arg11.view.readAt (Elt F) (Rect.unit (s := S1x8x16384) (k0_off7 i w k) S1x1x512.size (k0_off7_inb i w h k)).toLoadRect X_arg11) (arg9.view.readAt (Elt F) (Rect.unit (s := S16384x128) (k0_off6 i w k) S512x128.size (k0_off6_inb i w h k)).toLoadRect X_arg9) (arg12.view.readAt (Elt F) (Rect.unit (s := S1x8x16384) (k0_off7 i w k) S1x1x512.size (k0_off7_inb i w h k)).toLoadRect X_arg12) (arg13.view.readAt (Elt F) (Rect.unit (s := S128x16384) (k0_off8 i w k) S80x512.size (k0_off8_inb i w h k)).toLoadRect s.2)⟩])

/-- The first block of 1024 queries of a trip of the third loop. -/
def stp3a (i : grid0.Coords) (v21 v23 : FVec F S512x128 .bf16) (v25 : FVec F S80x512 .bf16) (w : BitVec 32) (h : k0_chk2 i w) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin (k0_t3_loop i w).trips) (s : Acc F × BufTy.Contents (Elt F) arg13.view.ty) : Acc F × BufTy.Contents (Elt F) arg13.view.ty :=
  ((k0_pay7 v21 v23 s.1.1 (arg4.view.readAt (Elt F) (Rect.unit (s := S16384x128) (k0_off15 i w k) S1024x128.size (k0_off15_inb i w h k)).toLoadRect X_arg4) (arg11.view.readAt (Elt F) (Rect.unit (s := S1x8x16384) (k0_off16 i w k) S1x1x1024.size (k0_off16_inb i w h k)).toLoadRect X_arg11) (arg9.view.readAt (Elt F) (Rect.unit (s := S16384x128) (k0_off15 i w k) S1024x128.size (k0_off15_inb i w h k)).toLoadRect X_arg9) (arg12.view.readAt (Elt F) (Rect.unit (s := S1x8x16384) (k0_off16 i w k) S1x1x1024.size (k0_off16_inb i w h k)).toLoadRect X_arg12) (arg5.view.readAt (Elt F) (Rect.unit (s := S128x16384) (k0_off17 i w k) S80x1024.size (k0_off17_inb i w h k)).toLoadRect X_arg5), k0_pay8 s.1.2 (k0_pay4 v23 (arg4.view.readAt (Elt F) (Rect.unit (s := S16384x128) (k0_off15 i w k) S1024x128.size (k0_off15_inb i w h k)).toLoadRect X_arg4) (arg11.view.readAt (Elt F) (Rect.unit (s := S1x8x16384) (k0_off16 i w k) S1x1x1024.size (k0_off16_inb i w h k)).toLoadRect X_arg11)) (arg10.view.readAt (Elt F) (Rect.unit (s := S128x16384) (k0_off18 i w k) S64x1024.size (k0_off18_inb i w h k)).toLoadRect X_arg10)), arg13.view.writes (Elt F) s.2 [⟨Rect.unit (s := S128x16384) (k0_off17 i w k) S80x1024.size (k0_off17_inb i w h k), k0_pay6 v21 v23 v25 (arg4.view.readAt (Elt F) (Rect.unit (s := S16384x128) (k0_off15 i w k) S1024x128.size (k0_off15_inb i w h k)).toLoadRect X_arg4) (arg11.view.readAt (Elt F) (Rect.unit (s := S1x8x16384) (k0_off16 i w k) S1x1x1024.size (k0_off16_inb i w h k)).toLoadRect X_arg11) (arg9.view.readAt (Elt F) (Rect.unit (s := S16384x128) (k0_off15 i w k) S1024x128.size (k0_off15_inb i w h k)).toLoadRect X_arg9) (arg12.view.readAt (Elt F) (Rect.unit (s := S1x8x16384) (k0_off16 i w k) S1x1x1024.size (k0_off16_inb i w h k)).toLoadRect X_arg12) (arg13.view.readAt (Elt F) (Rect.unit (s := S128x16384) (k0_off17 i w k) S80x1024.size (k0_off17_inb i w h k)).toLoadRect s.2)⟩])

/-- The second block of 1024 queries of a trip of the third loop. -/
def stp3b (i : grid0.Coords) (v21 v23 : FVec F S512x128 .bf16) (v25 : FVec F S80x512 .bf16) (w : BitVec 32) (h : k0_chk2 i w) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin (k0_t3_loop i w).trips) (s : Acc F × BufTy.Contents (Elt F) arg13.view.ty) : Acc F × BufTy.Contents (Elt F) arg13.view.ty :=
  ((k0_pay12 v21 v23 s.1.1 (arg4.view.readAt (Elt F) (Rect.unit (s := S16384x128) (k0_off19 i w k) S1024x128.size (k0_off19_inb i w h k)).toLoadRect X_arg4) (arg11.view.readAt (Elt F) (Rect.unit (s := S1x8x16384) (k0_off20 i w k) S1x1x1024.size (k0_off20_inb i w h k)).toLoadRect X_arg11) (arg9.view.readAt (Elt F) (Rect.unit (s := S16384x128) (k0_off19 i w k) S1024x128.size (k0_off19_inb i w h k)).toLoadRect X_arg9) (arg12.view.readAt (Elt F) (Rect.unit (s := S1x8x16384) (k0_off20 i w k) S1x1x1024.size (k0_off20_inb i w h k)).toLoadRect X_arg12) (arg5.view.readAt (Elt F) (Rect.unit (s := S128x16384) (k0_off21 i w k) S80x1024.size (k0_off21_inb i w h k)).toLoadRect X_arg5), k0_pay1 s.1.2 (k0_pay9 v23 (arg4.view.readAt (Elt F) (Rect.unit (s := S16384x128) (k0_off19 i w k) S1024x128.size (k0_off19_inb i w h k)).toLoadRect X_arg4) (arg11.view.readAt (Elt F) (Rect.unit (s := S1x8x16384) (k0_off20 i w k) S1x1x1024.size (k0_off20_inb i w h k)).toLoadRect X_arg11)) (arg10.view.readAt (Elt F) (Rect.unit (s := S128x16384) (k0_off22 i w k) S64x1024.size (k0_off22_inb i w h k)).toLoadRect X_arg10)), arg13.view.writes (Elt F) s.2 [⟨Rect.unit (s := S128x16384) (k0_off21 i w k) S80x1024.size (k0_off21_inb i w h k), k0_pay11 v21 v23 v25 (arg4.view.readAt (Elt F) (Rect.unit (s := S16384x128) (k0_off19 i w k) S1024x128.size (k0_off19_inb i w h k)).toLoadRect X_arg4) (arg11.view.readAt (Elt F) (Rect.unit (s := S1x8x16384) (k0_off20 i w k) S1x1x1024.size (k0_off20_inb i w h k)).toLoadRect X_arg11) (arg9.view.readAt (Elt F) (Rect.unit (s := S16384x128) (k0_off19 i w k) S1024x128.size (k0_off19_inb i w h k)).toLoadRect X_arg9) (arg12.view.readAt (Elt F) (Rect.unit (s := S1x8x16384) (k0_off20 i w k) S1x1x1024.size (k0_off20_inb i w h k)).toLoadRect X_arg12) (arg13.view.readAt (Elt F) (Rect.unit (s := S128x16384) (k0_off21 i w k) S80x1024.size (k0_off21_inb i w h k)).toLoadRect s.2)⟩])

/-- One trip of the third loop. -/
def stp3 (i : grid0.Coords) (v21 v23 : FVec F S512x128 .bf16) (v25 : FVec F S80x512 .bf16) (w : BitVec 32) (h : k0_chk2 i w) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (k : Fin (k0_t3_loop i w).trips) (s : Acc F × BufTy.Contents (Elt F) arg13.view.ty) : Acc F × BufTy.Contents (Elt F) arg13.view.ty :=
  stp3b arg4 arg5 arg9 arg10 arg11 arg12 arg13 i v21 v23 v25 w h X_arg4 X_arg5 X_arg9 X_arg10 X_arg11 X_arg12 k (stp3a arg4 arg5 arg9 arg10 arg11 arg12 arg13 i v21 v23 v25 w h X_arg4 X_arg5 X_arg9 X_arg10 X_arg11 X_arg12 k s)

/-- The state before trip `k` of loop 1: the carried sums and the contents of the accumulated block. -/
@[irreducible] def cst1 (i : grid0.Coords) (v21 v23 : FVec F S512x128 .bf16) (v25 : FVec F S80x512 .bf16) (w : BitVec 32) (h : k0_chk1 i w) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (G : BufTy.Contents (Elt F) arg13.view.ty) (init : Acc F) (k : ℕ) : Acc F × BufTy.Contents (Elt F) arg13.view.ty :=
  iter (k0_t1_loop i w).trips (stp1 arg4 arg5 arg9 arg10 arg11 arg12 arg13 i v21 v23 v25 w h X_arg4 X_arg5 X_arg9 X_arg10 X_arg11 X_arg12) (init, G) k

theorem cst1_zero (i : grid0.Coords) (v21 v23 : FVec F S512x128 .bf16) (v25 : FVec F S80x512 .bf16) (w : BitVec 32) (h : k0_chk1 i w) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (G : BufTy.Contents (Elt F) arg13.view.ty) (init : Acc F) : cst1 arg4 arg5 arg9 arg10 arg11 arg12 arg13 i v21 v23 v25 w h X_arg4 X_arg5 X_arg9 X_arg10 X_arg11 X_arg12 G init 0 = (init, G) := by
  unfold cst1; rfl

theorem cst1_succ (i : grid0.Coords) (v21 v23 : FVec F S512x128 .bf16) (v25 : FVec F S80x512 .bf16) (w : BitVec 32) (h : k0_chk1 i w) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (G : BufTy.Contents (Elt F) arg13.view.ty) (init : Acc F) (k : Fin (k0_t1_loop i w).trips) :
    cst1 arg4 arg5 arg9 arg10 arg11 arg12 arg13 i v21 v23 v25 w h X_arg4 X_arg5 X_arg9 X_arg10 X_arg11 X_arg12 G init (k.val + 1) = stp1 arg4 arg5 arg9 arg10 arg11 arg12 arg13 i v21 v23 v25 w h X_arg4 X_arg5 X_arg9 X_arg10 X_arg11 X_arg12 k (cst1 arg4 arg5 arg9 arg10 arg11 arg12 arg13 i v21 v23 v25 w h X_arg4 X_arg5 X_arg9 X_arg10 X_arg11 X_arg12 G init k.val) := by
  unfold cst1; exact iter_succ _ _ _ k

/-- The state before trip `k` of loop 3: the carried sums and the contents of the accumulated block. -/
@[irreducible] def cst3 (i : grid0.Coords) (v21 v23 : FVec F S512x128 .bf16) (v25 : FVec F S80x512 .bf16) (w : BitVec 32) (h : k0_chk2 i w) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (G : BufTy.Contents (Elt F) arg13.view.ty) (init : Acc F) (k : ℕ) : Acc F × BufTy.Contents (Elt F) arg13.view.ty :=
  iter (k0_t3_loop i w).trips (stp3 arg4 arg5 arg9 arg10 arg11 arg12 arg13 i v21 v23 v25 w h X_arg4 X_arg5 X_arg9 X_arg10 X_arg11 X_arg12) (init, G) k

theorem cst3_zero (i : grid0.Coords) (v21 v23 : FVec F S512x128 .bf16) (v25 : FVec F S80x512 .bf16) (w : BitVec 32) (h : k0_chk2 i w) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (G : BufTy.Contents (Elt F) arg13.view.ty) (init : Acc F) : cst3 arg4 arg5 arg9 arg10 arg11 arg12 arg13 i v21 v23 v25 w h X_arg4 X_arg5 X_arg9 X_arg10 X_arg11 X_arg12 G init 0 = (init, G) := by
  unfold cst3; rfl

theorem cst3_succ (i : grid0.Coords) (v21 v23 : FVec F S512x128 .bf16) (v25 : FVec F S80x512 .bf16) (w : BitVec 32) (h : k0_chk2 i w) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (G : BufTy.Contents (Elt F) arg13.view.ty) (init : Acc F) (k : Fin (k0_t3_loop i w).trips) :
    cst3 arg4 arg5 arg9 arg10 arg11 arg12 arg13 i v21 v23 v25 w h X_arg4 X_arg5 X_arg9 X_arg10 X_arg11 X_arg12 G init (k.val + 1) = stp3 arg4 arg5 arg9 arg10 arg11 arg12 arg13 i v21 v23 v25 w h X_arg4 X_arg5 X_arg9 X_arg10 X_arg11 X_arg12 k (cst3 arg4 arg5 arg9 arg10 arg11 arg12 arg13 i v21 v23 v25 w h X_arg4 X_arg5 X_arg9 X_arg10 X_arg11 X_arg12 G init k.val) := by
  unfold cst3; exact iter_succ _ _ _ k

set_option maxHeartbeats 1000000 in
/-- What holds before trip `k` of loop 1, and that a trip keeps it. -/
@[sl_loop, instance_reducible] def loop1 (c : Dev nD) (E : Set ℕ) (i : grid0.Coords) (arg0 arg1 v9 : BitVec 32) (v21 v23 : FVec F S512x128 .bf16) (v25 : FVec F S80x512 .bf16) (v27 : BitVec 32) (v71 : FVec F S80x512 .f32) (v78 : FVec F S64x512 .f32) (c2_i32_25 v79 : BitVec 32) (v80 : BitVec 1) (v100 : Elt F .i32) (k0_hw1 : k0_chk1 i v100) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (G : BufTy.Contents (Elt F) arg13.view.ty) (init : Acc F) :
    LoopInv (M := 𝕄) Idealize.ShloMosaic.frame (wpE (defs₀ (F := F)) Variants.none (c : Thread nD τ) none) E
    (k0_t1_loop i v100).lb (k0_t1_loop i v100).ub (k0_t1_loop i v100).st (k0_t1_ok i v100 k0_hw1) init (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2_i32_25 v79 v80 v100 k0_hw1) where
  inv k acc := iprop((arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (∃ f, (arg13.view.loc (c : Thread nD τ) ↦[arg13.view.set]{fullShare} f) ∗ ⌜f = (cst1 arg4 arg5 arg9 arg10 arg11 arg12 arg13 i v21 v23 v25 v100 k0_hw1 X_arg4 X_arg5 X_arg9 X_arg10 X_arg11 X_arg12 G init k).2⌝) ∗ ⌜acc = (cst1 arg4 arg5 arg9 arg10 arg11 arg12 arg13 i v21 v23 v25 v100 k0_hw1 X_arg4 X_arg5 X_arg9 X_arg10 X_arg11 X_arg12 G init k).1⌝)
  step k acc := by
    iintro ⟨Harg4, Harg5, Harg9, Harg10, Harg11, Harg12, ⟨%f, HW, %hf⟩, %hacc⟩
    subst hacc hf
    simp only [cst1_succ]
    generalize cst1 arg4 arg5 arg9 arg10 arg11 arg12 arg13 i v21 v23 v25 v100 k0_hw1 X_arg4 X_arg5 X_arg9 X_arg10 X_arg11 X_arg12 G init k.val = s
    unfold k0_t1_body

    sl_exec
    sl_step
    isplitl [Harg4]; · iexact Harg4
    isplitl [Harg5]; · iexact Harg5
    isplitl [Harg9]; · iexact Harg9
    isplitl [Harg10]; · iexact Harg10
    isplitl [Harg11]; · iexact Harg11
    isplitl [Harg12]; · iexact Harg12
    isplitl [HW]
    · iexists _; isplitl [HW]; · iexact HW
      ipureintro; rfl
    ipureintro; rfl

set_option maxHeartbeats 1000000 in
/-- What holds before trip `k` of loop 3, and that a trip keeps it. -/
@[sl_loop, instance_reducible] def loop3 (c : Dev nD) (E : Set ℕ) (i : grid0.Coords) (v9 : BitVec 32) (v21 v23 : FVec F S512x128 .bf16) (v25 : FVec F S80x512 .bf16) (v27 v96 : BitVec 32) (v110 : Elt F .i32) (k0_hw2 : k0_chk2 i v110) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (G : BufTy.Contents (Elt F) arg13.view.ty) (init : Acc F) :
    LoopInv (M := 𝕄) Idealize.ShloMosaic.frame (wpE (defs₀ (F := F)) Variants.none (c : Thread nD τ) none) E
    (k0_t3_loop i v110).lb (k0_t3_loop i v110).ub (k0_t3_loop i v110).st (k0_t3_ok i v110 k0_hw2) init (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 v9 v21 v23 v25 v27 v96 v110 k0_hw2) where
  inv k acc := iprop((arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (∃ f, (arg13.view.loc (c : Thread nD τ) ↦[arg13.view.set]{fullShare} f) ∗ ⌜f = (cst3 arg4 arg5 arg9 arg10 arg11 arg12 arg13 i v21 v23 v25 v110 k0_hw2 X_arg4 X_arg5 X_arg9 X_arg10 X_arg11 X_arg12 G init k).2⌝) ∗ ⌜acc = (cst3 arg4 arg5 arg9 arg10 arg11 arg12 arg13 i v21 v23 v25 v110 k0_hw2 X_arg4 X_arg5 X_arg9 X_arg10 X_arg11 X_arg12 G init k).1⌝)
  step k acc := by
    iintro ⟨Harg4, Harg5, Harg9, Harg10, Harg11, Harg12, ⟨%f, HW, %hf⟩, %hacc⟩
    subst hacc hf
    simp only [cst3_succ]
    generalize cst3 arg4 arg5 arg9 arg10 arg11 arg12 arg13 i v21 v23 v25 v110 k0_hw2 X_arg4 X_arg5 X_arg9 X_arg10 X_arg11 X_arg12 G init k.val = s
    unfold k0_t3_body
    simp only [k0_part1_eq_skeleton, k0_part2_eq_skeleton]; unfold k0_part1_skel k0_part2_skel
    sl_exec
    sl_step
    isplitl [Harg4]; · iexact Harg4
    isplitl [Harg5]; · iexact Harg5
    isplitl [Harg9]; · iexact Harg9
    isplitl [Harg10]; · iexact Harg10
    isplitl [Harg11]; · iexact Harg11
    isplitl [Harg12]; · iexact Harg12
    isplitl [HW]
    · iexists _; isplitl [HW]; · iexact HW
      ipureintro; dsimp only [stp3, stp3b, stp3a]; rw [← View.writes_append]; rfl
    ipureintro; dsimp only [stp3, stp3b, stp3a]

end Cert.KernelIdeal.Own
end
-- ==== Proof.Convert.lean ====
module

public import proofs.«01_k».proof.Proof.Trips

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole)

omit [FloatOps F] in
/-- One store into a buffer that holds `A` leaves it holding `A` overlaid by what is stored. -/
theorem writes_one {κ : Kind} {sp : Space} {s : Shape} {e : EltTy} {m : Memref sig κ sp s e} (h : m.IsWhole) (A : Vec F s e)
    (R : Rect s) (p : R.shape.Idx → Elt F e) :
    m.view.writes (Elt F) (h.unread A) [⟨R, p⟩] = h.unread (R.overlay A p) := by
  refine h.eq_unread (funext fun y => ?_)
  by_cases hy : y ∈ R.set
  · obtain ⟨x, rfl⟩ := R.exists_idx_of_mem hy
    rw [View.read_writes_cons_hit]
    · exact (Rect.overlay_emb R A p x).symm
    · rfl
  · rw [View.read_writes_apply_of_forall_not_mem _ _ y _ (by simpa using hy), h.read_unread,
      Rect.overlay_of_not_mem R A p hy]

omit [FloatOps F] in
theorem readAt_ld {κ : Kind} {sp : Space} {s : Shape} {e : EltTy} {m : Memref sig κ sp s e} (h : m.IsWhole) (A : Vec F s e)
    (R : Rect s) : m.view.readAt (Elt F) R.toLoadRect (h.unread A) = View.ld A R := by
  rw [View.readAt_eq_ld, h.read_unread]

theorem stp1_vec (i : grid0.Coords) (v21 v23 : FVec F S512x128 .bf16) (v25 : FVec F S80x512 .bf16) (w1 : BitVec 32) (h1 : k0_chk1 i w1) (x2 : Vec F S16384x128 .bf16) (x3 : Vec F S128x16384 .bf16) (x7 : Vec F S16384x128 .bf16) (x8 : Vec F S128x16384 .bf16) (x9 : Vec F S1x8x16384 .f32) (x10 : Vec F S1x8x16384 .f32) (k : Fin (k0_t1_loop i w1).trips)
    (a : Acc F) (A : Vec F S128x16384 .f32) :
    stp1 arg4 arg5 arg9 arg10 arg11 arg12 arg13 i v21 v23 v25 w1 h1 (harg4.unread x2) (harg5.unread x3) (harg9.unread x7) (harg10.unread x8) (harg11.unread x9) (harg12.unread x10) k (a, harg13.unread A)
      = (((fun k => narrowV v21 v23 v25 x2 x3 x7 x8 x9 x10 (k0_off6 i w1 k) (k0_off6_inb i w1 h1 k) (k0_off7 i w1 k) (k0_off7_inb i w1 h1 k) (k0_off8 i w1 k) (k0_off8_inb i w1 h1 k) (k0_off9 i w1 k) (k0_off9_inb i w1 h1 k)) k (a, A)).1, harg13.unread ((fun k => narrowV v21 v23 v25 x2 x3 x7 x8 x9 x10 (k0_off6 i w1 k) (k0_off6_inb i w1 h1 k) (k0_off7 i w1 k) (k0_off7_inb i w1 h1 k) (k0_off8 i w1 k) (k0_off8_inb i w1 h1 k) (k0_off9 i w1 k) (k0_off9_inb i w1 h1 k)) k (a, A)).2) := by
  simp only [stp1, narrowV, readAt_ld, writes_one]

theorem stp3_vec (i : grid0.Coords) (v21 v23 : FVec F S512x128 .bf16) (v25 : FVec F S80x512 .bf16) (w2 : BitVec 32) (h2 : k0_chk2 i w2) (x2 : Vec F S16384x128 .bf16) (x3 : Vec F S128x16384 .bf16) (x7 : Vec F S16384x128 .bf16) (x8 : Vec F S128x16384 .bf16) (x9 : Vec F S1x8x16384 .f32) (x10 : Vec F S1x8x16384 .f32) (k : Fin (k0_t3_loop i w2).trips)
    (a : Acc F) (A : Vec F S128x16384 .f32) :
    stp3 arg4 arg5 arg9 arg10 arg11 arg12 arg13 i v21 v23 v25 w2 h2 (harg4.unread x2) (harg5.unread x3) (harg9.unread x7) (harg10.unread x8) (harg11.unread x9) (harg12.unread x10) k (a, harg13.unread A)
      = (((fun k s => wideV v21 v23 v25 x2 x3 x7 x8 x9 x10 (k0_off19 i w2 k) (k0_off19_inb i w2 h2 k) (k0_off20 i w2 k) (k0_off20_inb i w2 h2 k) (k0_off21 i w2 k) (k0_off21_inb i w2 h2 k) (k0_off22 i w2 k) (k0_off22_inb i w2 h2 k) (wideV v21 v23 v25 x2 x3 x7 x8 x9 x10 (k0_off15 i w2 k) (k0_off15_inb i w2 h2 k) (k0_off16 i w2 k) (k0_off16_inb i w2 h2 k) (k0_off17 i w2 k) (k0_off17_inb i w2 h2 k) (k0_off18 i w2 k) (k0_off18_inb i w2 h2 k) s)) k (a, A)).1, harg13.unread ((fun k s => wideV v21 v23 v25 x2 x3 x7 x8 x9 x10 (k0_off19 i w2 k) (k0_off19_inb i w2 h2 k) (k0_off20 i w2 k) (k0_off20_inb i w2 h2 k) (k0_off21 i w2 k) (k0_off21_inb i w2 h2 k) (k0_off22 i w2 k) (k0_off22_inb i w2 h2 k) (wideV v21 v23 v25 x2 x3 x7 x8 x9 x10 (k0_off15 i w2 k) (k0_off15_inb i w2 h2 k) (k0_off16 i w2 k) (k0_off16_inb i w2 h2 k) (k0_off17 i w2 k) (k0_off17_inb i w2 h2 k) (k0_off18 i w2 k) (k0_off18_inb i w2 h2 k) s)) k (a, A)).2) := by
  simp only [stp3, stp3a, stp3b, wideV, readAt_ld, writes_one, pay6_eq, pay11_eq, pay7_eq, pay12_eq, pay8_eq, pay1_eq]

/-- Two runs of the same number of steps stay related when each step keeps the relation. -/
theorem iter_rel {σ ρ : Type} (n : ℕ) (f : Fin n → σ → σ) (g : Fin n → ρ → ρ) (u : ρ → σ) (h : ∀ k r, f k (u r) = u (g k r)) (r : ρ) (k : ℕ) :
    iter n f (u r) k = u (iter n g r k) := by
  induction k with
  | zero => rfl
  | succ k ih =>
    rw [iter.eq_2, iter.eq_2]
    by_cases hk : k < n
    · rw [dif_pos hk, dif_pos hk, ih, h]
    · rw [dif_neg hk, dif_neg hk, ih]

theorem cst1_vec (i : grid0.Coords) (v21 v23 : FVec F S512x128 .bf16) (v25 : FVec F S80x512 .bf16) (w1 : BitVec 32) (h1 : k0_chk1 i w1) (x2 : Vec F S16384x128 .bf16) (x3 : Vec F S128x16384 .bf16) (x7 : Vec F S16384x128 .bf16) (x8 : Vec F S128x16384 .bf16) (x9 : Vec F S1x8x16384 .f32) (x10 : Vec F S1x8x16384 .f32)
    (a : Acc F) (A : Vec F S128x16384 .f32) (k : ℕ) :
    cst1 arg4 arg5 arg9 arg10 arg11 arg12 arg13 i v21 v23 v25 w1 h1 (harg4.unread x2) (harg5.unread x3) (harg9.unread x7) (harg10.unread x8) (harg11.unread x9) (harg12.unread x10) (harg13.unread A) a k
      = ((iter (k0_t1_loop i w1).trips (fun k => narrowV v21 v23 v25 x2 x3 x7 x8 x9 x10 (k0_off6 i w1 k) (k0_off6_inb i w1 h1 k) (k0_off7 i w1 k) (k0_off7_inb i w1 h1 k) (k0_off8 i w1 k) (k0_off8_inb i w1 h1 k) (k0_off9 i w1 k) (k0_off9_inb i w1 h1 k)) (a, A) k).1, harg13.unread (iter (k0_t1_loop i w1).trips (fun k => narrowV v21 v23 v25 x2 x3 x7 x8 x9 x10 (k0_off6 i w1 k) (k0_off6_inb i w1 h1 k) (k0_off7 i w1 k) (k0_off7_inb i w1 h1 k) (k0_off8 i w1 k) (k0_off8_inb i w1 h1 k) (k0_off9 i w1 k) (k0_off9_inb i w1 h1 k)) (a, A) k).2) := by
  unfold cst1
  exact iter_rel _ _ _ (fun r : Acc F × Vec F S128x16384 .f32 => (r.1, harg13.unread r.2))
    (fun k r => stp1_vec arg4 harg4 arg5 harg5 arg9 harg9 arg10 harg10 arg11 harg11 arg12 harg12 arg13 harg13 i v21 v23 v25 w1 h1 x2 x3 x7 x8 x9 x10 k r.1 r.2) (a, A) k

theorem cst3_vec (i : grid0.Coords) (v21 v23 : FVec F S512x128 .bf16) (v25 : FVec F S80x512 .bf16) (w2 : BitVec 32) (h2 : k0_chk2 i w2) (x2 : Vec F S16384x128 .bf16) (x3 : Vec F S128x16384 .bf16) (x7 : Vec F S16384x128 .bf16) (x8 : Vec F S128x16384 .bf16) (x9 : Vec F S1x8x16384 .f32) (x10 : Vec F S1x8x16384 .f32)
    (a : Acc F) (A : Vec F S128x16384 .f32) (k : ℕ) :
    cst3 arg4 arg5 arg9 arg10 arg11 arg12 arg13 i v21 v23 v25 w2 h2 (harg4.unread x2) (harg5.unread x3) (harg9.unread x7) (harg10.unread x8) (harg11.unread x9) (harg12.unread x10) (harg13.unread A) a k
      = ((iter (k0_t3_loop i w2).trips (fun k s => wideV v21 v23 v25 x2 x3 x7 x8 x9 x10 (k0_off19 i w2 k) (k0_off19_inb i w2 h2 k) (k0_off20 i w2 k) (k0_off20_inb i w2 h2 k) (k0_off21 i w2 k) (k0_off21_inb i w2 h2 k) (k0_off22 i w2 k) (k0_off22_inb i w2 h2 k) (wideV v21 v23 v25 x2 x3 x7 x8 x9 x10 (k0_off15 i w2 k) (k0_off15_inb i w2 h2 k) (k0_off16 i w2 k) (k0_off16_inb i w2 h2 k) (k0_off17 i w2 k) (k0_off17_inb i w2 h2 k) (k0_off18 i w2 k) (k0_off18_inb i w2 h2 k) s)) (a, A) k).1, harg13.unread (iter (k0_t3_loop i w2).trips (fun k s => wideV v21 v23 v25 x2 x3 x7 x8 x9 x10 (k0_off19 i w2 k) (k0_off19_inb i w2 h2 k) (k0_off20 i w2 k) (k0_off20_inb i w2 h2 k) (k0_off21 i w2 k) (k0_off21_inb i w2 h2 k) (k0_off22 i w2 k) (k0_off22_inb i w2 h2 k) (wideV v21 v23 v25 x2 x3 x7 x8 x9 x10 (k0_off15 i w2 k) (k0_off15_inb i w2 h2 k) (k0_off16 i w2 k) (k0_off16_inb i w2 h2 k) (k0_off17 i w2 k) (k0_off17_inb i w2 h2 k) (k0_off18 i w2 k) (k0_off18_inb i w2 h2 k) s)) (a, A) k).2) := by
  unfold cst3
  exact iter_rel _ _ _ (fun r : Acc F × Vec F S128x16384 .f32 => (r.1, harg13.unread r.2))
    (fun k r => stp3_vec arg4 harg4 arg5 harg5 arg9 harg9 arg10 harg10 arg11 harg11 arg12 harg12 arg13 harg13 i v21 v23 v25 w2 h2 x2 x3 x7 x8 x9 x10 k r.1 r.2) (a, A) k

end Cert.KernelIdeal.Own
end
-- ==== Proof.Part67.lean ====
module

public import proofs.«01_k».proof.Proof.Convert

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole)

set_option maxHeartbeats 4000000 in
/-- The start of a grid point: the accumulated block, cleared at the first block of keys, and the keys and values. -/
theorem part6_runA (c : Dev nD) (E : Set ℕ) (i : grid0.Coords) (hc : (Scalar.cmpi .ne (Scalar.extui (Scalar.cmpi .eq (BitVec.ofNat 32 (i 1).val) 0#32)) 0#32) = 1#1) (x2 : Vec F S16384x128 .bf16) (x4 : Vec F S512x128 .bf16) (x5 : Vec F S128x512 .bf16) (x6 : Vec F S512x128 .bf16) (A : Vec F S128x16384 .f32) (K : _ → sProp 𝕄) :
    iprop((arg4.view.loc (c : Thread nD τ) ↦[arg4.view.set]{fullShare} (harg4.unread x2)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} (harg8.unread x6)) ∗ (arg13.view.loc (c : Thread nD τ) ↦[arg13.view.set]{fullShare} (harg13.unread A))
      ∗ (∀ a b d e f, iprop((arg4.view.loc (c : Thread nD τ) ↦[arg4.view.set]{fullShare} (harg4.unread x2)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} (harg8.unread x6)) ∗ (arg13.view.loc (c : Thread nD τ) ↦[arg13.view.set]{fullShare} (harg13.unread ((Rect.unit (s := S128x16384) ![0, 0] S128x16384.size inb_S128x16384_S128x16384_0_0).overlay A k0_pay27)))) -∗
          K ⟨a, b, d, k0_pay28 i (View.ld x6 (Rect.unit (s := S512x128) ![0, 0] S512x128.size inb_S512x128_S512x128_0_0)), k0_pay29 (View.ld x4 (Rect.unit (s := S512x128) ![0, 0] S512x128.size inb_S512x128_S512x128_0_0)), k0_pay30 (View.ld x5 (Rect.unit (s := S128x512) ![0, 0] S80x512.size inb_S128x512_S80x512_0_0)), e, k0_pay31, k0_pay32, f, k0_pay33 (View.ld x2 (Rect.unit (s := S16384x128) (k0_off1 i) S512x128.size (k0_off1_inb i))), (constant S512x512 .f32 0x00000000#32)⟩))
      ⊢ wp frame (wpE (defs₀ (F := F)) Variants.none (c : Thread nD τ) none) E (k0_part6 i arg2 harg2 arg3 harg3 arg4 harg4 arg5 harg5 arg6 harg6 arg7 harg7 arg8 harg8 arg9 harg9 arg10 harg10 arg11 harg11 arg12 harg12 arg13 harg13 arg14 harg14 arg15 harg15) K := by
  rw [k0_part6_eq_skeleton]
  unfold k0_part6_skel
  iintro ⟨H4, H6, H7, H8, H13, Hk⟩
  sl_exec (disch := first | sl_exact hc)
  sl_step
  rw [writes_one]
  unfold part6_runA.sl.cst_13
  simp only [readAt_ld]
  iapply Hk
  isplitl [H4]; · iexact H4
  isplitl [H6]; · iexact H6
  isplitl [H7]; · iexact H7
  isplitl [H8]; · iexact H8
  iexact H13

set_option maxHeartbeats 4000000 in
/-- The start of a grid point: the accumulated block, cleared at the first block of keys, and the keys and values. -/
theorem part6_runB (c : Dev nD) (E : Set ℕ) (i : grid0.Coords) (hc : ¬ (Scalar.cmpi .ne (Scalar.extui (Scalar.cmpi .eq (BitVec.ofNat 32 (i 1).val) 0#32)) 0#32) = 1#1) (x2 : Vec F S16384x128 .bf16) (x4 : Vec F S512x128 .bf16) (x5 : Vec F S128x512 .bf16) (x6 : Vec F S512x128 .bf16) (A : Vec F S128x16384 .f32) (K : _ → sProp 𝕄) :
    iprop((arg4.view.loc (c : Thread nD τ) ↦[arg4.view.set]{fullShare} (harg4.unread x2)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} (harg8.unread x6)) ∗ (arg13.view.loc (c : Thread nD τ) ↦[arg13.view.set]{fullShare} (harg13.unread A))
      ∗ (∀ a b d e f, iprop((arg4.view.loc (c : Thread nD τ) ↦[arg4.view.set]{fullShare} (harg4.unread x2)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} (harg8.unread x6)) ∗ (arg13.view.loc (c : Thread nD τ) ↦[arg13.view.set]{fullShare} (harg13.unread A))) -∗
          K ⟨a, b, d, k0_pay28 i (View.ld x6 (Rect.unit (s := S512x128) ![0, 0] S512x128.size inb_S512x128_S512x128_0_0)), k0_pay29 (View.ld x4 (Rect.unit (s := S512x128) ![0, 0] S512x128.size inb_S512x128_S512x128_0_0)), k0_pay30 (View.ld x5 (Rect.unit (s := S128x512) ![0, 0] S80x512.size inb_S128x512_S80x512_0_0)), e, k0_pay31, k0_pay32, f, k0_pay33 (View.ld x2 (Rect.unit (s := S16384x128) (k0_off1 i) S512x128.size (k0_off1_inb i))), (constant S512x512 .f32 0x00000000#32)⟩))
      ⊢ wp frame (wpE (defs₀ (F := F)) Variants.none (c : Thread nD τ) none) E (k0_part6 i arg2 harg2 arg3 harg3 arg4 harg4 arg5 harg5 arg6 harg6 arg7 harg7 arg8 harg8 arg9 harg9 arg10 harg10 arg11 harg11 arg12 harg12 arg13 harg13 arg14 harg14 arg15 harg15) K := by
  rw [k0_part6_eq_skeleton]
  unfold k0_part6_skel
  iintro ⟨H4, H6, H7, H8, H13, Hk⟩
  sl_exec (disch := first | sl_exact hc)
  sl_step

  unfold part6_runB.sl.cst_13
  simp only [readAt_ld]
  iapply Hk
  isplitl [H4]; · iexact H4
  isplitl [H6]; · iexact H6
  isplitl [H7]; · iexact H7
  isplitl [H8]; · iexact H8
  iexact H13

set_option maxHeartbeats 4000000 in
/-- The diagonal block. -/
theorem part7_run (c : Dev nD) (E : Set ℕ) (i : grid0.Coords) (arg1 v9 : BitVec 32) (v21 v23 : FVec F S512x128 .bf16) (v25 : FVec F S80x512 .bf16) (v27 : BitVec 32) (v28 : FVec F S80x512 .f32) (v29 : FVec F S64x512 .f32) (v31 : BitVec 32)
    (x2 : Vec F S16384x128 .bf16) (x3 : Vec F S128x16384 .bf16) (x7 : Vec F S16384x128 .bf16) (x8 : Vec F S128x16384 .bf16) (x9 : Vec F S1x8x16384 .f32) (x10 : Vec F S1x8x16384 .f32) (A : Vec F S128x16384 .f32) (K : _ → sProp 𝕄) :
    iprop((arg4.view.loc (c : Thread nD τ) ↦[arg4.view.set]{fullShare} (harg4.unread x2)) ∗ (arg5.view.loc (c : Thread nD τ) ↦[arg5.view.set]{fullShare} (harg5.unread x3)) ∗ (arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg13.view.loc (c : Thread nD τ) ↦[arg13.view.set]{fullShare} (harg13.unread A))
      ∗ (∀ a b d, iprop((arg4.view.loc (c : Thread nD τ) ↦[arg4.view.set]{fullShare} (harg4.unread x2)) ∗ (arg5.view.loc (c : Thread nD τ) ↦[arg5.view.set]{fullShare} (harg5.unread x3)) ∗ (arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg13.view.loc (c : Thread nD τ) ↦[arg13.view.set]{fullShare} (harg13.unread (diagV v21 v23 v25 x2 x3 x7 x8 x9 x10 i ((v28, v29), A)).2))) -∗
          K ⟨(diagV v21 v23 v25 x2 x3 x7 x8 x9 x10 i ((v28, v29), A)).1.1, (diagV v21 v23 v25 x2 x3 x7 x8 x9 x10 i ((v28, v29), A)).1.2, a, b, d⟩))
      ⊢ wp frame (wpE (defs₀ (F := F)) Variants.none (c : Thread nD τ) none) E (k0_part7 i arg2 harg2 arg3 harg3 arg4 harg4 arg5 harg5 arg6 harg6 arg7 harg7 arg8 harg8 arg9 harg9 arg10 harg10 arg11 harg11 arg12 harg12 arg13 harg13 arg14 harg14 arg15 harg15 arg1 v9 v21 v23 v25 v27 v28 v29 v31 (k0_pay33 (View.ld x2 (Rect.unit (s := S16384x128) (k0_off1 i) S512x128.size (k0_off1_inb i)))) (constant S512x512 .f32 0x00000000#32)) K := by
  rw [k0_part7_eq_skeleton]
  unfold k0_part7_skel
  iintro ⟨H4, H5, H9, H10, H11, H12, H13, Hk⟩
  sl_exec
  sl_step
  rw [writes_one]
  simp only [readAt_ld, diagV]
  iapply Hk
  isplitl [H4]; · iexact H4
  isplitl [H5]; · iexact H5
  isplitl [H9]; · iexact H9
  isplitl [H10]; · iexact H10
  isplitl [H11]; · iexact H11
  isplitl [H12]; · iexact H12
  iexact H13

end Cert.KernelIdeal.Own
end
-- ==== Proof.Part8.lean ====
module

public import proofs.«01_k».proof.Proof.Convert

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole)

set_option maxHeartbeats 4000000 in
/-- The two loops over single blocks, with the words read before and after them. -/
theorem part8_run (c : Dev nD) (E : Set ℕ) (i : grid0.Coords) (arg0 arg1 v9 : BitVec 32) (v21 v23 : FVec F S512x128 .bf16) (v25 : FVec F S80x512 .bf16) (v27 : BitVec 32) (v71 : FVec F S80x512 .f32) (v78 : FVec F S64x512 .f32) (c2_i32_25 v79 : BitVec 32) (v80 : BitVec 1)
    (x0 : Vec F S8x32 .i32) (x1 : Vec F S8x32 .i32) (x2 : Vec F S16384x128 .bf16) (x3 : Vec F S128x16384 .bf16) (x7 : Vec F S16384x128 .bf16) (x8 : Vec F S128x16384 .bf16) (x9 : Vec F S1x8x16384 .f32) (x10 : Vec F S1x8x16384 .f32) (A : Vec F S128x16384 .f32)
    (w1 w2 : BitVec 32) (h1 : k0_chk1 i w1) (h2 : k0_chk2 i w2) (ht2 : (k0_t2_loop i w1).trips = 0)
    (hw1 : ∀ j, View.ld x0 (Rect.unit (s := S8x32) (k0_off5 i) S1x1.size (k0_off5_inb i)) j = w1)
    (hw2 : ∀ j, View.ld x1 (Rect.unit (s := S8x32) (k0_off14 i) S1x1.size (k0_off14_inb i)) j = w2)
    (K : _ → sProp 𝕄) :
    iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg13.view.loc (c : Thread nD τ) ↦[arg13.view.set]{fullShare} (harg13.unread A))
      ∗ (∀ a b d e f g h, iprop((arg2.view.loc (c : Thread nD τ) ↦[arg2.view.set]{fullShare} (harg2.unread x0)) ∗ (arg3.view.loc (c : Thread nD τ) ↦[arg3.view.set]{fullShare} (harg3.unread x1)) ∗ (arg4.view.loc (c : Thread nD τ) ↦[arg4.view.set]{fullShare} (harg4.unread x2)) ∗ (arg5.view.loc (c : Thread nD τ) ↦[arg5.view.set]{fullShare} (harg5.unread x3)) ∗ (arg9.view.loc (c : Thread nD τ) ↦[arg9.view.set]{fullShare} (harg9.unread x7)) ∗ (arg10.view.loc (c : Thread nD τ) ↦[arg10.view.set]{fullShare} (harg10.unread x8)) ∗ (arg11.view.loc (c : Thread nD τ) ↦[arg11.view.set]{fullShare} (harg11.unread x9)) ∗ (arg12.view.loc (c : Thread nD τ) ↦[arg12.view.set]{fullShare} (harg12.unread x10)) ∗ (arg13.view.loc (c : Thread nD τ) ↦[arg13.view.set]{fullShare} (harg13.unread (iter (k0_t1_loop i w1).trips (fun k => narrowV v21 v23 v25 x2 x3 x7 x8 x9 x10 (k0_off6 i w1 k) (k0_off6_inb i w1 h1 k) (k0_off7 i w1 k) (k0_off7_inb i w1 h1 k) (k0_off8 i w1 k) (k0_off8_inb i w1 h1 k) (k0_off9 i w1 k) (k0_off9_inb i w1 h1 k)) ((v71, v78), A) (k0_t1_loop i w1).trips).2))) -∗
          K ⟨a, (iter (k0_t1_loop i w1).trips (fun k => narrowV v21 v23 v25 x2 x3 x7 x8 x9 x10 (k0_off6 i w1 k) (k0_off6_inb i w1 h1 k) (k0_off7 i w1 k) (k0_off7_inb i w1 h1 k) (k0_off8 i w1 k) (k0_off8_inb i w1 h1 k) (k0_off9 i w1 k) (k0_off9_inb i w1 h1 k)) ((v71, v78), A) (k0_t1_loop i w1).trips).1.1, (iter (k0_t1_loop i w1).trips (fun k => narrowV v21 v23 v25 x2 x3 x7 x8 x9 x10 (k0_off6 i w1 k) (k0_off6_inb i w1 h1 k) (k0_off7 i w1 k) (k0_off7_inb i w1 h1 k) (k0_off8 i w1 k) (k0_off8_inb i w1 h1 k) (k0_off9 i w1 k) (k0_off9_inb i w1 h1 k)) ((v71, v78), A) (k0_t1_loop i w1).trips).1.2, w2, h2, b, d, e, f, g, h⟩))
      ⊢ wp frame (wpE (defs₀ (F := F)) Variants.none (c : Thread nD τ) none) E (k0_part8 i arg2 harg2 arg3 harg3 arg4 harg4 arg5 harg5 arg6 harg6 arg7 harg7 arg8 harg8 arg9 harg9 arg10 harg10 arg11 harg11 arg12 harg12 arg13 harg13 arg14 harg14 arg15 harg15 arg0 arg1 v9 v21 v23 v25 v27 v71 v78 c2_i32_25 v79 v80) K := by
  rw [k0_part8_eq_skeleton]
  unfold k0_part8_skel
  iintro ⟨H2, H3, H4, H5, H9, H10, H11, H12, H13, Hk⟩
  sl_exec
  have e1 : part8_run.sl.r arg2 harg2 i x0 = w1 := by unfold part8_run.sl.r; rw [readAt_ld]; exact hw1 _
  generalize part8_run.sl.r arg2 harg2 i x0 = r1 at e1 ⊢
  subst r1
  let L1 := loop1 arg2 harg2 arg3 harg3 arg4 harg4 arg5 harg5 arg6 harg6 arg7 harg7 arg8 harg8 arg9 harg9 arg10 harg10 arg11 harg11 arg12 harg12 arg13 harg13 arg14 harg14 arg15 harg15 c E i arg0 arg1 v9 v21 v23 v25 v27 v71 v78 c2_i32_25 v79 v80 w1 h1 (harg4.unread x2) (harg5.unread x3) (harg9.unread x7) (harg10.unread x8) (harg11.unread x9) (harg12.unread x10) (harg13.unread A) (v71, v78)
  have z1 : harg13.unread A = (cst1 arg4 arg5 arg9 arg10 arg11 arg12 arg13 i v21 v23 v25 w1 h1 (harg4.unread x2) (harg5.unread x3) (harg9.unread x7) (harg10.unread x8) (harg11.unread x9) (harg12.unread x10) (harg13.unread A) (v71, v78) 0).2 := by rw [cst1_zero]
  have z2 : (v71, v78) = (cst1 arg4 arg5 arg9 arg10 arg11 arg12 arg13 i v21 v23 v25 w1 h1 (harg4.unread x2) (harg5.unread x3) (harg9.unread x7) (harg10.unread x8) (harg11.unread x9) (harg12.unread x10) (harg13.unread A) (v71, v78) 0).1 := by rw [cst1_zero]
  sl_exec (disch := first | sl_exact h1)
  clear L1 z1 z2
  rw [cst1_vec]
  have e2 : part8_run.sl.r_1 arg3 harg3 i x1 = w2 := by unfold part8_run.sl.r_1; rw [readAt_ld]; exact hw2 _
  generalize part8_run.sl.r_1 arg3 harg3 i x1 = r2 at e2 ⊢
  subst r2
  sl_exec (disch := first | sl_exact h2)
  sl_step
  iapply Hk
  isplitl [H2]; · iexact H2
  isplitl [H3]; · iexact H3
  isplitl [H4]; · iexact H4
  isplitl [H5]; · iexact H5
  isplitl [H9]; · iexact H9
  isplitl [H10]; · iexact H10
  isplitl [H11]; · iexact H11
  isplitl [H12]; · iexact H12
  iexact H13

end Cert.KernelIdeal.Own
end
-- ==== Proof.Body.lean ====
module

public import proofs.«01_k».proof.Proof.Part67
public import proofs.«01_k».proof.Proof.Part8

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (arg2 : Memref sig .tc .smem S8x32 .i32) (harg2 : arg2.IsWhole) (arg3 : Memref sig .tc .smem S8x32 .i32) (harg3 : arg3.IsWhole) (arg4 : Memref sig .tc .vmem S16384x128 .bf16) (harg4 : arg4.IsWhole) (arg5 : Memref sig .tc .vmem S128x16384 .bf16) (harg5 : arg5.IsWhole) (arg6 : Memref sig .tc .vmem S512x128 .bf16) (harg6 : arg6.IsWhole) (arg7 : Memref sig .tc .vmem S128x512 .bf16) (harg7 : arg7.IsWhole) (arg8 : Memref sig .tc .vmem S512x128 .bf16) (harg8 : arg8.IsWhole) (arg9 : Memref sig .tc .vmem S16384x128 .bf16) (harg9 : arg9.IsWhole) (arg10 : Memref sig .tc .vmem S128x16384 .bf16) (harg10 : arg10.IsWhole) (arg11 : Memref sig .tc .vmem S1x8x16384 .f32) (harg11 : arg11.IsWhole) (arg12 : Memref sig .tc .vmem S1x8x16384 .f32) (harg12 : arg12.IsWhole) (arg13 : Memref sig .tc .vmem S128x16384 .f32) (harg13 : arg13.IsWhole) (arg14 : Memref sig .tc .vmem S128x512 .f32) (harg14 : arg14.IsWhole) (arg15 : Memref sig .tc .vmem S64x512 .f32) (harg15 : arg15.IsWhole)

/-- The accumulated block at the start of a grid point: cleared when its head begins. -/
def startV (i : grid0.Coords) (A : Vec F S128x16384 .f32) : Vec F S128x16384 .f32 :=
  if (Scalar.cmpi .ne (Scalar.extui (Scalar.cmpi .eq (BitVec.ofNat 32 (i 1).val) 0#32)) 0#32) = 1#1 then (Rect.unit (s := S128x16384) ![0, 0] S128x16384.size inb_S128x16384_S128x16384_0_0).overlay A k0_pay27 else A

/-- The two stores that make up the block of `dk`: the sum over the first 80 rows, zeros below. -/
abbrev dkPieces (s : FVec F S80x512 .f32) : List (View.Piece (Elt F) S128x512 .f32) :=
  [⟨Rect.unit (s := S128x512) ![80, 0] S48x512.size inb_S128x512_S48x512_80_0, k0_pay3⟩,
   ⟨Rect.unit (s := S128x512) ![0, 0] S80x512.size inb_S128x512_S80x512_0_0, s⟩]

/-- The one store of the block of `dv`. -/
abbrev dvPieces (s : FVec F S64x512 .f32) : List (View.Piece (Elt F) S64x512 .f32) :=
  [⟨Rect.unit (s := S64x512) ![0, 0] S64x512.size inb_S64x512_S64x512_0_0, s⟩]

theorem dk_cover (s : FVec F S80x512 .f32) (y : S128x512.Idx) : ∃ p ∈ dkPieces s, y ∈ p.1.set := by
  have h1 : (y 1).val < 512 := (y 1).isLt
  have h0 : (y 0).val < 128 := (y 0).isLt
  by_cases h : (y 0).val < 80
  · refine ⟨⟨Rect.unit (s := S128x512) ![0, 0] S80x512.size inb_S128x512_S80x512_0_0, s⟩, List.mem_cons_of_mem _ (List.mem_singleton.mpr rfl), (Rect.mem_set_unit (s := S128x512) (off := ![0, 0]) (size := S80x512.size) (inb := inb_S128x512_S80x512_0_0)).mpr fun a => ?_⟩
    fin_cases a
    · exact ⟨Nat.zero_le _, by simpa using h⟩
    · exact ⟨Nat.zero_le _, by simpa using h1⟩
  · refine ⟨⟨Rect.unit (s := S128x512) ![80, 0] S48x512.size inb_S128x512_S48x512_80_0, k0_pay3⟩, List.mem_cons_self, (Rect.mem_set_unit (s := S128x512) (off := ![80, 0]) (size := S48x512.size) (inb := inb_S128x512_S48x512_80_0)).mpr fun a => ?_⟩
    fin_cases a
    · exact ⟨by simpa using h, by simpa using h0⟩
    · exact ⟨Nat.zero_le _, by simpa using h1⟩

theorem dv_cover (s : FVec F S64x512 .f32) (y : S64x512.Idx) : ∃ p ∈ dvPieces s, y ∈ p.1.set := by
  have h1 : (y 1).val < 512 := (y 1).isLt
  have h0 : (y 0).val < 64 := (y 0).isLt
  refine ⟨⟨Rect.unit (s := S64x512) ![0, 0] S64x512.size inb_S64x512_S64x512_0_0, s⟩, List.mem_singleton.mpr rfl, (Rect.mem_set_unit (s := S64x512) (off := ![0, 0]) (size := S64x512.size) (inb := inb_S64x512_S64x512_0_0)).mpr fun a => ?_⟩
  fin_cases a
  · exact ⟨Nat.zero_le _, by simpa using h0⟩
  · exact ⟨Nat.zero_le _, by simpa using h1⟩

def dkOut (s : FVec F S80x512 .f32) : Vec F S128x512 .f32 := View.canon (dkPieces s)
def dvOut (s : FVec F S64x512 .f32) : Vec F S64x512 .f32 := View.canon (dvPieces s)

/-- The start of a grid point, whether its head begins or not. -/
theorem part6_run (c : Dev nD) (E : Set ℕ) (i : grid0.Coords) (x2 : Vec F S16384x128 .bf16) (x4 : Vec F S512x128 .bf16) (x5 : Vec F S128x512 .bf16) (x6 : Vec F S512x128 .bf16) (A : Vec F S128x16384 .f32) (K : _ → sProp 𝕄) :
    iprop((arg4.view.loc (c : Thread nD τ) ↦[arg4.view.set]{fullShare} (harg4.unread x2)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} (harg8.unread x6)) ∗ (arg13.view.loc (c : Thread nD τ) ↦[arg13.view.set]{fullShare} (harg13.unread A))
      ∗ (∀ a b d e f, iprop((arg4.view.loc (c : Thread nD τ) ↦[arg4.view.set]{fullShare} (harg4.unread x2)) ∗ (arg6.view.loc (c : Thread nD τ) ↦[arg6.view.set]{fullShare} (harg6.unread x4)) ∗ (arg7.view.loc (c : Thread nD τ) ↦[arg7.view.set]{fullShare} (harg7.unread x5)) ∗ (arg8.view.loc (c : Thread nD τ) ↦[arg8.view.set]{fullShare} (harg8.unread x6)) ∗ (arg13.view.loc (c : Thread nD τ) ↦[arg13.view.set]{fullShare} (harg13.unread (startV i A)))) -∗
          K ⟨a, b, d, k0_pay28 i (View.ld x6 (Rect.unit (s := S512x128) ![0, 0] S512x128.size inb_S512x128_S512x128_0_0)), k0_pay29 (View.ld x4 (Rect.unit (s := S512x128) ![0, 0] S512x128.size inb_S512x128_S512x128_0_0)), k0_pay30 (View.ld x5 (Rect.unit (s := S128x512) ![0, 0] S80x512.size inb_S128x512_S80x512_0_0)), e, k0_pay31, k0_pay32, f, k0_pay33 (View.ld x2 (Rect.unit (s := S16384x128) (k0_off1 i) S512x128.size (k0_off1_inb i))), (constant S512x512 .f32 0x00000000#32)⟩))
      ⊢ wp frame (wpE (defs₀ (F := F)) Variants.none (c : Thread nD τ) none) E (k0_part6 i arg2 harg2 arg3 harg3 arg4 harg4 arg5 harg5 arg6 harg6 arg7 harg7 arg8 harg8 arg9 harg9 arg10 harg10 arg11 harg11 arg12 harg12 arg13 harg13 arg14 harg14 arg15 harg15) K := by
  by_cases hc : (Scalar.cmpi .ne (Scalar.extui (Scalar.cmpi .eq (BitVec.ofNat 32 (i 1).val) 0#32)) 0#32) = 1#1
  · rw [startV, if_pos hc]; exact part6_runA arg2 harg2 arg3 harg3 arg4 harg4 arg5 harg5 arg6 harg6 arg7 harg7 arg8 harg8 arg9 harg9 arg10 harg10 arg11 harg11 arg12 harg12 arg13 harg13 arg14 harg14 arg15 harg15 c E i hc x2 x4 x5 x6 A K
  · rw [startV, if_neg hc]; exact part6_runB arg2 harg2 arg3 harg3 arg4 harg4 arg5 harg5 arg6 harg6 arg7 harg7 arg8 harg8 arg9 harg9 arg10 harg10 arg11 harg11 arg12 harg12 arg13 harg13 arg14 harg14 arg15 harg15 c E i hc x2 x4 x5 x6 A K

set_option maxHeartbeats 8000000 in
/-- One grid point of the kernel. -/
theorem body_run (c : Dev nD) (E : Set ℕ) (i : grid0.Coords) (x0 : Vec F S8x32 .i32) (x1 : Vec F S8x32 .i32) (x2 : Vec F S16384x128 .bf16) (x3 : Vec F S128x16384 .bf16) (x4 : Vec F S512x128 .bf16) (x5 : Vec F S128x512 .bf16) (x6 : Vec F S512x128 .bf16) (x7 : Vec F S16384x128 .bf16) (x8 : Vec F S128x16384 .bf16) (x9 : Vec F S1x8x16384 .f32) (x10 : Vec F S1x8x16384 .f32) (A : Vec F S128x16384 .f32)
    (w1 w2 : BitVec 32) (h1 : k0_chk1 i w1) (h2 : k0_chk2 i w2) (ht2 : (k0_t2_loop i w1).trips = 0) (ht4 : (k0_t4_loop i w2).trips = 0)
    (hw1 : ∀ j, View.ld x0 (Rect.unit (s := S8x32) (k0_off5 i) S1x1.size (k0_off5_inb i)) j = w1)
    (hw2 : ∀ j, View.ld x1 (Rect.unit (s := S8x32) (k0_off14 i) S1x1.size (k0_off14_inb i)) j = w2)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare A ∗ (∃ d, owns (c : Thread nD τ) arg14 fullShare d) ∗ (∃ d, owns (c : Thread nD τ) arg15 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (bodyV (k0_pay28 i (View.ld x6 (Rect.unit (s := S512x128) ![0, 0] S512x128.size inb_S512x128_S512x128_0_0))) (k0_pay29 (View.ld x4 (Rect.unit (s := S512x128) ![0, 0] S512x128.size inb_S512x128_S512x128_0_0))) (k0_pay30 (View.ld x5 (Rect.unit (s := S128x512) ![0, 0] S80x512.size inb_S128x512_S80x512_0_0))) x2 x3 x7 x8 x9 x10 i w1 w2 h1 h2 (startV i A)).2 ∗ owns (c : Thread nD τ) arg14 fullShare (dkOut (bodyV (k0_pay28 i (View.ld x6 (Rect.unit (s := S512x128) ![0, 0] S512x128.size inb_S512x128_S512x128_0_0))) (k0_pay29 (View.ld x4 (Rect.unit (s := S512x128) ![0, 0] S512x128.size inb_S512x128_S512x128_0_0))) (k0_pay30 (View.ld x5 (Rect.unit (s := S128x512) ![0, 0] S80x512.size inb_S128x512_S80x512_0_0))) x2 x3 x7 x8 x9 x10 i w1 w2 h1 h2 (startV i A)).1.1) ∗ owns (c : Thread nD τ) arg15 fullShare (dvOut (bodyV (k0_pay28 i (View.ld x6 (Rect.unit (s := S512x128) ![0, 0] S512x128.size inb_S512x128_S512x128_0_0))) (k0_pay29 (View.ld x4 (Rect.unit (s := S512x128) ![0, 0] S512x128.size inb_S512x128_S512x128_0_0))) (k0_pay30 (View.ld x5 (Rect.unit (s := S128x512) ![0, 0] S80x512.size inb_S128x512_S80x512_0_0))) x2 x3 x7 x8 x9 x10 i w1 w2 h1 h2 (startV i A)).1.2)) -∗ K ⟨⟩))
      ⊢ wp frame (wpE (defs₀ (F := F)) Variants.none (c : Thread nD τ) none) E (cc0_fox_bwd i arg2 harg2 arg3 harg3 arg4 harg4 arg5 harg5 arg6 harg6 arg7 harg7 arg8 harg8 arg9 harg9 arg10 harg10 arg11 harg11 arg12 harg12 arg13 harg13 arg14 harg14 arg15 harg15) K := by
  rw [cc0_fox_bwd_eq_skeleton]
  unfold cc0_fox_bwd_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  rw [wp_bind]
  iapply (part6_run arg2 harg2 arg3 harg3 arg4 harg4 arg5 harg5 arg6 harg6 arg7 harg7 arg8 harg8 arg9 harg9 arg10 harg10 arg11 harg11 arg12 harg12 arg13 harg13 arg14 harg14 arg15 harg15 c E i x2 x4 x5 x6 A _)
  isplitl [H4]; · iexact H4
  isplitl [H6]; · iexact H6
  isplitl [H7]; · iexact H7
  isplitl [H8]; · iexact H8
  isplitl [H13]; · iexact H13
  iintro %a %b %d %e %f ⟨H4, H6, H7, H8, H13⟩
  dsimp only
  rw [wp_bind]
  iapply (part7_run arg2 harg2 arg3 harg3 arg4 harg4 arg5 harg5 arg6 harg6 arg7 harg7 arg8 harg8 arg9 harg9 arg10 harg10 arg11 harg11 arg12 harg12 arg13 harg13 arg14 harg14 arg15 harg15 c E i _ _ _ _ _ _ _ _ _ x2 x3 x7 x8 x9 x10 (startV i A) _)
  isplitl [H4]; · iexact H4
  isplitl [H5]; · iexact H5
  isplitl [H9]; · iexact H9
  isplitl [H10]; · iexact H10
  isplitl [H11]; · iexact H11
  isplitl [H12]; · iexact H12
  isplitl [H13]; · iexact H13
  iintro %a' %b' %d' ⟨H4, H5, H9, H10, H11, H12, H13⟩
  dsimp only
  rw [wp_bind]
  iapply (part8_run arg2 harg2 arg3 harg3 arg4 harg4 arg5 harg5 arg6 harg6 arg7 harg7 arg8 harg8 arg9 harg9 arg10 harg10 arg11 harg11 arg12 harg12 arg13 harg13 arg14 harg14 arg15 harg15 c E i _ _ _ _ _ _ _ _ _ _ _ _ x0 x1 x2 x3 x7 x8 x9 x10 _ w1 w2 h1 h2 ht2 hw1 hw2 _)
  isplitl [H2]; · iexact H2
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H13]; · iexact H13
  iintro %a2 %b2 %d2 %e2 %f2 %g2 %z2 ⟨H2, H3, H4, H5, H9, H10, H11, H12, H13⟩
  dsimp only
  unfold bodyV
  dsimp only
  generalize hs2 : iter (k0_t1_loop i w1).trips (fun k => narrowV (k0_pay28 i (View.ld x6 (Rect.unit (s := S512x128) ![0, 0] S512x128.size inb_S512x128_S512x128_0_0))) (k0_pay29 (View.ld x4 (Rect.unit (s := S512x128) ![0, 0] S512x128.size inb_S512x128_S512x128_0_0))) (k0_pay30 (View.ld x5 (Rect.unit (s := S128x512) ![0, 0] S80x512.size inb_S128x512_S80x512_0_0))) x2 x3 x7 x8 x9 x10 (k0_off6 i w1 k) (k0_off6_inb i w1 h1 k) (k0_off7 i w1 k) (k0_off7_inb i w1 h1 k) (k0_off8 i w1 k) (k0_off8_inb i w1 h1 k) (k0_off9 i w1 k) (k0_off9_inb i w1 h1 k)) _ (k0_t1_loop i w1).trips = s2
  have z1 : harg13.unread s2.2 = (cst3 arg4 arg5 arg9 arg10 arg11 arg12 arg13 i (k0_pay28 i (View.ld x6 (Rect.unit (s := S512x128) ![0, 0] S512x128.size inb_S512x128_S512x128_0_0))) (k0_pay29 (View.ld x4 (Rect.unit (s := S512x128) ![0, 0] S512x128.size inb_S512x128_S512x128_0_0))) (k0_pay30 (View.ld x5 (Rect.unit (s := S128x512) ![0, 0] S80x512.size inb_S128x512_S80x512_0_0))) w2 h2 (harg4.unread x2) (harg5.unread x3) (harg9.unread x7) (harg10.unread x8) (harg11.unread x9) (harg12.unread x10) (harg13.unread s2.2) (s2.1.1, s2.1.2) 0).2 := by rw [cst3_zero]
  have z2 : (s2.1.1, s2.1.2) = (cst3 arg4 arg5 arg9 arg10 arg11 arg12 arg13 i (k0_pay28 i (View.ld x6 (Rect.unit (s := S512x128) ![0, 0] S512x128.size inb_S512x128_S512x128_0_0))) (k0_pay29 (View.ld x4 (Rect.unit (s := S512x128) ![0, 0] S512x128.size inb_S512x128_S512x128_0_0))) (k0_pay30 (View.ld x5 (Rect.unit (s := S128x512) ![0, 0] S80x512.size inb_S128x512_S80x512_0_0))) w2 h2 (harg4.unread x2) (harg5.unread x3) (harg9.unread x7) (harg10.unread x8) (harg11.unread x9) (harg12.unread x10) (harg13.unread s2.2) (s2.1.1, s2.1.2) 0).1 := by rw [cst3_zero]
  let L3 := loop3 arg2 harg2 arg3 harg3 arg4 harg4 arg5 harg5 arg6 harg6 arg7 harg7 arg8 harg8 arg9 harg9 arg10 harg10 arg11 harg11 arg12 harg12 arg13 harg13 arg14 harg14 arg15 harg15 c E i d (k0_pay28 i (View.ld x6 (Rect.unit (s := S512x128) ![0, 0] S512x128.size inb_S512x128_S512x128_0_0))) (k0_pay29 (View.ld x4 (Rect.unit (s := S512x128) ![0, 0] S512x128.size inb_S512x128_S512x128_0_0))) (k0_pay30 (View.ld x5 (Rect.unit (s := S128x512) ![0, 0] S80x512.size inb_S128x512_S80x512_0_0))) e a2 w2 h2 (harg4.unread x2) (harg5.unread x3) (harg9.unread x7) (harg10.unread x8) (harg11.unread x9) (harg12.unread x10) (harg13.unread s2.2) (s2.1.1, s2.1.2)
  sl_exec
  clear L3 z1 z2
  rw [cst3_vec]
  generalize hs3 : iter (k0_t3_loop i w2).trips _ _ _ = s3
  by_cases hc2 : k0_cond2 i w2 = 1#1
  · sl_exec (disch := first | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr
      swap; · iexact H13
      ipureintro
      rw [writes_one]; refine (harg13.read_unread _).trans ?_; unfold body_run.sl.v159; unfold body_run.sl.v164; unfold body_run.sl.v170; unfold body_run.sl.v175; unfold body_run.sl.v182; simp only [readAt_ld, wideV]
    isplitl [H14]
    · iexists _; isplitr
      swap; · iexact H14
      ipureintro
      refine (View.read_writes_eq_canon _ _ _ (dk_cover _)).trans (congrArg (fun s => View.canon (dkPieces s)) ?_)
      unfold body_run.sl.r; unfold body_run.sl.v159; unfold body_run.sl.v164; unfold body_run.sl.v170; unfold body_run.sl.v175; unfold body_run.sl.v189; simp only [readAt_ld, wideV]
    iexists _; isplitr
    swap; · iexact H15
    ipureintro
    refine (View.read_writes_eq_canon _ _ _ (dv_cover _)).trans (congrArg (fun s => View.canon (dvPieces s)) ?_)
    unfold body_run.sl.r_1; unfold body_run.sl.v159; unfold body_run.sl.v164; unfold body_run.sl.v195; simp only [readAt_ld, wideV]
  · sl_exec (disch := first | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr
      swap; · iexact H13
      ipureintro
      exact harg13.read_unread _
    isplitl [H14]
    · iexists _; isplitr
      swap; · iexact H14
      ipureintro
      refine (View.read_writes_eq_canon _ _ _ (dk_cover _)).trans (congrArg (fun s => View.canon (dkPieces s)) ?_)
      rfl
    iexists _; isplitr
    swap; · iexact H15
    ipureintro
    refine (View.read_writes_eq_canon _ _ _ (dv_cover _)).trans (congrArg (fun s => View.canon (dvPieces s)) ?_)
    rfl

end Cert.KernelIdeal.Own
end
-- ==== Proof.Words.lean ====
module

public import proofs.«01_k».proof.Proof.Steps

@[expose] public section

set_option maxRecDepth 16384

noncomputable section

namespace Cert.KernelIdeal.Own

open Idealize.ShloMosaic Idealize.ShloMosaic.TcCoe

/-- The end of the range of narrow blocks at a grid point, no block pruned. -/
def W1 (i : grid0.Coords) : BitVec 32 := BitVec.ofNat 32 (((i 1).val / 2 + 1) * 2)
/-- The end of the range of wide blocks. -/
def W2 : BitVec 32 := 16#32

theorem chk1 : ∀ t : Fin grid0.N, k0_chk1 (grid0.coords t) (W1 (grid0.coords t)) := by decide +kernel
theorem chk2 : ∀ t : Fin grid0.N, k0_chk2 (grid0.coords t) W2 := by decide +kernel
theorem trips1 : ∀ t : Fin grid0.N, (k0_t1_loop (grid0.coords t) (W1 (grid0.coords t))).trips = (t.val + 1) % 2 := by decide +kernel
theorem trips2 : ∀ t : Fin grid0.N, (k0_t2_loop (grid0.coords t) (W1 (grid0.coords t))).trips = 0 := by decide +kernel
theorem trips3 : ∀ t : Fin grid0.N, (k0_t3_loop (grid0.coords t) W2).trips = (15 - t.val % 32 / 2) / 2 := by decide +kernel
theorem trips4 : ∀ t : Fin grid0.N, (k0_t4_loop (grid0.coords t) W2).trips = 0 := by decide +kernel
theorem cond2 : ∀ t : Fin grid0.N, k0_cond2 (grid0.coords t) W2 = 1#1 ↔ (t.val % 32 / 2) % 2 = 0 := by decide +kernel

end Cert.KernelIdeal.Own
end
-- ==== Proof.WVals.lean ====
module

public import proofs.«01_k».proof.Proof.Words
public import proofs.«01_k».proof.Proof.Gen.KernelIdeal.Frame
public import Idealize.ShloMosaic.Lib.StableHlo.RunRead
public import Idealize.ShloMosaic.Lib.Pipeline.ValueKit

@[expose] public section

set_option maxRecDepth 16384

noncomputable section

namespace Cert.KernelIdeal.Own

open Idealize.ShloMosaic Idealize.ShloMosaic.TcCoe Idealize.ShloMosaic.StableHlo
open Cert.KernelIdeal Cert.KernelIdeal.Gen

variable {F : FTy → Type} [FloatOps F]
variable (m : (ℓ : Loc nD τ sig) → Buf (Elt F) ℓ)

theorem word1 (n : ℕ) (hn : n < 32) : (((BitVec.ofNat 32 n).sshiftRight 1 + 1#32) * 2#32) = BitVec.ofNat 32 ((n / 2 + 1) * 2) :=
  (by decide +kernel : ∀ n : Fin 32, (((BitVec.ofNat 32 n.val).sshiftRight 1 + 1#32) * 2#32) = BitVec.ofNat 32 ((n.val / 2 + 1) * 2)) ⟨n, hn⟩

set_option maxHeartbeats 4000000 in
theorem V82 (c : Dev nD) (j : S8x32.Idx) : (V m c main_v82 : Vec F S8x32 .i32) j = BitVec.ofNat 32 (((j 1).val / 2 + 1) * 2) := by
  simp only [V, V0]
  simp only [List.flatten_cons, List.flatten_nil, List.cons_append, List.nil_append, List.append_nil]
  after_reads_simp
  exact word1 _ (j 1).isLt

set_option maxHeartbeats 4000000 in
theorem V83 (c : Dev nD) (j : S8x32.Idx) : (V m c main_v83 : Vec F S8x32 .i32) j = 16#32 := by
  simp only [V, V0]
  simp only [List.flatten_cons, List.flatten_nil, List.cons_append, List.nil_append, List.append_nil]
  after_reads_simp
  rfl

theorem hw1 (c : Dev nD) (t : Fin cfg0.N) (j) :
    View.ld (iblk m c 0 t) (Rect.unit (s := S8x32) (k0_off5 (grid0.coords t)) S1x1.size (k0_off5_inb (grid0.coords t))) j = W1 (grid0.coords t) := by
  refine (V82 m c _).trans ?_
  unfold W1
  congr 4
  blk_simp
  have h0 : win0_0.index t 1 = 0 := rfl
  have h1 : (((Rect.unit (s := S8x32) (k0_off5 (grid0.coords t)) S1x1.size (k0_off5_inb (grid0.coords t))).idx j 1 : Fin _) : ℕ) = k0_off5 (grid0.coords t) 1 + 1 * (j 1).val := rfl
  have h2 : (j 1).val < 1 := (j 1).isLt
  have h3 : k0_off5 (grid0.coords t) 1 = (grid0.coords t 1).val := by rw [k0_off5_eq]; rfl
  rw [h0, h1, h3]; omega

theorem hw2 (c : Dev nD) (t : Fin cfg0.N) (j) :
    View.ld (iblk m c 1 t) (Rect.unit (s := S8x32) (k0_off14 (grid0.coords t)) S1x1.size (k0_off14_inb (grid0.coords t))) j = W2 :=
  V83 m c _

end Cert.KernelIdeal.Own
end
-- ==== Proof.Run.lean ====
module

public import proofs.«01_k».proof.Proof.Body
public import proofs.«01_k».proof.Proof.WVals
public import proofs.«01_k».proof.Proof.Gen.KernelIdeal.Frame
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a grid point makes of the accumulated block `A`: the sums for its block of keys, and the block. -/
def pointV (c : Dev nD) (t : Fin cfg0.N) (A : Vec F S128x16384 .f32) : Acc F × Vec F S128x16384 .f32 :=
  bodyV (k0_pay28 (grid0.coords t) (View.ld (iblk m c 6 t) (Rect.unit (s := S512x128) ![0, 0] S512x128.size inb_S512x128_S512x128_0_0))) (k0_pay29 (View.ld (iblk m c 4 t) (Rect.unit (s := S512x128) ![0, 0] S512x128.size inb_S512x128_S512x128_0_0))) (k0_pay30 (View.ld (iblk m c 5 t) (Rect.unit (s := S128x512) ![0, 0] S80x512.size inb_S128x512_S80x512_0_0)))
    (iblk m c 2 t) (iblk m c 3 t) (iblk m c 7 t) (iblk m c 8 t) (iblk m c 9 t) (iblk m c 10 t)
    (grid0.coords t) (W1 (grid0.coords t)) W2 (chk1 t) (chk2 t) (startV (grid0.coords t) A)

/-- The accumulated block and the sums after point `n`. -/
def after0 (c : Dev nD) : (n : ℕ) → n < cfg0.N → Acc F × Vec F S128x16384 .f32
  | 0, hn => pointV m c ⟨0, hn⟩ (constant S128x16384 .f32 0x00000000#32)
  | n + 1, hn => pointV m c ⟨n + 1, hn⟩ (after0 c n (Nat.lt_of_succ_lt hn)).2

theorem start_eq : ∀ t : Fin grid0.N, ((Scalar.cmpi .ne (Scalar.extui (Scalar.cmpi .eq (BitVec.ofNat 32 (grid0.coords t 1).val) 0#32)) 0#32) = 1#1) ↔ t.val % 32 = 0 := by
  decide +kernel

/-- At the first point of a head what the block held before does not matter. -/
theorem pointV_first (c : Dev nD) (t : Fin cfg0.N) (h : t.val % 32 = 0) (A B : Vec F S128x16384 .f32) : pointV m c t A = pointV m c t B := by
  have e : startV (grid0.coords t) A = startV (grid0.coords t) B := by
    have hc := (start_eq t).mpr h
    rw [startV, startV, if_pos hc, if_pos hc]
    funext y
    have h1 : (y 1).val < 16384 := (y 1).isLt
    have h0 : (y 0).val < 128 := (y 0).isLt
    have hy : y ∈ (Rect.unit (s := S128x16384) ![0, 0] S128x16384.size inb_S128x16384_S128x16384_0_0).set := by
      refine (Rect.mem_set_unit (s := S128x16384) (off := ![0, 0]) (size := S128x16384.size) (inb := inb_S128x16384_S128x16384_0_0)).mpr fun a => ?_
      fin_cases a
      · exact ⟨Nat.zero_le _, by simpa using h0⟩
      · exact ⟨Nat.zero_le _, by simpa using h1⟩
    obtain ⟨x, rfl⟩ := LoadRect.exists_idx_of_mem (Rect.toLoadRect _) hy
    exact (Rect.overlay_emb _ _ _ x).trans (Rect.overlay_emb _ _ _ x).symm
  unfold pointV; rw [e]

theorem after0_first (c : Dev nD) (t : Fin cfg0.N) (h : t.val % 32 = 0) (A : Vec F S128x16384 .f32) : after0 m c t.val t.isLt = pointV m c t A := by
  obtain ⟨n, hn⟩ := t
  cases n with
  | zero => exact pointV_first m c _ h _ _
  | succ n => exact pointV_first m c _ h _ _

theorem after0_next (c : Dev nD) (t : Fin cfg0.N) (h : ¬t.val % 32 = 0) :
    after0 m c t.val t.isLt = pointV m c t (after0 m c (t.val - 1) (Nat.lt_of_le_of_lt (Nat.sub_le _ _) t.isLt)).2 := by
  obtain ⟨n, hn⟩ := t
  cases n with
  | zero => exact absurd (Nat.zero_mod _) h
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (after0 m c t.val t.isLt).2
    | ⟨12, _⟩ => dkOut (after0 m c t.val t.isLt).1.1
    | ⟨13, _⟩ => dvOut (after0 m c t.val t.isLt).1.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (after0 m c t.val t.isLt).2 := by dsimp only [dats]
theorem after0_12 (c : Dev nD) (t : Fin cfg0.N) : (dats m 0 c).after 12 t = dkOut (after0 m c t.val t.isLt).1.1 := by dsimp only [dats]
theorem after0_13 (c : Dev nD) (t : Fin cfg0.N) : (dats m 0 c).after 13 t = dvOut (after0 m c t.val t.isLt).1.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem before0_11 (c : Dev nD) (t : Fin cfg0.N) (h0 : ¬t.val % 32 = 0) (d) :
    (dats m 0 c).before 11 t d = (after0 m c (t.val - 1) (Nat.lt_of_le_of_lt (Nat.sub_le _ _) t.isLt)).2 := by
  have hN : t.val < 256 := lt_of_lt_of_eq t.isLt (show cfg0.N = 256 from N_0)
  rw [Dat.before_out_kept _ 11 rfl t (by omega) (Bool.eq_false_iff.mpr fun h => by have := (flush0_11 _).mp h; dsimp only at this; omega)
    (fun _ => rfl) (fun _ _ => rfl)]
  dsimp only [dats]

/-- The staging buffer of window 0 at a point. -/
abbrev ms0_0 (t : Fin cfg0.N) : Memref sig .tc .smem S8x32 .i32 := win0_0.stage (cfg0.slots t 0)
/-- The staging buffer of window 1 at a point. -/
abbrev ms0_1 (t : Fin cfg0.N) : Memref sig .tc .smem S8x32 .i32 := win0_1.stage (cfg0.slots t 1)
/-- The staging buffer of window 2 at a point. -/
abbrev ms0_2 (t : Fin cfg0.N) : Memref sig .tc .vmem S16384x128 .bf16 := win0_2.stage (cfg0.slots t 2)
/-- The staging buffer of window 3 at a point. -/
abbrev ms0_3 (t : Fin cfg0.N) : Memref sig .tc .vmem S128x16384 .bf16 := win0_3.stage (cfg0.slots t 3)
/-- The staging buffer of window 4 at a point. -/
abbrev ms0_4 (t : Fin cfg0.N) : Memref sig .tc .vmem S512x128 .bf16 := win0_4.stage (cfg0.slots t 4)
/-- The staging buffer of window 5 at a point. -/
abbrev ms0_5 (t : Fin cfg0.N) : Memref sig .tc .vmem S128x512 .bf16 := win0_5.stage (cfg0.slots t 5)
/-- The staging buffer of window 6 at a point. -/
abbrev ms0_6 (t : Fin cfg0.N) : Memref sig .tc .vmem S512x128 .bf16 := win0_6.stage (cfg0.slots t 6)
/-- The staging buffer of window 7 at a point. -/
abbrev ms0_7 (t : Fin cfg0.N) : Memref sig .tc .vmem S16384x128 .bf16 := win0_7.stage (cfg0.slots t 7)
/-- The staging buffer of window 8 at a point. -/
abbrev ms0_8 (t : Fin cfg0.N) : Memref sig .tc .vmem S128x16384 .bf16 := win0_8.stage (cfg0.slots t 8)
/-- The staging buffer of window 9 at a point. -/
abbrev ms0_9 (t : Fin cfg0.N) : Memref sig .tc .vmem S1x8x16384 .f32 := win0_9.stage (cfg0.slots t 9)
/-- The staging buffer of window 10 at a point. -/
abbrev ms0_10 (t : Fin cfg0.N) : Memref sig .tc .vmem S1x8x16384 .f32 := win0_10.stage (cfg0.slots t 10)
/-- The staging buffer of window 11 at a point. -/
abbrev ms0_11 (t : Fin cfg0.N) : Memref sig .tc .vmem S128x16384 .f32 := win0_11.stage (cfg0.slots t 11)
/-- The staging buffer of window 12 at a point. -/
abbrev ms0_12 (t : Fin cfg0.N) : Memref sig .tc .vmem S128x512 .f32 := win0_12.stage (cfg0.slots t 12)
/-- The staging buffer of window 13 at a point. -/
abbrev ms0_13 (t : Fin cfg0.N) : Memref sig .tc .vmem S64x512 .f32 := win0_13.stage (cfg0.slots t 13)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  by_cases h0 : t.val % 32 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    rw [after0_first m c t h0 ((dats m 0 c).before 11 t d11)]
    unfold pointV
    iapply (body_run _ _ _ _ _ _ _ _ _ _ _ _ _ _ _ _ _ _ _ _ _ _ _ _ _ _ _ _ c Set.univ (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) (W1 (grid0.coords t)) W2 (chk1 t) (chk2 t) (trips2 t) (trips4 t) (hw1 m c t) (hw2 m c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [before0_11 m c t h0]
    rw [after0_next m c t h0]
    unfold pointV
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_run _ _ _ _ _ _ _ _ _ _ _ _ _ _ _ _ _ _ _ _ _ _ _ _ _ _ _ _ c Set.univ (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) _ (W1 (grid0.coords t)) W2 (chk1 t) (chk2 t) (trips2 t) (trips4 t) (hw1 m c t) (hw2 m c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem frame_own : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Own

end
-- ==== Proof.SameA.lean ====
module

public import proofs.«01_k».proof.Defs
public import proofs.«01_k».proof.Proof.Gen.Kernel
public import proofs.«01_k».proof.Proof.Gen.KernelIdeal

@[expose] public section

set_option maxRecDepth 16384
set_option maxHeartbeats 20000000

noncomputable section

namespace Cert.Proof

open Idealize.ShloMosaic Idealize.SL.Sem

/-- Part 0 of the kernel's host code is the same in the two texts. -/
theorem eq_part0 : @Cert.Kernel.main_part0 Bits _ Cert.Kernel.Gen.facts = @Cert.KernelIdeal.main_part0 Bits _ Cert.KernelIdeal.Gen.facts := rfl

end Cert.Proof

end
-- ==== Proof.SameB.lean ====
module

public import proofs.«01_k».proof.Defs
public import proofs.«01_k».proof.Proof.Gen.Kernel
public import proofs.«01_k».proof.Proof.Gen.KernelIdeal

@[expose] public section

set_option maxRecDepth 16384
set_option maxHeartbeats 20000000

noncomputable section

namespace Cert.Proof

open Idealize.ShloMosaic Idealize.SL.Sem

/-- Part 1 of the kernel's host code is the same in the two texts. -/
theorem eq_part1 : @Cert.Kernel.main_part1 Bits _ Cert.Kernel.Gen.facts = @Cert.KernelIdeal.main_part1 Bits _ Cert.KernelIdeal.Gen.facts := rfl

end Cert.Proof

end
-- ==== Proof.SameC.lean ====
module

public import proofs.«01_k».proof.Defs
public import proofs.«01_k».proof.Proof.Gen.Kernel
public import proofs.«01_k».proof.Proof.Gen.KernelIdeal

@[expose] public section

set_option maxRecDepth 16384
set_option maxHeartbeats 20000000

noncomputable section

namespace Cert.Proof

open Idealize.ShloMosaic Idealize.SL.Sem

/-- Part 2 of the kernel's host code is the same in the two texts. -/
theorem eq_part2 : @Cert.Kernel.main_part2 Bits _ Cert.Kernel.Gen.facts = @Cert.KernelIdeal.main_part2 Bits _ Cert.KernelIdeal.Gen.facts := rfl

set_option smartUnfolding false in
/-- The bodies of the calls are the same in the two texts. -/
theorem eq_defs : @Cert.Kernel.defs Bits _ Cert.Kernel.Gen.facts = @Cert.KernelIdeal.defs Bits _ Cert.KernelIdeal.Gen.facts := rfl

end Cert.Proof

end
-- ==== Proof.Same.lean ====
module

public import proofs.«01_k».proof.Proof.SameA
public import proofs.«01_k».proof.Proof.SameB
public import proofs.«01_k».proof.Proof.SameC

@[expose] public section

set_option maxRecDepth 16384

noncomputable section

universe v

namespace Cert.Proof

open Idealize.ShloMosaic Idealize.SL.Sem

/-- Three programs run in turn: equal parts make equal wholes. -/
theorem chain_eq {E : Type → Type v} {a a' b b' d d' : Prog E PUnit} (ha : a = a') (hb : b = b') (hd : d = d') :
    (a >>= fun _ => b >>= fun _ => d) = (a' >>= fun _ => b' >>= fun _ => d') := by
  rw [ha, hb, hd]

/-- The kernel's program is the same in the two texts. -/
theorem eq_main : @Cert.Kernel.main Bits _ Cert.Kernel.Gen.facts = @Cert.KernelIdeal.main Bits _ Cert.KernelIdeal.Gen.facts :=
  funext fun d => chain_eq (congrFun eq_part0 d) (congrFun eq_part1 d) (congrFun eq_part2 d)

end Cert.Proof

end
-- ==== Proof.Pay.lean ====
module

public import proofs.«01_k».proof.Proof.Steps
public import Idealize.ShloMosaic.Lib.Pipeline.ValueKit
public import Idealize.ShloMosaic.Lib.Pointwise.Tactic
public import Idealize.ShloMosaic.Lib.WordCmp

@[expose] public section

set_option maxRecDepth 16384

noncomputable section

namespace Cert.KernelIdeal.Own

open Cert.KernelIdeal Cert.KernelIdeal.Gen
open Idealize.ShloMosaic Idealize.ShloMosaic.TcCoe
open scoped BigOperators

/-- A choice by the order of two small words is the choice by the order of the numbers. -/
theorem select_sge {α : Type} (a b : ℕ) (ha : a < 16384) (hb : b < 16384) (x y : α) :
    Scalar.select (IntOp.cmpi CmpIPredicate.sge (BitVec.ofNat 32 a) (BitVec.ofNat 32 b)) x y = if b ≤ a then x else y := by
  unfold Scalar.select
  by_cases h : b ≤ a
  · rw [if_pos h]; exact if_pos ((WordCmp.cmpi_sge_ofNat_eq_one_iff (by omega) (by omega)).mpr h)
  · rw [if_neg h]; exact if_neg fun hh => h ((WordCmp.cmpi_sge_ofNat_eq_one_iff (by omega) (by omega)).mp hh)

theorem pay34_at (kk a : FVec Ideal S512x128 .bf16) (l : Vec Ideal S1x1x512 .f32) (k j : Fin 512) :
    k0_pay34 kk a (constant S512x512 .f32 0x00000000#32) l (ix2 k j)
      = if k.val ≤ j.val then Ideal.exp ((∑ r : Fin 128, kk (ix2 k r) * a (ix2 j r)) - l (ix3 0 0 j)) else 0 := by
  pointwise [k0_pay34]
  exact select_sge _ _ (by have := j.isLt; omega) (by have := k.isLt; omega) _ _

theorem pay35_at (vm kk a : FVec Ideal S512x128 .bf16) (l : Vec Ideal S1x1x512 .f32) (d : Vec Ideal S512x128 .bf16) (e : Vec Ideal S1x1x512 .f32) (k j : Fin 512) :
    k0_pay35 vm kk a (constant S512x512 .f32 0x00000000#32) l d e (ix2 k j)
      = k0_pay34 kk a (constant S512x512 .f32 0x00000000#32) l (ix2 k j) * ((∑ r : Fin 128, vm (ix2 k r) * d (ix2 j r)) - e (ix3 0 0 j)) := by
  pointwise [k0_pay35]

theorem pay36_at (vm kk : FVec Ideal S512x128 .bf16) (kt : FVec Ideal S80x512 .bf16) (a : FVec Ideal S512x128 .bf16) (l : Vec Ideal S1x1x512 .f32) (d : Vec Ideal S512x128 .bf16) (e : Vec Ideal S1x1x512 .f32) (y : Vec Ideal S80x512 .f32) (r : Fin 80) (j : Fin 512) :
    k0_pay36 vm kk kt a (constant S512x512 .f32 0x00000000#32) l d e y (ix2 r j)
      = y (ix2 r j) + ∑ k : Fin 512, kt (ix2 r k) * k0_pay35 vm kk a (constant S512x512 .f32 0x00000000#32) l d e (ix2 k j) := by
  pointwise [k0_pay36]

theorem pay37_at (vm kk : FVec Ideal S512x128 .bf16) (s : FVec Ideal S80x512 .f32) (a : FVec Ideal S512x128 .bf16) (l : Vec Ideal S1x1x512 .f32) (d : Vec Ideal S512x128 .bf16) (e : Vec Ideal S1x1x512 .f32) (y : Vec Ideal S80x512 .bf16) (r : Fin 80) (k : Fin 512) :
    k0_pay37 vm kk s a (constant S512x512 .f32 0x00000000#32) l d e y (ix2 r k)
      = s (ix2 r k) + ∑ j : Fin 512, y (ix2 r j) * k0_pay35 vm kk a (constant S512x512 .f32 0x00000000#32) l d e (ix2 k j) := by
  pointwise [k0_pay37]

theorem pay38_at (kk : FVec Ideal S512x128 .bf16) (s : FVec Ideal S64x512 .f32) (a : FVec Ideal S512x128 .bf16) (l : Vec Ideal S1x1x512 .f32) (y : Vec Ideal S64x512 .bf16) (r : Fin 64) (k : Fin 512) :
    k0_pay38 kk s a (constant S512x512 .f32 0x00000000#32) l y (ix2 r k)
      = s (ix2 r k) + ∑ j : Fin 512, y (ix2 r j) * k0_pay34 kk a (constant S512x512 .f32 0x00000000#32) l (ix2 k j) := by
  pointwise [k0_pay38]

theorem pay39_at (kk : FVec Ideal S512x128 .bf16) (a : Vec Ideal S512x128 .bf16) (l : Vec Ideal S1x1x512 .f32) (k : Fin 512) (j : Fin 512) :
    k0_pay39 kk a l (ix2 k j) = Ideal.exp ((∑ r : Fin 128, kk (ix2 k r) * a (ix2 j r)) - l (ix3 0 0 j)) := by
  pointwise [k0_pay39]

theorem pay40_at (vm kk : FVec Ideal S512x128 .bf16) (a : Vec Ideal S512x128 .bf16) (l : Vec Ideal S1x1x512 .f32) (d : Vec Ideal S512x128 .bf16) (e : Vec Ideal S1x1x512 .f32) (k : Fin 512) (j : Fin 512) :
    k0_pay40 vm kk a l d e (ix2 k j) = k0_pay39 kk a l (ix2 k j) * ((∑ r : Fin 128, vm (ix2 k r) * d (ix2 j r)) - e (ix3 0 0 j)) := by
  pointwise [k0_pay40]

theorem pay41_at (vm kk : FVec Ideal S512x128 .bf16) (kt : FVec Ideal S80x512 .bf16) (a : Vec Ideal S512x128 .bf16) (l : Vec Ideal S1x1x512 .f32) (d : Vec Ideal S512x128 .bf16) (e : Vec Ideal S1x1x512 .f32) (y : Vec Ideal S80x512 .f32) (r : Fin 80) (j : Fin 512) :
    k0_pay41 vm kk kt a l d e y (ix2 r j) = y (ix2 r j) + ∑ k : Fin 512, kt (ix2 r k) * k0_pay40 vm kk a l d e (ix2 k j) := by
  pointwise [k0_pay41]

theorem pay42_at (vm kk : FVec Ideal S512x128 .bf16) (s : FVec Ideal S80x512 .f32) (a : Vec Ideal S512x128 .bf16) (l : Vec Ideal S1x1x512 .f32) (d : Vec Ideal S512x128 .bf16) (e : Vec Ideal S1x1x512 .f32) (y : Vec Ideal S80x512 .bf16) (r : Fin 80) (k : Fin 512) :
    k0_pay42 vm kk s a l d e y (ix2 r k) = s (ix2 r k) + ∑ j : Fin 512, y (ix2 r j) * k0_pay40 vm kk a l d e (ix2 k j) := by
  pointwise [k0_pay42]

theorem pay43_at (kk : FVec Ideal S512x128 .bf16) (s : FVec Ideal S64x512 .f32) (a : Vec Ideal S512x128 .bf16) (l : Vec Ideal S1x1x512 .f32) (y : Vec Ideal S64x512 .bf16) (r : Fin 64) (k : Fin 512) :
    k0_pay43 kk s a l y (ix2 r k) = s (ix2 r k) + ∑ j : Fin 512, y (ix2 r j) * k0_pay39 kk a l (ix2 k j) := by
  pointwise [k0_pay43]

theorem pay22_at (kk : FVec Ideal S512x128 .bf16) (a : Vec Ideal S1024x128 .bf16) (l : Vec Ideal S1x1x1024 .f32) (k : Fin 512) (j : Fin 1024) :
    k0_pay22 kk a l (ix2 k j) = Ideal.exp ((∑ r : Fin 128, kk (ix2 k r) * a (ix2 j r)) - l (ix3 0 0 j)) := by
  pointwise [k0_pay22]

theorem pay23_at (vm kk : FVec Ideal S512x128 .bf16) (a : Vec Ideal S1024x128 .bf16) (l : Vec Ideal S1x1x1024 .f32) (d : Vec Ideal S1024x128 .bf16) (e : Vec Ideal S1x1x1024 .f32) (k : Fin 512) (j : Fin 1024) :
    k0_pay23 vm kk a l d e (ix2 k j) = k0_pay22 kk a l (ix2 k j) * ((∑ r : Fin 128, vm (ix2 k r) * d (ix2 j r)) - e (ix3 0 0 j)) := by
  pointwise [k0_pay23]

theorem pay24_at (vm kk : FVec Ideal S512x128 .bf16) (kt : FVec Ideal S80x512 .bf16) (a : Vec Ideal S1024x128 .bf16) (l : Vec Ideal S1x1x1024 .f32) (d : Vec Ideal S1024x128 .bf16) (e : Vec Ideal S1x1x1024 .f32) (y : Vec Ideal S80x1024 .f32) (r : Fin 80) (j : Fin 1024) :
    k0_pay24 vm kk kt a l d e y (ix2 r j) = y (ix2 r j) + ∑ k : Fin 512, kt (ix2 r k) * k0_pay23 vm kk a l d e (ix2 k j) := by
  pointwise [k0_pay24]

theorem pay25_at (vm kk : FVec Ideal S512x128 .bf16) (s : FVec Ideal S80x512 .f32) (a : Vec Ideal S1024x128 .bf16) (l : Vec Ideal S1x1x1024 .f32) (d : Vec Ideal S1024x128 .bf16) (e : Vec Ideal S1x1x1024 .f32) (y : Vec Ideal S80x1024 .bf16) (r : Fin 80) (k : Fin 512) :
    k0_pay25 vm kk s a l d e y (ix2 r k) = s (ix2 r k) + ∑ j : Fin 1024, y (ix2 r j) * k0_pay23 vm kk a l d e (ix2 k j) := by
  pointwise [k0_pay25]

theorem pay26_at (kk : FVec Ideal S512x128 .bf16) (s : FVec Ideal S64x512 .f32) (a : Vec Ideal S1024x128 .bf16) (l : Vec Ideal S1x1x1024 .f32) (y : Vec Ideal S64x1024 .bf16) (r : Fin 64) (k : Fin 512) :
    k0_pay26 kk s a l y (ix2 r k) = s (ix2 r k) + ∑ j : Fin 1024, y (ix2 r j) * k0_pay22 kk a l (ix2 k j) := by
  pointwise [k0_pay26]

end Cert.KernelIdeal.Own

end
-- ==== Proof.Sums.lean ====
module

public import Idealize.ShloMosaic.PureOps.Ideal
public import Mathlib.Algebra.BigOperators.Fin

@[expose] public section

noncomputable section

namespace Cert.Sums

open scoped BigOperators

/-- A sum over the rows below `o`, and the `n` rows from `o` on. -/
theorem sum_extend (g : Fin 16384 → EReal) (o : ℕ) : ∀ (n : ℕ) (h : o + n ≤ 16384),
    (∑ t : Fin 16384, if t.val < o then g t else 0) + ∑ j : Fin n, g ⟨o + j.val, by have := j.isLt; omega⟩
      = ∑ t : Fin 16384, if t.val < o + n then g t else 0
  | 0, _ => by simp
  | n + 1, h => by
    rw [Fin.sum_univ_castSucc (n := n), ← add_assoc]
    have ih := sum_extend g o n (by omega)
    simp only [Fin.val_castSucc, Fin.val_last] at *
    rw [ih]
    have e : ∀ t : Fin 16384, (if t.val < o + (n + 1) then g t else 0)
        = (if t.val < o + n then g t else 0) + if t = ⟨o + n, by omega⟩ then g t else 0 := by
      intro t
      by_cases h1 : t.val < o + n
      · rw [if_pos h1, if_pos (by omega), if_neg (fun hh => by have := congrArg Fin.val hh; dsimp only at this; omega), add_zero]
      · by_cases h2 : t.val = o + n
        · rw [if_neg h1, if_pos (by omega), if_pos (Fin.ext h2), zero_add]
        · rw [if_neg h1, if_neg (by omega), if_neg (fun hh => h2 (congrArg Fin.val hh)), zero_add]
    rw [Finset.sum_congr rfl fun t _ => e t, Finset.sum_add_distrib, Finset.sum_ite_eq' Finset.univ, if_pos (Finset.mem_univ _)]

end Cert.Sums

end
-- ==== Proof.Blocks.lean ====
module

public import proofs.«01_k».proof.Proof.Pay
public import proofs.«01_k».proof.Proof.Sums

@[expose] public section

set_option maxRecDepth 16384

noncomputable section

namespace Cert.KernelIdeal.Own

open Cert.KernelIdeal Cert.KernelIdeal.Gen
open Idealize.ShloMosaic Idealize.ShloMosaic.TcCoe
open scoped BigOperators

/-! ## What a block of 512 queries reads and writes -/

theorem ldRow512 (X : Vec Ideal S16384x128 .bf16) (o : ℕ) (h : ∀ a, (![o, 0] : Fin 2 → ℕ) a + S512x128.size a ≤ S16384x128.size a)
    (j : Fin 512) (r : Fin 128) (ho : o + j.val < 16384) :
    View.ld X (Rect.unit (s := S16384x128) ![o, 0] S512x128.size h) (ix2 j r) = X (ix2 ⟨o + j.val, ho⟩ r) := by
  pointwise

theorem ldStat512 (X : Vec Ideal S1x8x16384 .f32) (q : Fin 8) (o : ℕ) (h : ∀ a, (![0, q.val, o] : Fin 3 → ℕ) a + S1x1x512.size a ≤ S1x8x16384.size a)
    (j : Fin 512) (ho : o + j.val < 16384) :
    View.ld X (Rect.unit (s := S1x8x16384) ![0, q.val, o] S1x1x512.size h) (ix3 0 0 j) = X (ix3 0 q ⟨o + j.val, ho⟩) := by
  pointwise

theorem ldLive512 (φ : EltTy) (X : Vec Ideal S128x16384 φ) (o : ℕ) (h : ∀ a, (![0, o] : Fin 2 → ℕ) a + S80x512.size a ≤ S128x16384.size a)
    (r : Fin 80) (j : Fin 512) (ho : o + j.val < 16384) :
    View.ld X (Rect.unit (s := S128x16384) ![0, o] S80x512.size h) (ix2 r j) = X (ix2 ⟨r.val, by have := r.isLt; omega⟩ ⟨o + j.val, ho⟩) := by
  pointwise

theorem ldMine512 (X : Vec Ideal S128x16384 .bf16) (p o : ℕ) (h : ∀ a, (![p, o] : Fin 2 → ℕ) a + S64x512.size a ≤ S128x16384.size a)
    (r : Fin 64) (j : Fin 512) (hp : p + r.val < 128) (ho : o + j.val < 16384) :
    View.ld X (Rect.unit (s := S128x16384) ![p, o] S64x512.size h) (ix2 r j) = X (ix2 ⟨p + r.val, hp⟩ ⟨o + j.val, ho⟩) := by
  pointwise

theorem overlay512_in (A : Vec Ideal S128x16384 .f32) (P : Vec Ideal S80x512 .f32) (o : ℕ) (h : ∀ a, (![0, o] : Fin 2 → ℕ) a + S80x512.size a ≤ S128x16384.size a)
    (q : Fin 128) (t : Fin 16384) (hq : q.val < 80) (h1 : o ≤ t.val) (h2 : t.val < o + 512) :
    (Rect.unit (s := S128x16384) ![0, o] S80x512.size h).overlay A P (ix2 q t) = P (ix2 ⟨q.val, hq⟩ ⟨t.val - o, by omega⟩) := by
  have e : ix2 q t = (Rect.unit (s := S128x16384) ![0, o] S80x512.size h).emb (ix2 ⟨q.val, hq⟩ ⟨t.val - o, by omega⟩) := by
    funext a
    apply Fin.ext
    fin_cases a
    · exact (show q.val = 0 + 1 * q.val by omega)
    · exact (show t.val = o + 1 * (t.val - o) by omega)
  rw [e]
  exact Rect.overlay_emb _ _ _ _

theorem overlay512_out (A : Vec Ideal S128x16384 .f32) (P : Vec Ideal S80x512 .f32) (o : ℕ) (h : ∀ a, (![0, o] : Fin 2 → ℕ) a + S80x512.size a ≤ S128x16384.size a)
    (q : Fin 128) (t : Fin 16384) (hn : ¬(q.val < 80 ∧ o ≤ t.val ∧ t.val < o + 512)) :
    (Rect.unit (s := S128x16384) ![0, o] S80x512.size h).overlay A P (ix2 q t) = A (ix2 q t) := by
  refine Rect.overlay_of_not_mem _ _ _ fun hm => hn ?_
  have := (Rect.mem_set_unit (s := S128x16384) (off := ![0, o]) (size := S80x512.size) (inb := h)).mp hm
  have h0 := this 0
  have h1 := this 1
  have e0 : (ix2 q t : S128x16384.Idx) 0 = q := rfl
  have e1 : (ix2 q t : S128x16384.Idx) 1 = t := rfl
  rw [e0] at h0
  rw [e1] at h1
  exact ⟨by simpa using h0.2, h1.1, h1.2⟩

/-! ## What a block of 1024 queries reads and writes -/

theorem ldRow1024 (X : Vec Ideal S16384x128 .bf16) (o : ℕ) (h : ∀ a, (![o, 0] : Fin 2 → ℕ) a + S1024x128.size a ≤ S16384x128.size a)
    (j : Fin 1024) (r : Fin 128) (ho : o + j.val < 16384) :
    View.ld X (Rect.unit (s := S16384x128) ![o, 0] S1024x128.size h) (ix2 j r) = X (ix2 ⟨o + j.val, ho⟩ r) := by
  pointwise

theorem ldStat1024 (X : Vec Ideal S1x8x16384 .f32) (q : Fin 8) (o : ℕ) (h : ∀ a, (![0, q.val, o] : Fin 3 → ℕ) a + S1x1x1024.size a ≤ S1x8x16384.size a)
    (j : Fin 1024) (ho : o + j.val < 16384) :
    View.ld X (Rect.unit (s := S1x8x16384) ![0, q.val, o] S1x1x1024.size h) (ix3 0 0 j) = X (ix3 0 q ⟨o + j.val, ho⟩) := by
  pointwise

theorem ldLive1024 (φ : EltTy) (X : Vec Ideal S128x16384 φ) (o : ℕ) (h : ∀ a, (![0, o] : Fin 2 → ℕ) a + S80x1024.size a ≤ S128x16384.size a)
    (r : Fin 80) (j : Fin 1024) (ho : o + j.val < 16384) :
    View.ld X (Rect.unit (s := S128x16384) ![0, o] S80x1024.size h) (ix2 r j) = X (ix2 ⟨r.val, by have := r.isLt; omega⟩ ⟨o + j.val, ho⟩) := by
  pointwise

theorem ldMine1024 (X : Vec Ideal S128x16384 .bf16) (p o : ℕ) (h : ∀ a, (![p, o] : Fin 2 → ℕ) a + S64x1024.size a ≤ S128x16384.size a)
    (r : Fin 64) (j : Fin 1024) (hp : p + r.val < 128) (ho : o + j.val < 16384) :
    View.ld X (Rect.unit (s := S128x16384) ![p, o] S64x1024.size h) (ix2 r j) = X (ix2 ⟨p + r.val, hp⟩ ⟨o + j.val, ho⟩) := by
  pointwise

theorem overlay1024_in (A : Vec Ideal S128x16384 .f32) (P : Vec Ideal S80x1024 .f32) (o : ℕ) (h : ∀ a, (![0, o] : Fin 2 → ℕ) a + S80x1024.size a ≤ S128x16384.size a)
    (q : Fin 128) (t : Fin 16384) (hq : q.val < 80) (h1 : o ≤ t.val) (h2 : t.val < o + 1024) :
    (Rect.unit (s := S128x16384) ![0, o] S80x1024.size h).overlay A P (ix2 q t) = P (ix2 ⟨q.val, hq⟩ ⟨t.val - o, by omega⟩) := by
  have e : ix2 q t = (Rect.unit (s := S128x16384) ![0, o] S80x1024.size h).emb (ix2 ⟨q.val, hq⟩ ⟨t.val - o, by omega⟩) := by
    funext a
    apply Fin.ext
    fin_cases a
    · exact (show q.val = 0 + 1 * q.val by omega)
    · exact (show t.val = o + 1 * (t.val - o) by omega)
  rw [e]
  exact Rect.overlay_emb _ _ _ _

theorem overlay1024_out (A : Vec Ideal S128x16384 .f32) (P : Vec Ideal S80x1024 .f32) (o : ℕ) (h : ∀ a, (![0, o] : Fin 2 → ℕ) a + S80x1024.size a ≤ S128x16384.size a)
    (q : Fin 128) (t : Fin 16384) (hn : ¬(q.val < 80 ∧ o ≤ t.val ∧ t.val < o + 1024)) :
    (Rect.unit (s := S128x16384) ![0, o] S80x1024.size h).overlay A P (ix2 q t) = A (ix2 q t) := by
  refine Rect.overlay_of_not_mem _ _ _ fun hm => hn ?_
  have := (Rect.mem_set_unit (s := S128x16384) (off := ![0, o]) (size := S80x1024.size) (inb := h)).mp hm
  have h0 := this 0
  have h1 := this 1
  have e0 : (ix2 q t : S128x16384.Idx) 0 = q := rfl
  have e1 : (ix2 q t : S128x16384.Idx) 1 = t := rfl
  rw [e0] at h0
  rw [e1] at h1
  exact ⟨by simpa using h0.2, h1.1, h1.2⟩

/-! ## The sums over the queries treated so far -/

section Sums

variable (vm kk : FVec Ideal S512x128 .bf16) (kt : FVec Ideal S80x512 .bf16)
variable (x2 : Vec Ideal S16384x128 .bf16) (x3 : Vec Ideal S128x16384 .bf16) (x7 : Vec Ideal S16384x128 .bf16)
  (x8 : Vec Ideal S128x16384 .bf16) (x9 x10 : Vec Ideal S1x8x16384 .f32) (q : Fin 8) (hq : q.val < 2) (lo : ℕ)

/-- The weight of key `k` of a block of keys starting at `lo` in the row of query `t`; zero before the diagonal. -/
def pS (k : Fin 512) (t : Fin 16384) : EReal :=
  if lo + k.val ≤ t.val then Ideal.exp ((∑ r : Fin 128, kk (ix2 k r) * x2 (ix2 t r)) - x9 (ix3 0 q t)) else 0

/-- The gradient of the weight's logit. -/
def dS (k : Fin 512) (t : Fin 16384) : EReal :=
  pS kk x2 x9 q lo k t * ((∑ r : Fin 128, vm (ix2 k r) * x7 (ix2 t r)) - x10 (ix3 0 q t))

/-- The state after the queries below `hi`: the sums over them, and their columns of the block added to. -/
structure Upto (A : Vec Ideal S128x16384 .f32) (hi : ℕ) (s : Acc Ideal × Vec Ideal S128x16384 .f32) : Prop where
  dk : ∀ (r : Fin 80) (k : Fin 512), s.1.1 (ix2 r k)
    = ∑ t : Fin 16384, if t.val < hi then x3 (ix2 ⟨r.val, by have := r.isLt; omega⟩ t) * dS vm kk x2 x7 x9 x10 q lo k t else 0
  dv : ∀ (r : Fin 64) (k : Fin 512), s.1.2 (ix2 r k)
    = ∑ t : Fin 16384, if t.val < hi then x8 (ix2 ⟨64 * q.val + r.val, by have := r.isLt; omega⟩ t) * pS kk x2 x9 q lo k t else 0
  dq : ∀ (p : Fin 128) (t : Fin 16384), s.2 (ix2 p t)
    = A (ix2 p t) + if h : p.val < 80 ∧ t.val < hi then ∑ k : Fin 512, kt (ix2 ⟨p.val, h.1⟩ k) * dS vm kk x2 x7 x9 x10 q lo k t else 0

theorem pS_before (k : Fin 512) (t : Fin 16384) (h : t.val < lo) : pS kk x2 x9 q lo k t = 0 := if_neg (by omega)
theorem dS_before (k : Fin 512) (t : Fin 16384) (h : t.val < lo) : dS vm kk x2 x7 x9 x10 q lo k t = 0 := by
  rw [dS, pS_before _ _ _ _ _ _ _ h, zero_mul]

/-- Before the diagonal block nothing is summed. -/
theorem upto_start (A : Vec Ideal S128x16384 .f32) : Upto vm kk kt x2 x3 x7 x8 x9 x10 q hq lo A lo ((k0_pay31, k0_pay32), A) where
  dk r k := by
    rw [Finset.sum_eq_zero]
    · pointwise [k0_pay31]
    · intro t _
      split
      · next h => rw [dS_before _ _ _ _ _ _ _ _ _ _ h, mul_zero]
      · rfl
  dv r k := by
    rw [Finset.sum_eq_zero]
    · pointwise [k0_pay32]
    · intro t _
      split
      · next h => rw [pS_before _ _ _ _ _ _ _ h, mul_zero]
      · rfl
  dq p t := by
    split
    · next h =>
      rw [Finset.sum_eq_zero, add_zero]
      intro k _
      rw [dS_before _ _ _ _ _ _ _ _ _ _ h.2, mul_zero]
    · rw [add_zero]

/-- A block of 512 queries past the diagonal. -/
theorem narrowV_step (o6 : Fin 2 → ℕ) (h6 : ∀ a, o6 a + S512x128.size a ≤ S16384x128.size a)
    (o7 : Fin 3 → ℕ) (h7 : ∀ a, o7 a + S1x1x512.size a ≤ S1x8x16384.size a)
    (o8 : Fin 2 → ℕ) (h8 : ∀ a, o8 a + S80x512.size a ≤ S128x16384.size a)
    (o9 : Fin 2 → ℕ) (h9 : ∀ a, o9 a + S64x512.size a ≤ S128x16384.size a)
    (o : ℕ) (ho : o + 512 ≤ 16384) (hlo : lo + 511 ≤ o)
    (e6 : o6 = ![o, 0]) (e7 : o7 = ![0, q.val, o]) (e8 : o8 = ![0, o]) (e9 : o9 = ![64 * q.val, o])
    (A : Vec Ideal S128x16384 .f32) (s : Acc Ideal × Vec Ideal S128x16384 .f32)
    (hI : Upto vm kk kt x2 x3 x7 x8 x9 x10 q hq lo A o s) :
    Upto vm kk kt x2 x3 x7 x8 x9 x10 q hq lo A (o + 512) (narrowV vm kk kt x2 x3 x7 x8 x9 x10 o6 h6 o7 h7 o8 h8 o9 h9 s) := by
  subst e6 e7 e8 e9
  have hp : ∀ (k : Fin 512) (j : Fin 512),
      k0_pay39 kk (View.ld x2 (Rect.unit (s := S16384x128) ![o, 0] S512x128.size h6)) (View.ld x9 (Rect.unit (s := S1x8x16384) ![0, q.val, o] S1x1x512.size h7)) (ix2 k j)
        = pS kk x2 x9 q lo k ⟨o + j.val, by have := j.isLt; omega⟩ := by
    intro k j
    have hj := j.isLt
    have hk := k.isLt
    rw [pay39_at, pS, if_pos (by dsimp only; omega), ldStat512 _ _ _ _ _ (by omega)]
    simp only [fun r => ldRow512 x2 o h6 j r (by omega)]
  have hd : ∀ (k : Fin 512) (j : Fin 512),
      k0_pay40 vm kk (View.ld x2 (Rect.unit (s := S16384x128) ![o, 0] S512x128.size h6)) (View.ld x9 (Rect.unit (s := S1x8x16384) ![0, q.val, o] S1x1x512.size h7))
          (View.ld x7 (Rect.unit (s := S16384x128) ![o, 0] S512x128.size h6)) (View.ld x10 (Rect.unit (s := S1x8x16384) ![0, q.val, o] S1x1x512.size h7)) (ix2 k j)
        = dS vm kk x2 x7 x9 x10 q lo k ⟨o + j.val, by have := j.isLt; omega⟩ := by
    intro k j
    have hj := j.isLt
    rw [pay40_at, hp, dS, ldStat512 _ _ _ _ _ (by omega)]
    simp only [fun r => ldRow512 x7 o h6 j r (by omega)]
  refine ⟨fun r k => ?_, fun r k => ?_, fun p t => ?_⟩
  · rw [← Cert.Sums.sum_extend _ o 512 ho, ← hI.dk r k]
    unfold narrowV
    dsimp only
    rw [pay42_at]
    refine congrArg _ (Finset.sum_congr rfl fun j _ => ?_)
    rw [hd, ldLive512 _ _ _ _ _ _ (by have := j.isLt; omega)]
  · rw [← Cert.Sums.sum_extend _ o 512 ho, ← hI.dv r k]
    unfold narrowV
    dsimp only
    rw [pay43_at]
    refine congrArg _ (Finset.sum_congr rfl fun j _ => ?_)
    rw [hp, ldMine512 _ _ _ _ _ _ (by have := r.isLt; omega) (by have := j.isLt; omega)]
  · unfold narrowV
    dsimp only
    by_cases h1 : p.val < 80 ∧ o ≤ t.val ∧ t.val < o + 512
    · have et : (⟨o + (t.val - o), by omega⟩ : Fin 16384) = t := Fin.ext (by dsimp only; omega)
      rw [overlay512_in _ _ _ _ _ _ h1.1 h1.2.1 h1.2.2, pay41_at, ldLive512 _ _ _ _ _ _ (by dsimp only; omega), dif_pos ⟨h1.1, h1.2.2⟩]
      simp only [hd, et]
      rw [hI.dq p t, dif_neg (by omega), add_zero]
    · rw [overlay512_out _ _ _ _ _ _ h1, hI.dq p t]
      by_cases h2 : p.val < 80 ∧ t.val < o
      · rw [dif_pos h2, dif_pos ⟨h2.1, by omega⟩]
      · rw [dif_neg h2, dif_neg (by omega)]

/-- A block of 1024 queries past the diagonal. -/
theorem wideV_step (o6 : Fin 2 → ℕ) (h6 : ∀ a, o6 a + S1024x128.size a ≤ S16384x128.size a)
    (o7 : Fin 3 → ℕ) (h7 : ∀ a, o7 a + S1x1x1024.size a ≤ S1x8x16384.size a)
    (o8 : Fin 2 → ℕ) (h8 : ∀ a, o8 a + S80x1024.size a ≤ S128x16384.size a)
    (o9 : Fin 2 → ℕ) (h9 : ∀ a, o9 a + S64x1024.size a ≤ S128x16384.size a)
    (o : ℕ) (ho : o + 1024 ≤ 16384) (hlo : lo + 511 ≤ o)
    (e6 : o6 = ![o, 0]) (e7 : o7 = ![0, q.val, o]) (e8 : o8 = ![0, o]) (e9 : o9 = ![64 * q.val, o])
    (A : Vec Ideal S128x16384 .f32) (s : Acc Ideal × Vec Ideal S128x16384 .f32)
    (hI : Upto vm kk kt x2 x3 x7 x8 x9 x10 q hq lo A o s) :
    Upto vm kk kt x2 x3 x7 x8 x9 x10 q hq lo A (o + 1024) (wideV vm kk kt x2 x3 x7 x8 x9 x10 o6 h6 o7 h7 o8 h8 o9 h9 s) := by
  subst e6 e7 e8 e9
  have hp : ∀ (k : Fin 512) (j : Fin 1024),
      k0_pay22 kk (View.ld x2 (Rect.unit (s := S16384x128) ![o, 0] S1024x128.size h6)) (View.ld x9 (Rect.unit (s := S1x8x16384) ![0, q.val, o] S1x1x1024.size h7)) (ix2 k j)
        = pS kk x2 x9 q lo k ⟨o + j.val, by have := j.isLt; omega⟩ := by
    intro k j
    have hj := j.isLt
    have hk := k.isLt
    rw [pay22_at, pS, if_pos (by dsimp only; omega), ldStat1024 _ _ _ _ _ (by omega)]
    simp only [fun r => ldRow1024 x2 o h6 j r (by omega)]
  have hd : ∀ (k : Fin 512) (j : Fin 1024),
      k0_pay23 vm kk (View.ld x2 (Rect.unit (s := S16384x128) ![o, 0] S1024x128.size h6)) (View.ld x9 (Rect.unit (s := S1x8x16384) ![0, q.val, o] S1x1x1024.size h7))
          (View.ld x7 (Rect.unit (s := S16384x128) ![o, 0] S1024x128.size h6)) (View.ld x10 (Rect.unit (s := S1x8x16384) ![0, q.val, o] S1x1x1024.size h7)) (ix2 k j)
        = dS vm kk x2 x7 x9 x10 q lo k ⟨o + j.val, by have := j.isLt; omega⟩ := by
    intro k j
    have hj := j.isLt
    rw [pay23_at, hp, dS, ldStat1024 _ _ _ _ _ (by omega)]
    simp only [fun r => ldRow1024 x7 o h6 j r (by omega)]
  refine ⟨fun r k => ?_, fun r k => ?_, fun p t => ?_⟩
  · rw [← Cert.Sums.sum_extend _ o 1024 ho, ← hI.dk r k]
    unfold wideV
    dsimp only
    rw [pay25_at]
    refine congrArg _ (Finset.sum_congr rfl fun j _ => ?_)
    rw [hd, ldLive1024 _ _ _ _ _ _ (by have := j.isLt; omega)]
  · rw [← Cert.Sums.sum_extend _ o 1024 ho, ← hI.dv r k]
    unfold wideV
    dsimp only
    rw [pay26_at]
    refine congrArg _ (Finset.sum_congr rfl fun j _ => ?_)
    rw [hp, ldMine1024 _ _ _ _ _ _ (by have := r.isLt; omega) (by have := j.isLt; omega)]
  · unfold wideV
    dsimp only
    by_cases h1 : p.val < 80 ∧ o ≤ t.val ∧ t.val < o + 1024
    · have et : (⟨o + (t.val - o), by omega⟩ : Fin 16384) = t := Fin.ext (by dsimp only; omega)
      rw [overlay1024_in _ _ _ _ _ _ h1.1 h1.2.1 h1.2.2, pay24_at, ldLive1024 _ _ _ _ _ _ (by dsimp only; omega), dif_pos ⟨h1.1, h1.2.2⟩]
      simp only [hd, et]
      rw [hI.dq p t, dif_neg (by omega), add_zero]
    · rw [overlay1024_out _ _ _ _ _ _ h1, hI.dq p t]
      by_cases h2 : p.val < 80 ∧ t.val < o
      · rw [dif_pos h2, dif_pos ⟨h2.1, by omega⟩]
      · rw [dif_neg h2, dif_neg (by omega)]

/-- The diagonal block. -/
theorem diagV_step (i : grid0.Coords) (ho : lo + 512 ≤ 16384)
    (e1 : k0_off1 i = ![lo, 0]) (e2 : k0_off2 i = ![0, q.val, lo]) (e3 : k0_off3 i = ![0, lo]) (e4 : k0_off4 i = ![64 * q.val, lo])
    (A : Vec Ideal S128x16384 .f32) (s : Acc Ideal × Vec Ideal S128x16384 .f32)
    (hI : Upto vm kk kt x2 x3 x7 x8 x9 x10 q hq lo A lo s) :
    Upto vm kk kt x2 x3 x7 x8 x9 x10 q hq lo A (lo + 512) (diagV vm kk kt x2 x3 x7 x8 x9 x10 i s) := by
  unfold diagV
  generalize k0_off1_inb i = h6
  generalize k0_off2_inb i = h7
  generalize k0_off3_inb i = h8
  generalize k0_off4_inb i = h9
  generalize k0_off1 i = o6 at h6 e1 ⊢
  generalize k0_off2 i = o7 at h7 e2 ⊢
  generalize k0_off3 i = o8 at h8 e3 ⊢
  generalize k0_off4 i = o9 at h9 e4 ⊢
  subst e1 e2 e3 e4
  have e33 : ∀ v : Vec Ideal S512x128 .bf16, k0_pay33 v = v := by
    intro v
    funext y
    rw [eq_ix2 y]
    pointwise [k0_pay33]
  have hp : ∀ (k : Fin 512) (j : Fin 512),
      k0_pay34 kk (View.ld x2 (Rect.unit (s := S16384x128) ![lo, 0] S512x128.size h6)) (constant S512x512 .f32 0x00000000#32) (View.ld x9 (Rect.unit (s := S1x8x16384) ![0, q.val, lo] S1x1x512.size h7)) (ix2 k j)
        = pS kk x2 x9 q lo k ⟨lo + j.val, by have := j.isLt; omega⟩ := by
    intro k j
    have hj := j.isLt
    have hk := k.isLt
    rw [pay34_at, pS, ldStat512 _ _ _ _ _ (by omega)]
    simp only [fun r => ldRow512 x2 lo h6 j r (by omega)]
    by_cases hkj : k.val ≤ j.val
    · rw [if_pos hkj, if_pos (by omega)]
    · rw [if_neg hkj, if_neg (by omega)]
  have hd : ∀ (k : Fin 512) (j : Fin 512),
      k0_pay35 vm kk (View.ld x2 (Rect.unit (s := S16384x128) ![lo, 0] S512x128.size h6)) (constant S512x512 .f32 0x00000000#32) (View.ld x9 (Rect.unit (s := S1x8x16384) ![0, q.val, lo] S1x1x512.size h7))
          (View.ld x7 (Rect.unit (s := S16384x128) ![lo, 0] S512x128.size h6)) (View.ld x10 (Rect.unit (s := S1x8x16384) ![0, q.val, lo] S1x1x512.size h7)) (ix2 k j)
        = dS vm kk x2 x7 x9 x10 q lo k ⟨lo + j.val, by have := j.isLt; omega⟩ := by
    intro k j
    have hj := j.isLt
    rw [pay35_at, hp, dS, ldStat512 _ _ _ _ _ (by omega)]
    simp only [fun r => ldRow512 x7 lo h6 j r (by omega)]
  dsimp only
  rw [e33]
  refine ⟨fun r k => ?_, fun r k => ?_, fun p t => ?_⟩
  · rw [← Cert.Sums.sum_extend _ lo 512 ho, ← hI.dk r k]
    dsimp only
    rw [pay37_at]
    refine congrArg _ (Finset.sum_congr rfl fun j _ => ?_)
    rw [hd, ldLive512 _ _ _ _ _ _ (by have := j.isLt; omega)]
  · rw [← Cert.Sums.sum_extend _ lo 512 ho, ← hI.dv r k]
    dsimp only
    rw [pay38_at]
    refine congrArg _ (Finset.sum_congr rfl fun j _ => ?_)
    rw [hp, ldMine512 _ _ _ _ _ _ (by have := r.isLt; omega) (by have := j.isLt; omega)]
  · dsimp only
    by_cases h1 : p.val < 80 ∧ lo ≤ t.val ∧ t.val < lo + 512
    · have et : (⟨lo + (t.val - lo), by omega⟩ : Fin 16384) = t := Fin.ext (by dsimp only; omega)
      rw [overlay512_in _ _ _ _ _ _ h1.1 h1.2.1 h1.2.2, pay36_at, ldLive512 _ _ _ _ _ _ (by dsimp only; omega), dif_pos ⟨h1.1, h1.2.2⟩]
      simp only [hd, et]
      rw [hI.dq p t, dif_neg (by omega), add_zero]
    · rw [overlay512_out _ _ _ _ _ _ h1, hI.dq p t]
      by_cases h2 : p.val < 80 ∧ t.val < lo
      · rw [dif_pos h2, dif_pos ⟨h2.1, by omega⟩]
      · rw [dif_neg h2, dif_neg (by omega)]

end Sums

end Cert.KernelIdeal.Own

end
-- ==== Proof.Offs.lean ====
module

public import proofs.«01_k».proof.Proof.Words

@[expose] public section

set_option maxRecDepth 16384

noncomputable section

namespace Cert.KernelIdeal.Own

open Idealize.ShloMosaic Idealize.ShloMosaic.TcCoe

/-! Where each block of queries lies, at every grid point. -/

theorem off1_eq : ∀ t : Fin grid0.N, k0_off1 (grid0.coords t) = ![512 * (t.val % 32), 0] := by decide +kernel
theorem off2_eq : ∀ t : Fin grid0.N, k0_off2 (grid0.coords t) = ![0, t.val / 32 % 2, 512 * (t.val % 32)] := by decide +kernel
theorem off3_eq : ∀ t : Fin grid0.N, k0_off3 (grid0.coords t) = ![0, 512 * (t.val % 32)] := by decide +kernel
theorem off4_eq : ∀ t : Fin grid0.N, k0_off4 (grid0.coords t) = ![64 * (t.val / 32 % 2), 512 * (t.val % 32)] := by decide +kernel
theorem off6_eq : ∀ t : Fin grid0.N, ∀ k : Fin (k0_t1_loop (grid0.coords t) (W1 (grid0.coords t))).trips, k0_off6 (grid0.coords t) (W1 (grid0.coords t)) k = ![512 * (t.val % 32 + 1), 0] := by decide +kernel
theorem off7_eq : ∀ t : Fin grid0.N, ∀ k : Fin (k0_t1_loop (grid0.coords t) (W1 (grid0.coords t))).trips, k0_off7 (grid0.coords t) (W1 (grid0.coords t)) k = ![0, t.val / 32 % 2, 512 * (t.val % 32 + 1)] := by decide +kernel
theorem off8_eq : ∀ t : Fin grid0.N, ∀ k : Fin (k0_t1_loop (grid0.coords t) (W1 (grid0.coords t))).trips, k0_off8 (grid0.coords t) (W1 (grid0.coords t)) k = ![0, 512 * (t.val % 32 + 1)] := by decide +kernel
theorem off9_eq : ∀ t : Fin grid0.N, ∀ k : Fin (k0_t1_loop (grid0.coords t) (W1 (grid0.coords t))).trips, k0_off9 (grid0.coords t) (W1 (grid0.coords t)) k = ![64 * (t.val / 32 % 2), 512 * (t.val % 32 + 1)] := by decide +kernel
theorem off15_eq : ∀ t : Fin grid0.N, ∀ k : Fin (k0_t3_loop (grid0.coords t) W2).trips, k0_off15 (grid0.coords t) W2 k = ![1024 * (t.val % 32 / 2 + 1 + 2 * k.val), 0] := by decide +kernel
theorem off16_eq : ∀ t : Fin grid0.N, ∀ k : Fin (k0_t3_loop (grid0.coords t) W2).trips, k0_off16 (grid0.coords t) W2 k = ![0, t.val / 32 % 2, 1024 * (t.val % 32 / 2 + 1 + 2 * k.val)] := by decide +kernel
theorem off17_eq : ∀ t : Fin grid0.N, ∀ k : Fin (k0_t3_loop (grid0.coords t) W2).trips, k0_off17 (grid0.coords t) W2 k = ![0, 1024 * (t.val % 32 / 2 + 1 + 2 * k.val)] := by decide +kernel
theorem off18_eq : ∀ t : Fin grid0.N, ∀ k : Fin (k0_t3_loop (grid0.coords t) W2).trips, k0_off18 (grid0.coords t) W2 k = ![64 * (t.val / 32 % 2), 1024 * (t.val % 32 / 2 + 1 + 2 * k.val)] := by decide +kernel
theorem off19_eq : ∀ t : Fin grid0.N, ∀ k : Fin (k0_t3_loop (grid0.coords t) W2).trips, k0_off19 (grid0.coords t) W2 k = ![1024 * (t.val % 32 / 2 + 2 + 2 * k.val), 0] := by decide +kernel
theorem off20_eq : ∀ t : Fin grid0.N, ∀ k : Fin (k0_t3_loop (grid0.coords t) W2).trips, k0_off20 (grid0.coords t) W2 k = ![0, t.val / 32 % 2, 1024 * (t.val % 32 / 2 + 2 + 2 * k.val)] := by decide +kernel
theorem off21_eq : ∀ t : Fin grid0.N, ∀ k : Fin (k0_t3_loop (grid0.coords t) W2).trips, k0_off21 (grid0.coords t) W2 k = ![0, 1024 * (t.val % 32 / 2 + 2 + 2 * k.val)] := by decide +kernel
theorem off22_eq : ∀ t : Fin grid0.N, ∀ k : Fin (k0_t3_loop (grid0.coords t) W2).trips, k0_off22 (grid0.coords t) W2 k = ![64 * (t.val / 32 % 2), 1024 * (t.val % 32 / 2 + 2 + 2 * k.val)] := by decide +kernel
theorem off31_eq : k0_off31 W2 = ![15360, 0] := by decide +kernel
theorem off32_eq : ∀ t : Fin grid0.N, k0_off32 (grid0.coords t) W2 = ![0, t.val / 32 % 2, 15360] := by decide +kernel
theorem off33_eq : k0_off33 W2 = ![0, 15360] := by decide +kernel
theorem off34_eq : ∀ t : Fin grid0.N, k0_off34 (grid0.coords t) W2 = ![64 * (t.val / 32 % 2), 15360] := by decide +kernel
theorem coords0 : ∀ t : Fin grid0.N, (grid0.coords t 0).val = t.val / 32 := by decide +kernel
theorem coords1 : ∀ t : Fin grid0.N, (grid0.coords t 1).val = t.val % 32 := by decide +kernel

end Cert.KernelIdeal.Own
end
-- ==== Proof.Inv.lean ====
module

public import proofs.«01_k».proof.Proof.Blocks
public import proofs.«01_k».proof.Proof.Offs

@[expose] public section

set_option maxRecDepth 16384

noncomputable section

namespace Cert.KernelIdeal.Own

open Cert.KernelIdeal Cert.KernelIdeal.Gen
open Idealize.ShloMosaic Idealize.ShloMosaic.TcCoe Idealize.ShloMosaic.Tactic

variable (vm kk : FVec Ideal S512x128 .bf16) (kt : FVec Ideal S80x512 .bf16)
variable (x2 : Vec Ideal S16384x128 .bf16) (x3 : Vec Ideal S128x16384 .bf16) (x7 : Vec Ideal S16384x128 .bf16)
  (x8 : Vec Ideal S128x16384 .bf16) (x9 x10 : Vec Ideal S1x8x16384 .f32)

/-- The head's number within its pair. -/
def half (t : Fin grid0.N) : Fin 8 := ⟨t.val / 32 % 2, by omega⟩

theorem half_lt (t : Fin grid0.N) : (half t).val < 2 := Nat.mod_lt _ (by decide)

theorem iter_upto {σ : Type} (n : ℕ) (f : Fin n → σ → σ) (P : ℕ → σ → Prop) (s : σ) (h0 : P 0 s)
    (hs : ∀ k s, P k.val s → P (k.val + 1) (f k s)) : ∀ j, j ≤ n → P j (iter n f s j)
  | 0, _ => h0
  | j + 1, hj => by
    rw [iter_succ n f s ⟨j, hj⟩]
    exact hs ⟨j, hj⟩ _ (iter_upto n f P s h0 hs j (Nat.le_of_lt hj))

/-- After all blocks of a grid point every query has been summed. -/
theorem bodyV_upto (t : Fin grid0.N) (A : Vec Ideal S128x16384 .f32) :
    Upto vm kk kt x2 x3 x7 x8 x9 x10 (half t) (half_lt t) (512 * (t.val % 32)) A 16384
      (bodyV vm kk kt x2 x3 x7 x8 x9 x10 (grid0.coords t) (W1 (grid0.coords t)) W2 (chk1 t) (chk2 t) A) := by
  have hj : t.val % 32 < 32 := Nat.mod_lt _ (by decide)
  unfold bodyV
  dsimp only
  have s1 := diagV_step vm kk kt x2 x3 x7 x8 x9 x10 (half t) (half_lt t) (512 * (t.val % 32)) (grid0.coords t) (by omega)
    (off1_eq t) (off2_eq t) (off3_eq t) (off4_eq t) A _ (upto_start vm kk kt x2 x3 x7 x8 x9 x10 (half t) (half_lt t) (512 * (t.val % 32)) A)
  generalize diagV vm kk kt x2 x3 x7 x8 x9 x10 (grid0.coords t) ((k0_pay31, k0_pay32), A) = u1 at s1 ⊢
  have s2 := iter_upto (k0_t1_loop (grid0.coords t) (W1 (grid0.coords t))).trips (fun k => narrowV vm kk kt x2 x3 x7 x8 x9 x10
    (k0_off6 (grid0.coords t) (W1 (grid0.coords t)) k) (k0_off6_inb (grid0.coords t) (W1 (grid0.coords t)) (chk1 t) k) (k0_off7 (grid0.coords t) (W1 (grid0.coords t)) k) (k0_off7_inb (grid0.coords t) (W1 (grid0.coords t)) (chk1 t) k)
    (k0_off8 (grid0.coords t) (W1 (grid0.coords t)) k) (k0_off8_inb (grid0.coords t) (W1 (grid0.coords t)) (chk1 t) k) (k0_off9 (grid0.coords t) (W1 (grid0.coords t)) k) (k0_off9_inb (grid0.coords t) (W1 (grid0.coords t)) (chk1 t) k))
    (fun k s => Upto vm kk kt x2 x3 x7 x8 x9 x10 (half t) (half_lt t) (512 * (t.val % 32)) A (512 * (t.val % 32 + 1) + 512 * k) s) u1
    s1
    (fun k s hs => by
      have hk : k.val = 0 := by have := k.isLt; have := trips1 t; omega
      have ht : t.val % 32 ≤ 30 := by have := k.isLt; have := trips1 t; omega
      rw [hk] at hs ⊢
      exact narrowV_step vm kk kt x2 x3 x7 x8 x9 x10 (half t) (half_lt t) (512 * (t.val % 32)) _ _ _ _ _ _ _ _ _ (by omega) (by omega)
        (off6_eq t k) (off7_eq t k) (off8_eq t k) (off9_eq t k) A s hs)
    _ le_rfl
  generalize iter (k0_t1_loop (grid0.coords t) (W1 (grid0.coords t))).trips _ u1 (k0_t1_loop (grid0.coords t) (W1 (grid0.coords t))).trips = u2 at s2 ⊢
  replace s2 : Upto vm kk kt x2 x3 x7 x8 x9 x10 (half t) (half_lt t) (512 * (t.val % 32)) A (1024 * (t.val % 32 / 2 + 1) + 2048 * 0) u2 := by
    have e : 512 * (t.val % 32 + 1) + 512 * (k0_t1_loop (grid0.coords t) (W1 (grid0.coords t))).trips = 1024 * (t.val % 32 / 2 + 1) + 2048 * 0 := by
      rw [trips1 t]; omega
    rwa [e] at s2
  have s3 := iter_upto (k0_t3_loop (grid0.coords t) W2).trips (fun k s => wideV vm kk kt x2 x3 x7 x8 x9 x10
      (k0_off19 (grid0.coords t) W2 k) (k0_off19_inb (grid0.coords t) W2 (chk2 t) k) (k0_off20 (grid0.coords t) W2 k) (k0_off20_inb (grid0.coords t) W2 (chk2 t) k)
      (k0_off21 (grid0.coords t) W2 k) (k0_off21_inb (grid0.coords t) W2 (chk2 t) k) (k0_off22 (grid0.coords t) W2 k) (k0_off22_inb (grid0.coords t) W2 (chk2 t) k)
    (wideV vm kk kt x2 x3 x7 x8 x9 x10
      (k0_off15 (grid0.coords t) W2 k) (k0_off15_inb (grid0.coords t) W2 (chk2 t) k) (k0_off16 (grid0.coords t) W2 k) (k0_off16_inb (grid0.coords t) W2 (chk2 t) k)
      (k0_off17 (grid0.coords t) W2 k) (k0_off17_inb (grid0.coords t) W2 (chk2 t) k) (k0_off18 (grid0.coords t) W2 k) (k0_off18_inb (grid0.coords t) W2 (chk2 t) k) s))
    (fun k s => Upto vm kk kt x2 x3 x7 x8 x9 x10 (half t) (half_lt t) (512 * (t.val % 32)) A (1024 * (t.val % 32 / 2 + 1) + 2048 * k) s) u2
    s2
    (fun k s hs => by
      have hk : 2 * k.val + 2 ≤ 15 - t.val % 32 / 2 := by have := k.isLt; have := trips3 t; omega
      have a1 : 1024 * (t.val % 32 / 2 + 1) + 2048 * k.val = 1024 * (t.val % 32 / 2 + 1 + 2 * k.val) := by omega
      have a2 : 1024 * (t.val % 32 / 2 + 1 + 2 * k.val) + 1024 = 1024 * (t.val % 32 / 2 + 2 + 2 * k.val) := by omega
      have a3 : 1024 * (t.val % 32 / 2 + 1) + 2048 * (k.val + 1) = 1024 * (t.val % 32 / 2 + 2 + 2 * k.val) + 1024 := by omega
      rw [a1] at hs
      rw [a3]
      have b := wideV_step vm kk kt x2 x3 x7 x8 x9 x10 (half t) (half_lt t) (512 * (t.val % 32))
        _ (k0_off15_inb (grid0.coords t) W2 (chk2 t) k) _ (k0_off16_inb (grid0.coords t) W2 (chk2 t) k) _ (k0_off17_inb (grid0.coords t) W2 (chk2 t) k) _ (k0_off18_inb (grid0.coords t) W2 (chk2 t) k) _ (by omega) (by omega)
        (off15_eq t k) (off16_eq t k) (off17_eq t k) (off18_eq t k) A s hs
      rw [a2] at b
      exact wideV_step vm kk kt x2 x3 x7 x8 x9 x10 (half t) (half_lt t) (512 * (t.val % 32)) _ _ _ _ _ _ _ _ _ (by omega) (by omega)
        (off19_eq t k) (off20_eq t k) (off21_eq t k) (off22_eq t k) A _ b)
    _ le_rfl
  generalize iter (k0_t3_loop (grid0.coords t) W2).trips _ u2 (k0_t3_loop (grid0.coords t) W2).trips = u3 at s3 ⊢
  rw [trips3 t] at s3
  by_cases hc : k0_cond2 (grid0.coords t) W2 = 1#1
  · rw [dif_pos hc]
    have hp := (cond2 t).mp hc
    have e : 1024 * (t.val % 32 / 2 + 1) + 2048 * ((15 - t.val % 32 / 2) / 2) = 15360 := by omega
    rw [e] at s3
    exact wideV_step vm kk kt x2 x3 x7 x8 x9 x10 (half t) (half_lt t) (512 * (t.val % 32)) _ _ _ _ _ _ _ _ 15360 (by omega) (by omega)
        off31_eq (off32_eq t) off33_eq (off34_eq t) A u3 s3
  · rw [dif_neg hc]
    have hp := mt (cond2 t).mpr hc
    have e : 1024 * (t.val % 32 / 2 + 1) + 2048 * ((15 - t.val % 32 / 2) / 2) = 16384 := by omega
    rwa [e] at s3

end Cert.KernelIdeal.Own

end
-- ==== Proof.Reads.lean ====
module

public import proofs.«01_k».proof.Proof.Run
public import Idealize.ShloMosaic.Lib.Pipeline.ValueKit
public import Idealize.ShloMosaic.Lib.Pointwise.Tactic

@[expose] public section

set_option maxRecDepth 16384

noncomputable section

namespace Cert.KernelIdeal.Own

open Idealize.ShloMosaic Idealize.ShloMosaic.TcCoe
open Cert.KernelIdeal Cert.KernelIdeal.Gen

variable {F : FTy → Type} [FloatOps F] (m : (ℓ : Loc nD τ sig) → Buf (Elt F) ℓ) (c : Dev nD)

theorem point_lt (t : Fin grid0.N) : t.val < 256 := lt_of_lt_of_eq t.isLt N_0

/-- Where each window's block lies. -/
theorem idx : ∀ t : Fin grid0.N, win0_2.index t = ![0, t.val / 32] ∧ win0_3.index t = ![t.val / 32, 0]
    ∧ win0_4.index t = ![t.val % 32, t.val / 32] ∧ win0_5.index t = ![t.val / 32, t.val % 32]
    ∧ win0_6.index t = ![t.val % 32, 24 + t.val / 64] ∧ win0_7.index t = ![0, t.val / 64] ∧ win0_8.index t = ![t.val / 64, 0]
    ∧ win0_9.index t = ![t.val / 64, 0, 0] ∧ win0_10.index t = ![t.val / 64, 0, 0]
    ∧ win0_11.index t = ![t.val / 32, 0] ∧ win0_12.index t = ![t.val / 32, t.val % 32] ∧ win0_13.index t = ![t.val / 32, t.val % 32] := by
  decide +kernel

/-! ## The blocks of a grid point, read from the arrays of the call -/

theorem blk2 (t : Fin cfg0.N) (x : Fin 16384) (r : Fin 128) :
    (iblk m c 2 t : Vec F S16384x128 .bf16) (ix2 x r) = (V m c main_v32 : Vec F S16384x1024 .bf16) (ix2 x ⟨128 * (t.val / 32) + r.val, by have := point_lt t; have := x.isLt; have := r.isLt; omega⟩) := by
  have h := idx t
  blk_simp [iblk]
  refine congrArg _ ?_
  blk_ext [h]

theorem blk3 (t : Fin cfg0.N) (r : Fin 128) (x : Fin 16384) :
    (iblk m c 3 t : Vec F S128x16384 .bf16) (ix2 r x) = (V m c main_v84 : Vec F S1024x16384 .bf16) (ix2 ⟨128 * (t.val / 32) + r.val, by have := point_lt t; have := r.isLt; have := x.isLt; omega⟩ x) := by
  have h := idx t
  blk_simp [iblk]
  refine congrArg _ ?_
  blk_ext [h]

theorem blk4 (t : Fin cfg0.N) (k : Fin 512) (r : Fin 128) :
    (iblk m c 4 t : Vec F S512x128 .bf16) (ix2 k r) = (V m c main_v40 : Vec F S16384x1024 .bf16) (ix2 ⟨512 * (t.val % 32) + k.val, by have := point_lt t; have := k.isLt; have := r.isLt; omega⟩ ⟨128 * (t.val / 32) + r.val, by have := point_lt t; have := k.isLt; have := r.isLt; omega⟩) := by
  have h := idx t
  blk_simp [iblk]
  refine congrArg _ ?_
  blk_ext [h]

theorem blk5 (t : Fin cfg0.N) (r : Fin 128) (k : Fin 512) :
    (iblk m c 5 t : Vec F S128x512 .bf16) (ix2 r k) = (V m c main_v85 : Vec F S1024x16384 .bf16) (ix2 ⟨128 * (t.val / 32) + r.val, by have := point_lt t; have := r.isLt; have := k.isLt; omega⟩ ⟨512 * (t.val % 32) + k.val, by have := point_lt t; have := r.isLt; have := k.isLt; omega⟩) := by
  have h := idx t
  blk_simp [iblk]
  refine congrArg _ ?_
  blk_ext [h]

theorem blk6 (t : Fin cfg0.N) (k : Fin 512) (r : Fin 128) :
    (iblk m c 6 t : Vec F S512x128 .bf16) (ix2 k r) = (V m c main_v10 : Vec F S16384x4096 .bf16) (ix2 ⟨512 * (t.val % 32) + k.val, by have := point_lt t; have := k.isLt; have := r.isLt; omega⟩ ⟨128 * (24 + t.val / 64) + r.val, by have := point_lt t; have := k.isLt; have := r.isLt; omega⟩) := by
  have h := idx t
  blk_simp [iblk]
  refine congrArg _ ?_
  blk_ext [h]

theorem blk7 (t : Fin cfg0.N) (x : Fin 16384) (r : Fin 128) :
    (iblk m c 7 t : Vec F S16384x128 .bf16) (ix2 x r) = (V m c main_v75 : Vec F S16384x512 .bf16) (ix2 x ⟨128 * (t.val / 64) + r.val, by have := point_lt t; have := x.isLt; have := r.isLt; omega⟩) := by
  have h := idx t
  blk_simp [iblk]
  refine congrArg _ ?_
  blk_ext [h]

theorem blk8 (t : Fin cfg0.N) (r : Fin 128) (x : Fin 16384) :
    (iblk m c 8 t : Vec F S128x16384 .bf16) (ix2 r x) = (V m c main_v86 : Vec F S512x16384 .bf16) (ix2 ⟨128 * (t.val / 64) + r.val, by have := point_lt t; have := r.isLt; have := x.isLt; omega⟩ x) := by
  have h := idx t
  blk_simp [iblk]
  refine congrArg _ ?_
  blk_ext [h]

theorem blk9 (t : Fin cfg0.N) (q : Fin 8) (x : Fin 16384) :
    (iblk m c 9 t : Vec F S1x8x16384 .f32) (ix3 0 q x) = (V m c main_v88 : Vec F S4x8x16384 .f32) (ix3 ⟨t.val / 64, by have := point_lt t; have := q.isLt; have := x.isLt; omega⟩ q x) := by
  have h := idx t
  blk_simp [iblk]
  refine congrArg _ ?_
  blk_ext [h]

theorem blk10 (t : Fin cfg0.N) (q : Fin 8) (x : Fin 16384) :
    (iblk m c 10 t : Vec F S1x8x16384 .f32) (ix3 0 q x) = (V m c main_v90 : Vec F S4x8x16384 .f32) (ix3 ⟨t.val / 64, by have := point_lt t; have := q.isLt; have := x.isLt; omega⟩ q x) := by
  have h := idx t
  blk_simp [iblk]
  refine congrArg _ ?_
  blk_ext [h]

end Cert.KernelIdeal.Own

end
-- ==== Proof.Arr.lean ====
module

public import proofs.«01_k».proof.Proof.Inv
public import proofs.«01_k».proof.Proof.Reads
public import Idealize.ShloMosaic.Lib.Pipeline.ValueKit
public import Idealize.ShloMosaic.Lib.Pointwise.Tactic

@[expose] public section

set_option maxRecDepth 16384

noncomputable section

namespace Cert.KernelIdeal.Own

open Cert.KernelIdeal Cert.KernelIdeal.Gen
open Idealize.ShloMosaic Idealize.ShloMosaic.TcCoe
open scoped BigOperators

/-- Lane `r` of head `h` among the 1024 lanes. -/
def l128 (h : Fin 8) (r : Fin 128) : Fin 1024 := ⟨128 * h.val + r.val, by omega⟩
/-- Coordinate `d` of head `h` among the 512 coordinates. -/
def l64 (h : Fin 8) (d : Fin 64) : Fin 512 := ⟨64 * h.val + d.val, by omega⟩
/-- Coordinate `r` of the pair of heads that holds `h`. -/
def lpair (h : Fin 8) (r : Fin 128) : Fin 512 := ⟨128 * (h.val / 2) + r.val, by omega⟩
/-- The same coordinate of the values, behind the lanes of queries and keys. -/
def lval (h : Fin 8) (r : Fin 128) : Fin 4096 := ⟨128 * (24 + h.val / 2) + r.val, by omega⟩
/-- The pair of a head, and its number in the pair. -/
def pr (h : Fin 8) : Fin 4 := ⟨h.val / 2, by omega⟩
def hf (h : Fin 8) : Fin 8 := ⟨h.val % 2, by omega⟩

section Weights

variable (QA KA : Vec Ideal S16384x1024 .bf16) (PA : Vec Ideal S16384x4096 .bf16) (DO : Vec Ideal S16384x512 .bf16)
  (LS DE : Vec Ideal S4x8x16384 .f32)

/-- The weight of key `s` in the row of query `t`, from the arrays of the call. -/
def pG (h : Fin 8) (t s : Fin 16384) : EReal :=
  if s.val ≤ t.val then Ideal.exp ((∑ r : Fin 128, KA (ix2 s (l128 h r)) * QA (ix2 t (l128 h r))) - LS (ix3 (pr h) (hf h) t)) else 0

/-- The gradient of that weight's logit. -/
def dG (h : Fin 8) (t s : Fin 16384) : EReal :=
  pG QA KA LS h t s * ((∑ r : Fin 128, (if r.val / 64 = h.val % 2 then PA (ix2 s (lval h r)) else 0) * DO (ix2 t (lpair h r))) - DE (ix3 (pr h) (hf h) t))

end Weights

/-- The head of a grid point, and key `k` of its block. -/
def hd (t : Fin grid0.N) : Fin 8 := ⟨t.val / 32, by have := point_lt t; omega⟩
def ks (t : Fin grid0.N) (k : Fin 512) : Fin 16384 := ⟨512 * (t.val % 32) + k.val, by omega⟩

/-- The word comparison behind the mask of the head's half of the lanes. -/
theorem half_word : ∀ (h : Fin 8) (r : Fin 128),
    IntOp.cmpi CmpIPredicate.eq (IntOp.shrsi ArithUnit.vector (BitVec.ofNat 32 r.val) 6#32)
        (Scalar.select
          (Scalar.andi
            (Scalar.xori
              (Scalar.cmpi CmpIPredicate.slt
                (Scalar.remsi (BitVec.ofNat 32 h.val) (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (Scalar.cmpi CmpIPredicate.ne
              (Scalar.remsi (BitVec.ofNat 32 h.val) (Scalar.select (Scalar.cmpi CmpIPredicate.eq 2#32 0#32) 1#32 2#32))
              0#32))
          (Scalar.addi
            (Scalar.remsi (BitVec.ofNat 32 h.val) (Scalar.select (Scalar.cmpi CmpIPredicate.eq 2#32 0#32) 1#32 2#32))
            (Scalar.select (Scalar.cmpi CmpIPredicate.eq 2#32 0#32) 1#32 2#32))
          (Scalar.remsi (BitVec.ofNat 32 h.val) (Scalar.select (Scalar.cmpi CmpIPredicate.eq 2#32 0#32) 1#32 2#32)))
      = if r.val / 64 = h.val % 2 then 1#1 else 0#1 := by
  decide +kernel

/-- The values under the mask of the head's half of the lanes. -/
theorem pay28_at (t : Fin grid0.N) (X : Vec Ideal S512x128 .bf16) (k : Fin 512) (r : Fin 128) :
    k0_pay28 (grid0.coords t) X (ix2 k r) = if r.val / 64 = (hd t).val % 2 then X (ix2 k r) else 0 := by
  have e : grid0.coords t 0 = hd t := Fin.ext (coords0 t)
  pointwise [k0_pay28]
  rw [e, half_word]
  split <;> rfl

theorem pay29_at (X : Vec Ideal S512x128 .bf16) (k : Fin 512) (r : Fin 128) :
    k0_pay29 (View.ld X (Rect.unit (s := S512x128) ![0, 0] S512x128.size inb_S512x128_S512x128_0_0)) (ix2 k r) = X (ix2 k r) := by
  pointwise [k0_pay29]

theorem ldVal_at (X : Vec Ideal S512x128 .bf16) (k : Fin 512) (r : Fin 128) :
    View.ld X (Rect.unit (s := S512x128) ![0, 0] S512x128.size inb_S512x128_S512x128_0_0) (ix2 k r) = X (ix2 k r) := by
  pointwise

theorem pay30_at (X : Vec Ideal S128x512 .bf16) (r : Fin 80) (k : Fin 512) :
    k0_pay30 (View.ld X (Rect.unit (s := S128x512) ![0, 0] S80x512.size inb_S128x512_S80x512_0_0)) (ix2 r k) = X (ix2 ⟨r.val, by omega⟩ k) := by
  pointwise [k0_pay30]

/-- The block at the start of a grid point. -/
theorem startV_at (t : Fin grid0.N) (A : Vec Ideal S128x16384 .f32) (y : S128x16384.Idx) :
    startV (grid0.coords t) A y = if t.val % 32 = 0 then 0 else A y := by
  unfold startV
  by_cases h : t.val % 32 = 0
  · rw [if_pos ((start_eq t).mpr h), if_pos h]
    have h1 : (y 1).val < 16384 := (y 1).isLt
    have h0 : (y 0).val < 128 := (y 0).isLt
    have hy : y ∈ (Rect.unit (s := S128x16384) ![0, 0] S128x16384.size inb_S128x16384_S128x16384_0_0).set := by
      refine (Rect.mem_set_unit (s := S128x16384) (off := ![0, 0]) (size := S128x16384.size) (inb := inb_S128x16384_S128x16384_0_0)).mpr fun a => ?_
      fin_cases a
      · exact ⟨Nat.zero_le _, by simpa using h0⟩
      · exact ⟨Nat.zero_le _, by simpa using h1⟩
    obtain ⟨x, rfl⟩ := LoadRect.exists_idx_of_mem (Rect.toLoadRect _) hy
    refine (Rect.overlay_emb _ _ _ x).trans ?_
    rw [eq_ix2 x]
    pointwise [k0_pay27]
  · rw [if_neg (mt (start_eq t).mp h), if_neg h]

section Point

variable (m : (ℓ : Loc nD τ sig) → Buf (Elt Ideal) ℓ) (c : Dev nD)

abbrev QA : Vec Ideal S16384x1024 .bf16 := V m c main_v32
abbrev KA : Vec Ideal S16384x1024 .bf16 := V m c main_v40
abbrev QT : Vec Ideal S1024x16384 .bf16 := V m c main_v84
abbrev KT : Vec Ideal S1024x16384 .bf16 := V m c main_v85
abbrev PA : Vec Ideal S16384x4096 .bf16 := V m c main_v10
abbrev DO : Vec Ideal S16384x512 .bf16 := V m c main_v75
abbrev DT : Vec Ideal S512x16384 .bf16 := V m c main_v86
abbrev LS : Vec Ideal S4x8x16384 .f32 := V m c main_v88
abbrev DE : Vec Ideal S4x8x16384 .f32 := V m c main_v90

theorem half_eq (t : Fin grid0.N) : half t = hf (hd t) := rfl
theorem pair_eq (t : Fin grid0.N) : t.val / 64 = (hd t).val / 2 := by
  show t.val / 64 = t.val / 32 / 2
  omega

theorem pS_point (t : Fin cfg0.N) (k : Fin 512) (x : Fin 16384) :
    pS (k0_pay29 (View.ld (iblk m c 4 t) (Rect.unit (s := S512x128) ![0, 0] S512x128.size inb_S512x128_S512x128_0_0)))
      (iblk m c 2 t) (iblk m c 9 t) (half t) (512 * (t.val % 32)) k x = pG (QA m c) (KA m c) (LS m c) (hd t) x (ks t k) := by
  unfold pS pG
  simp only [pay29_at, blk2, blk4, blk9, half_eq]
  simp only [pair_eq t]
  rfl

theorem dS_point (t : Fin cfg0.N) (k : Fin 512) (x : Fin 16384) :
    dS (k0_pay28 (grid0.coords t) (View.ld (iblk m c 6 t) (Rect.unit (s := S512x128) ![0, 0] S512x128.size inb_S512x128_S512x128_0_0)))
      (k0_pay29 (View.ld (iblk m c 4 t) (Rect.unit (s := S512x128) ![0, 0] S512x128.size inb_S512x128_S512x128_0_0)))
      (iblk m c 2 t) (iblk m c 7 t) (iblk m c 9 t) (iblk m c 10 t) (half t) (512 * (t.val % 32)) k x = dG (QA m c) (KA m c) (PA m c) (DO m c) (LS m c) (DE m c) (hd t) x (ks t k) := by
  unfold dS dG
  rw [pS_point, blk10]
  refine congrArg₂ (· * ·) rfl (congrArg₂ (· - ·) (Finset.sum_congr rfl fun r _ => ?_) ?_)
  · rw [pay28_at, ldVal_at, blk6, blk7]
    simp only [pair_eq t]
    rfl
  · simp only [pair_eq t]
    rfl

theorem point_dk (t : Fin cfg0.N) (A : Vec Ideal S128x16384 .f32) (r : Fin 80) (k : Fin 512) :
    (pointV m c t A).1.1 (ix2 r k) = ∑ x : Fin 16384, (QT m c) (ix2 (l128 (hd t) ⟨r.val, by omega⟩) x) * dG (QA m c) (KA m c) (PA m c) (DO m c) (LS m c) (DE m c) (hd t) x (ks t k) := by
  refine ((bodyV_upto _ _ _ _ _ _ _ _ _ t _).dk r k).trans (Finset.sum_congr rfl fun x _ => ?_)
  rw [if_pos x.isLt, dS_point, blk3]
  rfl

theorem point_dv (t : Fin cfg0.N) (A : Vec Ideal S128x16384 .f32) (r : Fin 64) (k : Fin 512) :
    (pointV m c t A).1.2 (ix2 r k) = ∑ x : Fin 16384, (DT m c) (ix2 (l64 (hd t) r) x) * pG (QA m c) (KA m c) (LS m c) (hd t) x (ks t k) := by
  refine ((bodyV_upto _ _ _ _ _ _ _ _ _ t _).dv r k).trans (Finset.sum_congr rfl fun x _ => ?_)
  rw [if_pos x.isLt, pS_point, blk8]
  congr 4
  show 128 * (t.val / 64) + (64 * (t.val / 32 % 2) + r.val) = 64 * (t.val / 32) + r.val
  omega

theorem point_dq (t : Fin cfg0.N) (A : Vec Ideal S128x16384 .f32) (p : Fin 128) (x : Fin 16384) :
    (pointV m c t A).2 (ix2 p x) = (if t.val % 32 = 0 then 0 else A (ix2 p x))
      + if p.val < 80 then ∑ k : Fin 512, (KT m c) (ix2 (l128 (hd t) p) (ks t k)) * dG (QA m c) (KA m c) (PA m c) (DO m c) (LS m c) (DE m c) (hd t) x (ks t k) else 0 := by
  refine ((bodyV_upto _ _ _ _ _ _ _ _ _ t _).dq p x).trans ?_
  rw [startV_at]
  congr 1
  by_cases h : p.val < 80
  · rw [dif_pos ⟨h, x.isLt⟩, if_pos h]
    refine Finset.sum_congr rfl fun k _ => ?_
    rw [dS_point, pay30_at, blk5]
    rfl
  · rw [dif_neg (fun u => h u.1), if_neg h]

/-- The accumulated block after a grid point: the sum over the keys of the blocks so far. -/
theorem after_dq : ∀ (n : ℕ) (hn : n < cfg0.N) (p : Fin 128) (x : Fin 16384),
    (after0 m c n hn).2 (ix2 p x) = if p.val < 80 then ∑ s : Fin 16384, (if s.val < 512 * (n % 32 + 1) then
      (KT m c) (ix2 (l128 (hd ⟨n, hn⟩) p) s) * dG (QA m c) (KA m c) (PA m c) (DO m c) (LS m c) (DE m c) (hd ⟨n, hn⟩) x s else 0) else 0 := by
  intro n
  induction n using Nat.strong_induction_on with
  | _ n ih =>
  intro hn p x
  have e := Cert.Sums.sum_extend (fun s : Fin 16384 => (KT m c) (ix2 (l128 (hd ⟨n, hn⟩) p) s) * dG (QA m c) (KA m c) (PA m c) (DO m c) (LS m c) (DE m c) (hd ⟨n, hn⟩) x s) (512 * (n % 32)) 512 (by omega)
  by_cases h0 : n % 32 = 0
  · have a := after0_first m c ⟨n, hn⟩ h0 (fun _ => 0)
    dsimp only at a
    rw [a, point_dq, if_pos h0, zero_add]
    split
    · rw [Finset.sum_eq_zero (fun s _ => if_neg (by omega)), zero_add] at e
      rw [show 512 * (n % 32 + 1) = 512 * (n % 32) + 512 by omega, ← e]
      rfl
    · rfl
  · have a := after0_next m c ⟨n, hn⟩ h0
    dsimp only at a
    have hh : hd ⟨n - 1, Nat.lt_of_le_of_lt (Nat.sub_le _ _) hn⟩ = hd ⟨n, hn⟩ := Fin.ext (by show (n - 1) / 32 = n / 32; omega)
    rw [a, point_dq, if_neg h0, ih (n - 1) (by omega), hh]
    split
    · rw [show 512 * (n % 32 + 1) = 512 * (n % 32) + 512 by omega, ← e, show 512 * ((n - 1) % 32 + 1) = 512 * (n % 32) by omega]
      rfl
    · rw [add_zero]

end Point

end Cert.KernelIdeal.Own

end
-- ==== Proof.Out.lean ====
module

public import proofs.«01_k».proof.Proof.Arr

@[expose] public section

set_option maxRecDepth 16384

noncomputable section

namespace Cert.KernelIdeal.Own

open Cert.KernelIdeal Cert.KernelIdeal.Gen
open Idealize.ShloMosaic Idealize.ShloMosaic.TcCoe
open scoped BigOperators

theorem dkOut_at (s : FVec Ideal S80x512 .f32) (r : Fin 128) (k : Fin 512) :
    dkOut s (ix2 r k) = if h : r.val < 80 then s (ix2 ⟨r.val, h⟩ k) else 0 := by
  unfold dkOut
  by_cases h : r.val < 80
  · rw [dif_pos h]
    refine (View.canon_cons_of_not_mem _ _ ?_).trans ?_
    · intro hm
      have := (Rect.mem_set_unit (s := S128x512) (off := ![80, 0]) (size := S48x512.size) (inb := inb_S128x512_S48x512_80_0)).mp hm 0
      exact absurd this.1 (by show ¬(80 ≤ r.val); omega)
    · have e : ix2 r k = (Rect.unit (s := S128x512) ![0, 0] S80x512.size inb_S128x512_S80x512_0_0).emb (ix2 ⟨r.val, h⟩ k) := by
        funext a
        apply Fin.ext
        fin_cases a
        · exact (show r.val = 0 + 1 * r.val by omega)
        · exact (show k.val = 0 + 1 * k.val by omega)
      rw [e]
      exact View.canon_cons_emb _ _ _ _
  · rw [dif_neg h]
    have e : ix2 r k = (Rect.unit (s := S128x512) ![80, 0] S48x512.size inb_S128x512_S48x512_80_0).emb (ix2 ⟨r.val - 80, by omega⟩ k) := by
      funext a
      apply Fin.ext
      fin_cases a
      · exact (show r.val = 80 + 1 * (r.val - 80) by omega)
      · exact (show k.val = 0 + 1 * k.val by omega)
    rw [e]
    refine (View.canon_cons_emb _ _ _ _).trans ?_
    pointwise [k0_pay3]

theorem dvOut_at (s : FVec Ideal S64x512 .f32) (r : Fin 64) (k : Fin 512) : dvOut s (ix2 r k) = s (ix2 r k) := by
  unfold dvOut
  have e : ix2 r k = (Rect.unit (s := S64x512) ![0, 0] S64x512.size inb_S64x512_S64x512_0_0).emb (ix2 r k) := by
    funext a
    apply Fin.ext
    fin_cases a
    · exact (show r.val = 0 + 1 * r.val by omega)
    · exact (show k.val = 0 + 1 * k.val by omega)
  rw [e]
  refine (View.canon_cons_emb _ _ _ _).trans ?_
  rw [← e]

variable (m : (ℓ : Loc nD τ sig) → Buf (Elt Ideal) ℓ) (c : Dev nD)

/-- The head and the lane of a row of 1024, the head and the coordinate of a row of 512. -/
def rowHead (a : Fin 1024) : Fin 8 := ⟨a.val / 128, by omega⟩
def rowLane (a : Fin 1024) : Fin 128 := ⟨a.val % 128, by omega⟩
def colHead (a : Fin 512) : Fin 8 := ⟨a.val / 64, by omega⟩

/-- The three arrays the call makes. -/
def dqArr : Vec Ideal S1024x16384 .f32 := fun y =>
  if (rowLane (y 0)).val < 80 then ∑ s : Fin 16384, KT m c (ix2 (y 0) s) * dG (QA m c) (KA m c) (PA m c) (DO m c) (LS m c) (DE m c) (rowHead (y 0)) (y 1) s else 0
def dkArr : Vec Ideal S1024x16384 .f32 := fun y =>
  if (rowLane (y 0)).val < 80 then ∑ x : Fin 16384, QT m c (ix2 (y 0) x) * dG (QA m c) (KA m c) (PA m c) (DO m c) (LS m c) (DE m c) (rowHead (y 0)) x (y 1) else 0
def dvArr : Vec Ideal S512x16384 .f32 := fun y =>
  ∑ x : Fin 16384, DT m c (ix2 (y 0) x) * pG (QA m c) (KA m c) (LS m c) (colHead (y 0)) x (y 1)

theorem rowHead_l128 (h : Fin 8) (r : Fin 128) : rowHead (l128 h r) = h := Fin.ext (by show (128 * h.val + r.val) / 128 = h.val; omega)
theorem rowLane_l128 (h : Fin 8) (r : Fin 128) : rowLane (l128 h r) = r := Fin.ext (by show (128 * h.val + r.val) % 128 = r.val; omega)
theorem colHead_l64 (h : Fin 8) (r : Fin 64) : colHead (l64 h r) = h := Fin.ext (by show (64 * h.val + r.val) / 64 = h.val; omega)

theorem dqArr_at (h : Fin 8) (r : Fin 128) (x : Fin 16384) : dqArr m c (ix2 (l128 h r) x)
    = if r.val < 80 then ∑ s : Fin 16384, KT m c (ix2 (l128 h r) s) * dG (QA m c) (KA m c) (PA m c) (DO m c) (LS m c) (DE m c) h x s else 0 := by
  show (if (rowLane (l128 h r)).val < 80 then ∑ s : Fin 16384, KT m c (ix2 (l128 h r) s) * dG (QA m c) (KA m c) (PA m c) (DO m c) (LS m c) (DE m c) (rowHead (l128 h r)) x s else 0) = _
  rw [rowHead_l128, rowLane_l128]

theorem dkArr_at (h : Fin 8) (r : Fin 128) (s : Fin 16384) : dkArr m c (ix2 (l128 h r) s)
    = if r.val < 80 then ∑ x : Fin 16384, QT m c (ix2 (l128 h r) x) * dG (QA m c) (KA m c) (PA m c) (DO m c) (LS m c) (DE m c) h x s else 0 := by
  show (if (rowLane (l128 h r)).val < 80 then ∑ x : Fin 16384, QT m c (ix2 (l128 h r) x) * dG (QA m c) (KA m c) (PA m c) (DO m c) (LS m c) (DE m c) (rowHead (l128 h r)) x s else 0) = _
  rw [rowHead_l128, rowLane_l128]

theorem dvArr_at (h : Fin 8) (r : Fin 64) (s : Fin 16384) : dvArr m c (ix2 (l64 h r) s)
    = ∑ x : Fin 16384, DT m c (ix2 (l64 h r) x) * pG (QA m c) (KA m c) (LS m c) h x s := by
  show (∑ x : Fin 16384, DT m c (ix2 (l64 h r) x) * pG (QA m c) (KA m c) (LS m c) (colHead (l64 h r)) x s) = _
  rw [colHead_l64]

/-! ## Where the blocks of the three arrays lie -/

theorem emb11 (t : Fin cfg0.N) (r : Fin 128) (x : Fin 16384) :
    (win0_11.blk t).view.emb (ix2 r x) = (ix2 (l128 (hd t) r) x : S1024x16384.Idx) := by
  have hi := idx t
  funext a
  apply Fin.ext
  fin_cases a
  · refine (Pipeline.Window.rect_emb_val win0_11 t (ix2 r x) 0).trans ?_
    rw [hi.2.2.2.2.2.2.2.2.2.1]
    show t.val / 32 * 128 + r.val = 128 * (t.val / 32) + r.val
    omega
  · refine (Pipeline.Window.rect_emb_val win0_11 t (ix2 r x) 1).trans ?_
    rw [hi.2.2.2.2.2.2.2.2.2.1]
    show 0 * 16384 + x.val = x.val
    omega

theorem emb12 (t : Fin cfg0.N) (r : Fin 128) (k : Fin 512) :
    (win0_12.blk t).view.emb (ix2 r k) = (ix2 (l128 (hd t) r) (ks t k) : S1024x16384.Idx) := by
  have hi := idx t
  funext a
  apply Fin.ext
  fin_cases a
  · refine (Pipeline.Window.rect_emb_val win0_12 t (ix2 r k) 0).trans ?_
    rw [hi.2.2.2.2.2.2.2.2.2.2.1]
    show t.val / 32 * 128 + r.val = 128 * (t.val / 32) + r.val
    omega
  · refine (Pipeline.Window.rect_emb_val win0_12 t (ix2 r k) 1).trans ?_
    rw [hi.2.2.2.2.2.2.2.2.2.2.1]
    show t.val % 32 * 512 + k.val = 512 * (t.val % 32) + k.val
    omega

theorem emb13 (t : Fin cfg0.N) (r : Fin 64) (k : Fin 512) :
    (win0_13.blk t).view.emb (ix2 r k) = (ix2 (l64 (hd t) r) (ks t k) : S512x16384.Idx) := by
  have hi := idx t
  funext a
  apply Fin.ext
  fin_cases a
  · refine (Pipeline.Window.rect_emb_val win0_13 t (ix2 r k) 0).trans ?_
    rw [hi.2.2.2.2.2.2.2.2.2.2.2]
    show t.val / 32 * 64 + r.val = 64 * (t.val / 32) + r.val
    omega
  · refine (Pipeline.Window.rect_emb_val win0_13 t (ix2 r k) 1).trans ?_
    rw [hi.2.2.2.2.2.2.2.2.2.2.2]
    show t.val % 32 * 512 + k.val = 512 * (t.val % 32) + k.val
    omega

theorem after0_point (t : Fin cfg0.N) : ∃ A, after0 m c t.val t.isLt = pointV m c t A := by
  by_cases h : t.val % 32 = 0
  · exact ⟨fun _ => 0, after0_first m c t h _⟩
  · exact ⟨_, after0_next m c t h⟩

/-! ## The three arrays after the call -/

theorem arr11 : (dats m 0 c).arrAt 11 cfg0.N = dqArr m c := by
  refine (dats m 0 c).arrAt_eq_of_covers 11 _ (by decide +kernel) fun t hf y => ?_
  have h31 := (flush0_11 t).mp hf
  blk_simp
  rw [after0_11]
  obtain ⟨r, x, rfl⟩ : ∃ (r : Fin 128) (x : Fin 16384), y = (ix2 r x : S128x16384.Idx) := ⟨y 0, y 1, eq_ix2 y⟩
  refine (after_dq m c t.val t.isLt r x).trans (Eq.trans ?_ ((congrArg (dqArr m c) (emb11 t r x)).trans (dqArr_at m c (hd t) r x)).symm)
  split
  · refine Finset.sum_congr rfl fun s _ => ?_
    rw [if_pos (by omega)]
  · rfl

theorem arr12 : (dats m 0 c).arrAt 12 cfg0.N = dkArr m c := by
  refine (dats m 0 c).arrAt_eq_of_covers 12 _ (by decide +kernel) fun t hf y => ?_
  blk_simp
  rw [after0_12]
  obtain ⟨r, k, rfl⟩ : ∃ (r : Fin 128) (k : Fin 512), y = (ix2 r k : S128x512.Idx) := ⟨y 0, y 1, eq_ix2 y⟩
  obtain ⟨A, hA⟩ := after0_point m c t
  refine Eq.trans ?_ ((congrArg (dkArr m c) (emb12 t r k)).trans (dkArr_at m c (hd t) r (ks t k))).symm
  rw [hA]
  refine (dkOut_at _ r k).trans ?_
  by_cases h : r.val < 80
  · rw [dif_pos h, if_pos h, point_dk]
  · rw [dif_neg h, if_neg h]

theorem arr13 : (dats m 0 c).arrAt 13 cfg0.N = dvArr m c := by
  refine (dats m 0 c).arrAt_eq_of_covers 13 _ (by decide +kernel) fun t hf y => ?_
  blk_simp
  rw [after0_13]
  obtain ⟨r, k, rfl⟩ : ∃ (r : Fin 64) (k : Fin 512), y = (ix2 r k : S64x512.Idx) := ⟨y 0, y 1, eq_ix2 y⟩
  obtain ⟨A, hA⟩ := after0_point m c t
  refine Eq.trans ?_ ((congrArg (dvArr m c) (emb13 t r k)).trans (dvArr_at m c (hd t) r (ks t k))).symm
  rw [hA]
  exact (dvOut_at _ r k).trans (point_dv m c t A r k)

end Cert.KernelIdeal.Own

end
-- ==== Proof.HostV.lean ====
module

public import proofs.«01_k».proof.Proof.Out
public import Idealize.ShloMosaic.Lib.StableHlo.RunRead
public import Idealize.ShloMosaic.Lib.StableHlo.ReadAt

@[expose] public section

set_option maxRecDepth 16384
set_option maxHeartbeats 4000000

noncomputable section

namespace Cert.KernelIdeal.Own

open Cert.KernelIdeal Cert.KernelIdeal.Gen
open Idealize.ShloMosaic Idealize.ShloMosaic.TcCoe
open scoped BigOperators

variable (m : (ℓ : Loc nD τ sig) → Buf (Elt Ideal) ℓ) (c : Dev nD)

abbrev aQ : Vec Ideal S16384x8x64 .f32 := m ((c.tc : Thread nD τ).loc main_arg0)
abbrev aK : Vec Ideal S16384x8x64 .f32 := m ((c.tc : Thread nD τ).loc main_arg1)
abbrev aV : Vec Ideal S16384x8x64 .f32 := m ((c.tc : Thread nD τ).loc main_arg2)
abbrev aF : Vec Ideal S8x16384 .f32 := m ((c.tc : Thread nD τ).loc main_arg3)
abbrev aD : Vec Ideal S16384x8x64 .f32 := m ((c.tc : Thread nD τ).loc main_arg4)

abbrev SS : FVec Ideal S8x16384x16384 .f32 := V m c main_v56
abbrev MX : FVec Ideal S8x16384 .f32 := V m c main_v57
abbrev LL : FVec Ideal S8x16384 .f32 := V m c main_v62
abbrev OO : FVec Ideal S16384x8x64 .f32 := V m c main_v70

/-- The scale of the queries. -/
abbrev c8 : EReal := Ideal.ofBits FTy.f32 1040187392#32

/-- Lanes of a query's row of one head, from the query and its running log gate. -/
def qLane (q : Fin 64 → EReal) (f : EReal) (r : Fin 128) : EReal :=
  if h : r.val < 64 then q ⟨r.val, h⟩ * c8 else if r.val = 64 then f else if r.val = 65 then f - f
    else if r.val = 66 then f - f - (f - f) else if r.val < 70 then 1 else 0

/-- Lanes of a key's row of one head, from the key and its running log gate. -/
def kLane (k : Fin 64 → EReal) (f : EReal) (r : Fin 128) : EReal :=
  if h : r.val < 64 then k ⟨r.val, h⟩ else if r.val < 67 then 1 else if r.val = 67 then -f else if r.val = 68 then -(f - f)
    else if r.val = 69 then -(f - f - (f - f)) else 0

theorem QA_at (x : Fin 16384) (h : Fin 8) (r : Fin 128) :
    QA m c (ix2 x (l128 h r)) = qLane (fun d => aQ m c (ix3 x h d)) (aF m c (ix2 h x)) r := by
  simp only [QA, V, V0]
  simp only [List.flatten_cons, List.flatten_nil, List.cons_append, List.nil_append, List.append_nil]
  after_reads_simp
  dsimp only [Matrix.cons_val]
  have e0 : (l128 h r).val = 128 * h.val + r.val := by rfl
  have e1 : (l128 h r).val / 128 = h.val := by omega
  have e2 : (l128 h r).val % 128 = r.val := by omega
  pointwise
  simp only [e1, e2]
  after_reads_simp
  pointwise
  unfold qLane
  (repeat' split) <;> first | rfl | (exfalso; omega)

theorem KA_at (x : Fin 16384) (h : Fin 8) (r : Fin 128) :
    KA m c (ix2 x (l128 h r)) = kLane (fun d => aK m c (ix3 x h d)) (aF m c (ix2 h x)) r := by
  simp only [KA, V, V0]
  simp only [List.flatten_cons, List.flatten_nil, List.cons_append, List.nil_append, List.append_nil]
  after_reads_simp
  dsimp only [Matrix.cons_val]
  have e0 : (l128 h r).val = 128 * h.val + r.val := by rfl
  have e1 : (l128 h r).val / 128 = h.val := by omega
  have e2 : (l128 h r).val % 128 = r.val := by omega
  pointwise
  simp only [e1, e2]
  after_reads_simp
  pointwise
  unfold kLane
  (repeat' split) <;> first | rfl | (exfalso; omega)

theorem QT_at (x : Fin 16384) (a : Fin 1024) : QT m c (ix2 a x) = QA m c (ix2 x a) := by
  have e : V m c main_v84 = transpose S1024x16384 [1, 0] (V m c main_v32) transposes_S16384x1024_S1024x16384_1_0 := by
    simp only [SS, MX, LL, OO, LS, DE, V, V0]
    simp only [List.flatten_cons, List.flatten_nil, List.cons_append, List.nil_append, List.append_nil]
    after_reads_simp
  simp only [QT, QA, e]
  pointwise

theorem KT_at (x : Fin 16384) (a : Fin 1024) : KT m c (ix2 a x) = KA m c (ix2 x a) := by
  have e : V m c main_v85 = transpose S1024x16384 [1, 0] (V m c main_v40) transposes_S16384x1024_S1024x16384_1_0 := by
    simp only [SS, MX, LL, OO, LS, DE, V, V0]
    simp only [List.flatten_cons, List.flatten_nil, List.cons_append, List.nil_append, List.append_nil]
    after_reads_simp
  simp only [KT, KA, e]
  pointwise

theorem DT_at (x : Fin 16384) (h : Fin 8) (d : Fin 64) : DT m c (ix2 (l64 h d) x) = aD m c (ix3 x h d) := by
  simp only [DT, V, V0]
  simp only [List.flatten_cons, List.flatten_nil, List.cons_append, List.nil_append, List.append_nil]
  after_reads_simp
  have e0 : (l64 h d).val = 64 * h.val + d.val := by rfl
  have e1 : (l64 h d).val / 64 = h.val := by omega
  have e2 : (l64 h d).val % 64 = d.val := by omega
  pointwise
  simp only [e1, e2]

theorem DO_at (x : Fin 16384) (h : Fin 8) (r : Fin 128) (hr : r.val / 64 = h.val % 2) :
    DO m c (ix2 x (lpair h r)) = aD m c (ix3 x h ⟨r.val % 64, by omega⟩) := by
  simp only [DO, V, V0]
  simp only [List.flatten_cons, List.flatten_nil, List.cons_append, List.nil_append, List.append_nil]
  after_reads_simp
  have e0 : (lpair h r).val = 128 * (h.val / 2) + r.val := by rfl
  have e1 : (lpair h r).val / 64 = h.val := by omega
  have e2 : (lpair h r).val % 64 = r.val % 64 := by omega
  pointwise
  simp only [e1, e2]

theorem PA_at (x : Fin 16384) (h : Fin 8) (r : Fin 128) (hr : r.val / 64 = h.val % 2) :
    PA m c (ix2 x (lval h r)) = aV m c (ix3 x h ⟨r.val % 64, by omega⟩) := by
  simp only [PA, V, V0]
  simp only [List.flatten_cons, List.flatten_nil, List.cons_append, List.nil_append, List.append_nil]
  after_reads_simp
  dsimp only [Matrix.cons_val]
  have e0 : (lval h r).val = 128 * (24 + h.val / 2) + r.val := by rfl
  pointwise
  rw [dif_neg (by omega), dif_neg (by omega), dif_neg (by omega), dif_pos (by omega)]
  after_reads_simp
  have e1 : ((lval h r).val - 1024 - 1024 - 1024) / 64 = h.val := by omega
  have e2 : ((lval h r).val - 1024 - 1024 - 1024) % 64 = r.val % 64 := by omega
  pointwise
  simp only [e1, e2]

theorem c8_eq : c8 = ((1 / 8 : ℝ) : EReal) := by
  unfold c8 Ideal.ofBits Ideal.ieee
  simp
  rw [← EReal.coe_mul]
  norm_num

theorem bot_eq : Ideal.ofBits FTy.f32 4286578688#32 = ⊥ := by
  unfold Ideal.ofBits Ideal.ieee
  simp

theorem select_causal (s t : Fin 16384) (a b : EReal) :
    Scalar.select (IntOp.cmpi CmpIPredicate.sle (BitVec.ofNat 32 s.val) (BitVec.ofNat 32 t.val)) a b = if s.val ≤ t.val then a else b := by
  have hs := s.isLt
  have ht := t.isLt
  have e : IntOp.cmpi CmpIPredicate.sle (BitVec.ofNat 32 s.val) (BitVec.ofNat 32 t.val) = 1#1 ↔ s.val ≤ t.val := by
    rw [IntOp.cmpi_sle]
    simp only [BitVec.toInt_ofNat', Int.bmod_def]
    omega
  by_cases h : s.val ≤ t.val
  · rw [if_pos h]
    exact if_pos (e.mpr h)
  · rw [if_neg h]
    exact if_neg (fun u => h (e.mp u))

theorem S_at (h : Fin 8) (t s : Fin 16384) :
    SS m c (ix3 h t s) =
      if s.val ≤ t.val then (∑ d : Fin 64, aQ m c (ix3 t h d) * aK m c (ix3 s h d)) * c8 + aF m c (ix2 h t) - aF m c (ix2 h s) else ⊥ := by
  simp only [SS, V, V0]
  simp only [List.flatten_cons, List.flatten_nil, List.cons_append, List.nil_append, List.append_nil]
  after_reads_simp
  simp only [StableHlo.TRef.toBuf, StableHlo.TRef.ofBuf, cast_eq, id_eq]
  pointwise
  rw [select_causal, bot_eq]

theorem after_app (l₁ l₂ : List (HloOp τ sig (Elt Ideal))) (X : Valuation τ sig (Elt Ideal)) :
    StableHlo.after (l₁ ++ l₂) X = StableHlo.after l₂ (StableHlo.after l₁ X) := by
  induction l₁ generalizing X with
  | nil => rfl
  | cons a l ih => simp only [List.cons_append, StableHlo.after_cons, ih]

/-- The buffers once the masked logits are written. -/
def W : Valuation τ sig (Elt Ideal) :=
  StableHlo.after (List.flatten [hostOps0, hostOps0_1, hostOps0_2, hostOps0_3, hostOps0_4, hostOps0_5]) (fun b => m (c, b))

theorem V0_eq : V0 m c = StableHlo.after (List.flatten [hostOps0_6, hostOps0_7, hostOps0_8, hostOps0_9]) (W m c) := by
  unfold W
  rw [← after_app]
  rfl

theorem W_d : W m c (Proc.devRef .tc main_arg4) = aD m c := by
  unfold W
  simp only [List.flatten_cons, List.flatten_nil, List.cons_append, List.nil_append, List.append_nil]
  after_reads_simp
theorem W_v : W m c (Proc.devRef .tc main_arg2) = aV m c := by
  unfold W
  simp only [List.flatten_cons, List.flatten_nil, List.cons_append, List.nil_append, List.append_nil]
  after_reads_simp

theorem L_at (h : Fin 8) (t : Fin 16384) :
    LL m c (ix2 h t) =
      ∑ s : Fin 16384, Ideal.exp (SS m c (ix3 h t s) - MX m c (ix2 h t)) := by
  have e : LL m c = Host.reduceAdd (Host.exp (subf (SS m c) (broadcastInDim S8x16384x16384 ![0, 1, 2] bcast_S8x16384x1_S8x16384x16384_0_1_2
      (broadcastInDim S8x16384x1 ![0, 1] bcast_S8x16384_S8x16384x1_0_1 (MX m c))))) (constant S_ .f32 0x00000000#32) reducesTo_S8x16384x16384_S8x16384_d2 h_S_ := by
    simp only [SS, MX, LL, OO, LS, DE, V, V0_eq]
    simp only [List.flatten_cons, List.flatten_nil, List.cons_append, List.nil_append, List.append_nil]
    after_reads_simp
  rw [e]
  generalize SS m c = X
  generalize MX m c = Y
  pointwise

end Cert.KernelIdeal.Own

end
-- ==== Proof.HostX.lean ====
module

public import proofs.«01_k».proof.Proof.HostV
public import Idealize.ShloMosaic.Lib.StableHlo.RunRead
public import Idealize.ShloMosaic.Lib.StableHlo.ReadAt

@[expose] public section

set_option maxRecDepth 16384
set_option maxHeartbeats 400000

noncomputable section

namespace Cert.KernelIdeal.Own

open Cert.KernelIdeal Cert.KernelIdeal.Gen
open Idealize.ShloMosaic Idealize.ShloMosaic.TcCoe
open scoped BigOperators

variable (m : (ℓ : Loc nD τ sig) → Buf (Elt Ideal) ℓ) (c : Dev nD)

/-- A statistic of the rows, padded as the call takes it. -/
theorem pad_at (X : FVec Ideal S4x2x16384 .f32) (Z : FVec Ideal S_ .f32) (h : Fin 8) (t : Fin 16384) :
    pad S4x8x16384 ![0, 0, 0] ![0, 6, 0] ![0, 0, 0] X Z pads_S4x2x16384_S4x8x16384_000_060_000 h_S_ (ix3 (pr h) (hf h) t)
      = X (ix3 (pr h) ⟨h.val % 2, by omega⟩ t) := by
  have e1 : (hf h).val < 2 := by show h.val % 2 < 2; omega
  pointwise
  rw [dif_pos e1]
  rfl

theorem split_at (X : FVec Ideal S8x16384 .f32) (h : Fin 8) (t : Fin 16384) :
    shapeCast S4x2x16384 X shapeCasts_S8x16384_S4x2x16384 (ix3 (pr h) ⟨h.val % 2, by omega⟩ t) = X (ix2 h t) := by
  have e1 : (pr h).val * 2 + h.val % 2 = h.val := by show h.val / 2 * 2 + h.val % 2 = h.val; omega
  pointwise
  simp only [e1]

/-- The buffers once the statistic of the rows is laid out. -/
def WS : Valuation τ sig (Elt Ideal) := StableHlo.after (List.flatten [hostOps0_6]) (W m c)

theorem V0_late : V0 m c = StableHlo.after (List.flatten [hostOps0_7, hostOps0_8, hostOps0_9]) (WS m c) := by
  unfold WS
  rw [← after_app, V0_eq]
  rfl

theorem lse_at (X Y : FVec Ideal S8x16384 .f32) (h : Fin 8) (t : Fin 16384) :
    shapeCast S8x16384 (addf (broadcastInDim S8x16384x1 ![0, 1] bcast_S8x16384_S8x16384x1_0_1 X)
      (Host.log (broadcastInDim S8x16384x1 ![0, 1] bcast_S8x16384_S8x16384x1_0_1 Y))) shapeCasts_S8x16384x1_S8x16384 (ix2 h t)
      = X (ix2 h t) + Ideal.log (Y (ix2 h t)) := by
  pointwise

theorem rowsum_at (A B : FVec Ideal S16384x8x64 .f32) (h : Fin 8) (t : Fin 16384) :
    transpose S8x16384 [1, 0] (Host.reduceAdd (mulf A B) (constant (F := Ideal) S_ .f32 0#32) reducesTo_S16384x8x64_S16384x8_d2 h_S_) transposes_S16384x8_S8x16384_1_0 (ix2 h t)
      = ∑ d : Fin 64, A (ix3 t h d) * B (ix3 t h d) := by
  pointwise

theorem out_at (A : FVec Ideal S16384x8x64 .f32) (X : FVec Ideal S8x16384x16384 .f32) (Y Z : FVec Ideal S8x16384 .f32) (t : Fin 16384) (h : Fin 8) (d : Fin 64) :
    transpose S16384x8x64 [2, 0, 1] (Host.dotGeneral (F := Ideal) (φ₁ := .f32) (φ₂ := .f32) dot_S16384x8x64_S8x16384x16384_S8x64x16384_0_2_2_1_1_0 none A
      (Host.divf (Host.exp (subf X (broadcastInDim S8x16384x16384 ![0, 1, 2] bcast_S8x16384x1_S8x16384x16384_0_1_2
        (broadcastInDim S8x16384x1 ![0, 1] bcast_S8x16384_S8x16384x1_0_1 Y)))) (broadcastInDim S8x16384x16384 ![0, 1, 2] bcast_S8x16384x1_S8x16384x16384_0_1_2
        (broadcastInDim S8x16384x1 ![0, 1] bcast_S8x16384_S8x16384x1_0_1 Z)))) transposes_S8x64x16384_S16384x8x64_2_0_1 (ix3 t h d)
      = ∑ s : Fin 16384, A (ix3 s h d) * Ideal.div (Ideal.exp (X (ix3 h t s) - Y (ix2 h t))) (Z (ix2 h t)) := by
  pointwise

/-- The log-sum of a row, as the call takes it. -/
theorem LS_at (h : Fin 8) (t : Fin 16384) : LS m c (ix3 (pr h) (hf h) t) = MX m c (ix2 h t) + Ideal.log (LL m c (ix2 h t)) := by
  have e : LS m c (ix3 (pr h) (hf h) t) = (WS m c (Proc.devRef .tc main_v87) : FVec Ideal S4x2x16384 .f32) (ix3 (pr h) ⟨h.val % 2, by omega⟩ t) := by
    simp only [LS, V, V0_late]
    simp only [List.flatten_cons, List.flatten_nil, List.cons_append, List.nil_append, List.append_nil]
    after_reads_simp
    simp only [StableHlo.TRef.toBuf, StableHlo.TRef.ofBuf, cast_eq]
    exact pad_at _ _ h t
  rw [e]
  simp only [MX, LL, V, V0_eq, WS]
  simp only [List.flatten_cons, List.flatten_nil, List.cons_append, List.nil_append, List.append_nil]
  after_reads_simp
  exact (split_at _ h t).trans (lse_at _ _ h t)

/-- The sum of an output's gradient times the output, as the call takes it. -/
theorem DE_at (h : Fin 8) (t : Fin 16384) : DE m c (ix3 (pr h) (hf h) t) = ∑ d : Fin 64, aD m c (ix3 t h d) * OO m c (ix3 t h d) := by
  have e : DE m c (ix3 (pr h) (hf h) t) = (WS m c (Proc.devRef .tc main_v73) : FVec Ideal S8x16384 .f32) (ix2 h t) := by
    simp only [DE, V, V0_late]
    simp only [List.flatten_cons, List.flatten_nil, List.cons_append, List.nil_append, List.append_nil]
    after_reads_simp
    simp only [StableHlo.TRef.toBuf, StableHlo.TRef.ofBuf, cast_eq]
    exact (pad_at _ _ h t).trans (split_at _ h t)
  rw [e, ← W_d]
  simp only [OO, V, V0_eq, WS]
  simp only [List.flatten_cons, List.flatten_nil, List.cons_append, List.nil_append, List.append_nil]
  after_reads_simp
  exact rowsum_at _ _ h t

/-- An output of the forward pass. -/
theorem O_at (t : Fin 16384) (h : Fin 8) (d : Fin 64) : OO m c (ix3 t h d) =
    ∑ s : Fin 16384, aV m c (ix3 s h d) * Ideal.div (Ideal.exp (SS m c (ix3 h t s) - MX m c (ix2 h t))) (LL m c (ix2 h t)) := by
  rw [← W_v]
  simp only [OO, SS, MX, LL, V, V0_eq]
  simp only [List.flatten_cons, List.flatten_nil, List.cons_append, List.nil_append, List.append_nil]
  after_reads_simp
  exact out_at _ _ _ _ t h d

end Cert.KernelIdeal.Own

end
-- ==== Proof.Tail.lean ====
module

public import proofs.«01_k».proof.Proof.HostV
public import Idealize.ShloMosaic.Lib.StableHlo.RunRead
public import Idealize.ShloMosaic.Lib.StableHlo.ReadAt

@[expose] public section

set_option maxRecDepth 16384
set_option maxHeartbeats 400000

noncomputable section

namespace Cert.KernelIdeal.Own

open Cert.KernelIdeal Cert.KernelIdeal.Gen
open Idealize.ShloMosaic Idealize.ShloMosaic.TcCoe
open scoped BigOperators

variable (m : (ℓ : Loc nD τ sig) → Buf (Elt Ideal) ℓ) (c : Dev nD)

/-- The buffers behind the region: its arrays at what the region leaves. -/
def WT : Valuation τ sig (Elt Ideal) := Pipeline.withArrays (cfgs 0).spec c (V0 m c) fun w => (dats m 0 c).arrAt w (cfgs 0).N

theorem WT_dq : (WT m c (Proc.devRef .tc main_v91_0) : FVec Ideal S1024x16384 .f32) = dqArr m c := by
  refine Eq.trans ?_ (arr11 m c)
  exact Pipeline.withArrays_arr (cfgs 0).spec launch0.win.arr_inj c (V0 m c) (fun w => (dats m 0 c).arrAt w (cfgs 0).N) 11
theorem WT_dk : (WT m c (Proc.devRef .tc main_v91_1) : FVec Ideal S1024x16384 .f32) = dkArr m c := by
  refine Eq.trans ?_ (arr12 m c)
  exact Pipeline.withArrays_arr (cfgs 0).spec launch0.win.arr_inj c (V0 m c) (fun w => (dats m 0 c).arrAt w (cfgs 0).N) 12
theorem WT_dv : (WT m c (Proc.devRef .tc main_v91_2) : FVec Ideal S512x16384 .f32) = dvArr m c := by
  refine Eq.trans ?_ (arr13 m c)
  exact Pipeline.withArrays_arr (cfgs 0).spec launch0.win.arr_inj c (V0 m c) (fun w => (dats m 0 c).arrAt w (cfgs 0).N) 13

theorem tail_lanes (X : FVec Ideal S1024x16384 .f32) (h : Fin 8) (r : Fin 128) (x : Fin 16384) :
    shapeCast S8x128x16384 X shapeCasts_S1024x16384_S8x128x16384 (ix3 h r x) = X (ix2 (l128 h r) x) := by
  pointwise
  congr 2
  exact Fin.ext (by show h.val * 128 + r.val = 128 * h.val + r.val; omega)

theorem tail_coords (X : FVec Ideal S512x16384 .f32) (h : Fin 8) (d : Fin 64) (x : Fin 16384) :
    shapeCast S8x64x16384 X shapeCasts_S512x16384_S8x64x16384 (ix3 h d x) = X (ix2 (l64 h d) x) := by
  pointwise
  congr 2
  exact Fin.ext (by show h.val * 64 + d.val = 64 * h.val + d.val; omega)

theorem tail_q (X : FVec Ideal S8x128x16384 .f32) (t : Fin 16384) (h : Fin 8) (d : Fin 64) :
    transpose S16384x8x64 [2, 0, 1] (mulf (extractStridedSlice S8x64x16384 ![0, 0, 0] X slices_S8x128x16384_S8x64x16384_0_0_0)
      (broadcastInDim S8x64x16384 ![] bcast_S_S8x64x16384 (constant (F := Ideal) S_ .f32 0x3E000000#32))) transposes_S8x64x16384_S16384x8x64_2_0_1 (ix3 t h d)
      = X (ix3 h ⟨d.val, by omega⟩ t) * c8 := by
  pointwise

theorem tail_k (X : FVec Ideal S8x128x16384 .f32) (t : Fin 16384) (h : Fin 8) (d : Fin 64) :
    transpose S16384x8x64 [2, 0, 1] (extractStridedSlice S8x64x16384 ![0, 0, 0] X slices_S8x128x16384_S8x64x16384_0_0_0) transposes_S8x64x16384_S16384x8x64_2_0_1 (ix3 t h d)
      = X (ix3 h ⟨d.val, by omega⟩ t) := by
  pointwise

theorem tail_v (X : FVec Ideal S8x64x16384 .f32) (t : Fin 16384) (h : Fin 8) (d : Fin 64) :
    transpose S16384x8x64 [2, 0, 1] X transposes_S8x64x16384_S16384x8x64_2_0_1 (ix3 t h d) = X (ix3 h d t) := by
  pointwise

theorem tail_f (X Y : FVec Ideal S8x128x16384 .f32) (h : Fin 8) (t : Fin 16384) :
    subf (shapeCast S8x16384 (extractStridedSlice S8x1x16384 ![0, 64, 0] X slices_S8x128x16384_S8x1x16384_0_64_0) shapeCasts_S8x1x16384_S8x16384)
      (shapeCast S8x16384 (extractStridedSlice S8x1x16384 ![0, 67, 0] Y slices_S8x128x16384_S8x1x16384_0_67_0) shapeCasts_S8x1x16384_S8x16384) (ix2 h t)
      = X (ix3 h 64 t) - Y (ix3 h 67 t) := by
  pointwise

abbrev TL (b : Ref sig .tc) : Buf (Elt Ideal) ((c.tc : Thread nD τ).loc b) := Pipeline.afterTail₀ cfgs (dats m) 0 (V0 m) [hostOps1] c b

theorem TL_eq (b : Ref sig .tc) : TL m c b = StableHlo.after (List.flatten [hostOps1]) (WT m c) (Proc.devRef .tc b) := rfl

theorem TL_q (t : Fin 16384) (h : Fin 8) (d : Fin 64) : (TL m c main_v98 : FVec Ideal S16384x8x64 .f32) (ix3 t h d)
    = dqArr m c (ix2 (l128 h ⟨d.val, by omega⟩) t) * c8 := by
  rw [TL_eq, ← WT_dq]
  simp only [List.flatten_cons, List.flatten_nil, List.cons_append, List.nil_append, List.append_nil]
  after_reads_simp
  exact (tail_q _ t h d).trans (congrArg (· * c8) (tail_lanes _ h _ t))

theorem TL_k (t : Fin 16384) (h : Fin 8) (d : Fin 64) : (TL m c main_v100 : FVec Ideal S16384x8x64 .f32) (ix3 t h d)
    = dkArr m c (ix2 (l128 h ⟨d.val, by omega⟩) t) := by
  rw [TL_eq, ← WT_dk]
  simp only [List.flatten_cons, List.flatten_nil, List.cons_append, List.nil_append, List.append_nil]
  after_reads_simp
  exact (tail_k _ t h d).trans (tail_lanes _ h _ t)

theorem TL_v (t : Fin 16384) (h : Fin 8) (d : Fin 64) : (TL m c main_v101 : FVec Ideal S16384x8x64 .f32) (ix3 t h d)
    = dvArr m c (ix2 (l64 h d) t) := by
  rw [TL_eq, ← WT_dv]
  simp only [List.flatten_cons, List.flatten_nil, List.cons_append, List.nil_append, List.append_nil]
  after_reads_simp
  exact (tail_v _ t h d).trans (tail_coords _ h _ t)

theorem TL_f (h : Fin 8) (t : Fin 16384) : (TL m c main_v106 : FVec Ideal S8x16384 .f32) (ix2 h t)
    = dqArr m c (ix2 (l128 h 64) t) - dkArr m c (ix2 (l128 h 67) t) := by
  rw [TL_eq, ← WT_dq, ← WT_dk]
  simp only [List.flatten_cons, List.flatten_nil, List.cons_append, List.nil_append, List.append_nil]
  after_reads_simp
  exact (tail_f _ _ h t).trans (congrArg₂ (· - ·) (tail_lanes _ h _ t) (tail_lanes _ h _ t))

end Cert.KernelIdeal.Own

end
-- ==== Proof.Real.lean ====
module

public import Idealize.ShloMosaic.PureOps.Ideal
public import Mathlib.Tactic.FieldSimp
public import Mathlib.Tactic.Ring

@[expose] public section

noncomputable section

namespace Cert.Fox

open Idealize.ShloMosaic
open scoped BigOperators

variable {n : ℕ}

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A logit: the scaled product of a query and a key and the decay between them. -/
def lg (q k : Fin n → Fin 64 → ℝ) (f : Fin n → ℝ) (t s : Fin n) : ℝ := (∑ d, q t d * k s d) * (1 / 8) + f t - f s

/-- A weight before its row is divided by its sum, with `M` taken off the logits. -/
def we (g : Fin n → Fin n → ℝ) (M : ℝ) (t s : Fin n) : ℝ := if s.val ≤ t.val then Real.exp (g t s - M) else 0

/-- A weight of the attention. -/
def pw (g : Fin n → Fin n → ℝ) (t s : Fin n) : ℝ := we g 0 t s / ∑ x, we g 0 t x

/-- The gradient of a weight. -/
def dw (d v : Fin n → Fin 64 → ℝ) (t s : Fin n) : ℝ := ∑ r, d t r * v s r

/-- The gradient of a logit. -/
def ds (p D : Fin n → Fin n → ℝ) (t s : Fin n) : ℝ := p t s * (D t s - ∑ x, p t x * D t x)

theorem we_shift (g : Fin n → Fin n → ℝ) (M : ℝ) (t s : Fin n) : we g M t s = Real.exp (-M) * we g 0 t s := by
  unfold we
  split
  · rw [← Real.exp_add]
    congr 1
    ring
  · simp

theorem we_sum (g : Fin n → Fin n → ℝ) (M : ℝ) (t : Fin n) : ∑ s, we g M t s = Real.exp (-M) * ∑ s, we g 0 t s := by
  rw [Finset.mul_sum]
  exact Finset.sum_congr rfl fun s _ => we_shift g M t s

theorem we_pos (g : Fin n → Fin n → ℝ) (M : ℝ) (t : Fin n) : 0 < ∑ s, we g M t s := by
  have h0 : ∀ s ∈ Finset.univ, 0 ≤ we g M t s := fun s _ => by
    unfold we
    split
    · exact (Real.exp_pos _).le
    · exact le_rfl
  refine lt_of_lt_of_le ?_ (Finset.single_le_sum h0 (Finset.mem_univ t))
  unfold we
  rw [if_pos le_rfl]
  exact Real.exp_pos _

theorem we_div (g : Fin n → Fin n → ℝ) (M : ℝ) (t s : Fin n) : we g M t s / ∑ x, we g M t x = pw g t s := by
  unfold pw
  rw [we_shift, we_sum]
  exact mul_div_mul_left _ _ (Real.exp_pos _).ne'

theorem exp_masked (g : Fin n → Fin n → ℝ) (M : ℝ) (t s : Fin n) :
    Ideal.exp ((if s.val ≤ t.val then ((g t s : ℝ) : EReal) else ⊥) - ((M : ℝ) : EReal)) = ((we g M t s : ℝ) : EReal) := by
  unfold we
  split
  · rw [← EReal.coe_sub, Ideal.exp_coe]
  · rw [EReal.bot_sub]
    rfl

theorem exp_lse (g : Fin n → Fin n → ℝ) (M : ℝ) (t s : Fin n) (h : s.val ≤ t.val) :
    Real.exp (g t s - (M + Real.log (∑ x, we g M t x))) = pw g t s := by
  rw [← we_div g M, ← sub_sub, Real.exp_sub, Real.exp_log (we_pos g M t)]
  unfold we
  rw [if_pos h]

theorem pw_out (g : Fin n → Fin n → ℝ) (t s : Fin n) (h : ¬ s.val ≤ t.val) : pw g t s = 0 := by
  unfold pw we
  rw [if_neg h, zero_div]

theorem div_real (x y : ℝ) (h : y ≠ 0) : Ideal.div ((x : ℝ) : EReal) ((y : ℝ) : EReal) = ((x / y : ℝ) : EReal) := by
  rw [Ideal.div_coe h, ← EReal.coe_mul, mul_one_div]

theorem greatest_real (g : Fin n → Fin n → ℝ) (t : Fin n) :
    ∃ M : ℝ, Finset.univ.fold max (⊥ : EReal) (fun s : Fin n => if s.val ≤ t.val then ((g t s : ℝ) : EReal) else ⊥) = ((M : ℝ) : EReal) := by
  set y := Finset.univ.fold max (⊥ : EReal) (fun s : Fin n => if s.val ≤ t.val then ((g t s : ℝ) : EReal) else ⊥) with hy
  have h1 : y < ⊤ := by
    rw [hy, Finset.fold_max_lt]
    refine ⟨bot_lt_top, fun s _ => ?_⟩
    split
    · exact EReal.coe_lt_top _
    · exact bot_lt_top
  have h2 : ((g t t : ℝ) : EReal) ≤ y := by
    rw [hy, Finset.le_fold_max]
    exact Or.inr ⟨t, Finset.mem_univ t, by rw [if_pos le_rfl]⟩
  exact ⟨y.toReal, (EReal.coe_toReal h1.ne (fun e => by rw [e] at h2; exact absurd h2 (not_le.mpr (EReal.bot_lt_coe _)))).symm⟩

/-- A row's product of the output's gradient with the output is the mean of the weights' gradients. -/
theorem mean_eq (p : Fin n → Fin n → ℝ) (d v : Fin n → Fin 64 → ℝ) (t : Fin n) :
    ∑ r, d t r * ∑ s, v s r * p t s = ∑ s, p t s * dw d v t s := by
  unfold dw
  simp only [Finset.mul_sum]
  rw [Finset.sum_comm]
  exact Finset.sum_congr rfl fun s _ => Finset.sum_congr rfl fun r _ => by ring

theorem ref_ds (g D : Fin n → Fin n → ℝ) (M : ℝ) (t s : Fin n) :
    (D t s / (∑ x, we g M t x) + -(∑ x, D t x * (1 / ((∑ y, we g M t y) * ∑ y, we g M t y)) * we g M t x)) * we g M t s = ds (pw g) D t s := by
  have hl := (we_pos g M t).ne'
  unfold ds
  simp only [← we_div g M]
  generalize hL : ∑ y, we g M t y = L at *
  have e : ∑ x, D t x * (1 / (L * L)) * we g M t x = (∑ x, we g M t x / L * D t x) / L := by
    rw [Finset.sum_div]
    exact Finset.sum_congr rfl fun x _ => by field_simp
  rw [e]
  generalize ∑ x, we g M t x / L * D t x = Z
  field_simp
  ring

/-- A sum over a head's 128 lanes, when only the first 70 hold something. -/
theorem lanes (F : Fin 128 → EReal) (h : ∀ r : Fin 128, 70 ≤ r.val → F r = 0) :
    ∑ r, F r = (∑ d : Fin 64, F ⟨d.val, by omega⟩) + (F 64 + F 65 + F 66 + F 67 + F 68 + F 69) := by
  have e1 : ∑ r, F r = (∑ d : Fin 64, F (Fin.castAdd 64 d)) + ∑ d : Fin 64, F (Fin.natAdd 64 d) := Fin.sum_univ_add (a := 64) (b := 64) F
  have e2 : ∑ d : Fin 64, F (Fin.natAdd 64 d) = (∑ d : Fin 6, F (Fin.natAdd 64 (Fin.castAdd 58 d))) + ∑ d : Fin 58, F (Fin.natAdd 64 (Fin.natAdd 6 d)) :=
    Fin.sum_univ_add (a := 6) (b := 58) fun d => F (Fin.natAdd 64 d)
  have e3 : ∑ d : Fin 58, F (Fin.natAdd 64 (Fin.natAdd 6 d)) = 0 :=
    Finset.sum_eq_zero fun d _ => h _ (by simp only [Fin.val_natAdd]; omega)
  rw [e1, e2, e3, add_zero, Fin.sum_univ_six]
  rfl

/-- A sum over the 128 coordinates of two heads, when only those of the one in question count. -/
theorem half (b : ℕ) (hb : b < 2) (G : Fin 64 → EReal) (F : Fin 128 → EReal)
    (h : ∀ r : Fin 128, F r = if r.val / 64 = b then G ⟨r.val % 64, by omega⟩ else 0) : ∑ r, F r = ∑ d, G d := by
  have e1 : ∑ r, F r = (∑ d : Fin 64, F (Fin.castAdd 64 d)) + ∑ d : Fin 64, F (Fin.natAdd 64 d) := Fin.sum_univ_add (a := 64) (b := 64) F
  have a1 : ∀ d : Fin 64, (Fin.castAdd 64 d).val / 64 = 0 := fun d => by simp only [Fin.val_castAdd]; omega
  have a2 : ∀ d : Fin 64, (Fin.natAdd 64 d).val / 64 = 1 := fun d => by simp only [Fin.val_natAdd]; omega
  have b1 : ∀ d : Fin 64, (⟨(Fin.castAdd 64 d).val % 64, by omega⟩ : Fin 64) = d := fun d => Fin.ext (by simp only [Fin.val_castAdd]; omega)
  have b2 : ∀ d : Fin 64, (⟨(Fin.natAdd 64 d).val % 64, by omega⟩ : Fin 64) = d := fun d => Fin.ext (by simp only [Fin.val_natAdd]; omega)
  rw [e1]
  simp only [h, a1, a2, b1, b2]
  rcases (show b = 0 ∨ b = 1 by omega) with rfl | rfl
  · simp
  · simp

end Cert.Fox

end
-- ==== Proof.KReal.lean ====
module

public import proofs.«01_k».proof.Proof.HostX
public import proofs.«01_k».proof.Proof.Tail
public import proofs.«01_k».proof.Proof.Real

@[expose] public section

set_option maxRecDepth 16384
set_option maxHeartbeats 400000

noncomputable section

namespace Cert.KernelIdeal.Own

open Cert.KernelIdeal Cert.KernelIdeal.Gen
open Idealize.ShloMosaic Idealize.ShloMosaic.TcCoe
open Cert.Fox
open scoped BigOperators

theorem greatest_at (S : FVec Ideal S8x16384x16384 .f32) (h : Fin 8) (t : Fin 16384) :
    (Host.reduce FloatOps.maximumf S (constant S_ .f32 0xFF800000#32) reducesTo_S8x16384x16384_S8x16384_d2 h_S_ : FVec Ideal S8x16384 .f32) (ix2 h t)
      = Finset.univ.fold max (Ideal.ofBits FTy.f32 4286578688#32) (fun s : Fin 16384 => S (ix3 h t s)) := by
  pointwise

variable (m : (ℓ : Loc nD τ sig) → Buf (Elt Ideal) ℓ) (c : Dev nD)

/-- The greatest logit of a row. -/
theorem MX_at (h : Fin 8) (t : Fin 16384) :
    MX m c (ix2 h t) = Finset.univ.fold max (Ideal.ofBits FTy.f32 4286578688#32) (fun s : Fin 16384 => SS m c (ix3 h t s)) := by
  have e : MX m c = Host.reduce FloatOps.maximumf (SS m c) (constant S_ .f32 0xFF800000#32) reducesTo_S8x16384x16384_S8x16384_d2 h_S_ := by
    simp only [SS, MX, LL, OO, LS, DE, V, V0_eq]
    simp only [List.flatten_cons, List.flatten_nil, List.cons_append, List.nil_append, List.append_nil]
    after_reads_simp
  rw [e]
  exact greatest_at _ h t

/-- The lanes of a query and a key multiply to their logit. -/
theorem lane_prod (q k : Fin 64 → ℝ) (f f' : ℝ) :
    ∑ r : Fin 128, kLane (fun d => ((k d : ℝ) : EReal)) ((f' : ℝ) : EReal) r * qLane (fun d => ((q d : ℝ) : EReal)) ((f : ℝ) : EReal) r
      = (((∑ d, q d * k d) * (1 / 8) + f - f' : ℝ) : EReal) := by
  rw [lanes]
  · have e : ∀ d : Fin 64, kLane (fun d => ((k d : ℝ) : EReal)) ((f' : ℝ) : EReal) ⟨d.val, by omega⟩ * qLane (fun d => ((q d : ℝ) : EReal)) ((f : ℝ) : EReal) ⟨d.val, by omega⟩
        = ((q d * k d * (1 / 8) : ℝ) : EReal) := fun d => by
      unfold kLane qLane
      rw [dif_pos d.isLt, dif_pos d.isLt, c8_eq, ← EReal.coe_mul, ← EReal.coe_mul]
      congr 1
      ring
    simp only [e, sum_coe]
    have k64 : kLane (fun d => ((k d : ℝ) : EReal)) ((f' : ℝ) : EReal) 64 = ((1 : ℝ) : EReal) := rfl
    have k65 : kLane (fun d => ((k d : ℝ) : EReal)) ((f' : ℝ) : EReal) 65 = ((1 : ℝ) : EReal) := rfl
    have k66 : kLane (fun d => ((k d : ℝ) : EReal)) ((f' : ℝ) : EReal) 66 = ((1 : ℝ) : EReal) := rfl
    have k67 : kLane (fun d => ((k d : ℝ) : EReal)) ((f' : ℝ) : EReal) 67 = -((f' : ℝ) : EReal) := rfl
    have k68 : kLane (fun d => ((k d : ℝ) : EReal)) ((f' : ℝ) : EReal) 68 = -(((f' : ℝ) : EReal) - ((f' : ℝ) : EReal)) := rfl
    have k69 : kLane (fun d => ((k d : ℝ) : EReal)) ((f' : ℝ) : EReal) 69
        = -(((f' : ℝ) : EReal) - ((f' : ℝ) : EReal) - (((f' : ℝ) : EReal) - ((f' : ℝ) : EReal))) := rfl
    have q64 : qLane (fun d => ((q d : ℝ) : EReal)) ((f : ℝ) : EReal) 64 = ((f : ℝ) : EReal) := rfl
    have q65 : qLane (fun d => ((q d : ℝ) : EReal)) ((f : ℝ) : EReal) 65 = ((f : ℝ) : EReal) - ((f : ℝ) : EReal) := rfl
    have q66 : qLane (fun d => ((q d : ℝ) : EReal)) ((f : ℝ) : EReal) 66
        = ((f : ℝ) : EReal) - ((f : ℝ) : EReal) - (((f : ℝ) : EReal) - ((f : ℝ) : EReal)) := rfl
    have q67 : qLane (fun d => ((q d : ℝ) : EReal)) ((f : ℝ) : EReal) 67 = ((1 : ℝ) : EReal) := rfl
    have q68 : qLane (fun d => ((q d : ℝ) : EReal)) ((f : ℝ) : EReal) 68 = ((1 : ℝ) : EReal) := rfl
    have q69 : qLane (fun d => ((q d : ℝ) : EReal)) ((f : ℝ) : EReal) 69 = ((1 : ℝ) : EReal) := rfl
    rw [k64, k65, k66, k67, k68, k69, q64, q65, q66, q67, q68, q69]
    simp only [← EReal.coe_sub, ← EReal.coe_neg, ← EReal.coe_mul, ← EReal.coe_add]
    congr 1
    rw [Finset.sum_mul]
    ring
  · intro r hr
    unfold kLane qLane
    rw [dif_neg (by omega), if_neg (by omega), if_neg (by omega), if_neg (by omega), if_neg (by omega), zero_mul]

variable (rq rk rv rd : Fin 8 → Fin 16384 → Fin 64 → ℝ) (rf : Fin 8 → Fin 16384 → ℝ)
  (hq : ∀ h t r, aQ m c (ix3 t h r) = ((rq h t r : ℝ) : EReal)) (hk : ∀ h t r, aK m c (ix3 t h r) = ((rk h t r : ℝ) : EReal))
  (hv : ∀ h t r, aV m c (ix3 t h r) = ((rv h t r : ℝ) : EReal)) (hd : ∀ h t r, aD m c (ix3 t h r) = ((rd h t r : ℝ) : EReal))
  (hf : ∀ h t, aF m c (ix2 h t) = ((rf h t : ℝ) : EReal))

include hq hk hf in
theorem SS_real (h : Fin 8) (t s : Fin 16384) :
    SS m c (ix3 h t s) = if s.val ≤ t.val then ((lg (rq h) (rk h) (rf h) t s : ℝ) : EReal) else ⊥ := by
  rw [S_at]
  simp only [hq, hk, hf, c8_eq, ← EReal.coe_mul, sum_coe, ← EReal.coe_add, ← EReal.coe_sub]
  rfl

include hq hk hf in
theorem MX_real (h : Fin 8) (t : Fin 16384) : ∃ M : ℝ, MX m c (ix2 h t) = ((M : ℝ) : EReal) := by
  obtain ⟨M, e⟩ := greatest_real (lg (rq h) (rk h) (rf h)) t
  refine ⟨M, ?_⟩
  rw [MX_at]
  simp only [SS_real m c rq rk rf hq hk hf, bot_eq]
  exact e

include hq hk hf in
theorem LL_real (h : Fin 8) (t : Fin 16384) (M : ℝ) (hM : MX m c (ix2 h t) = ((M : ℝ) : EReal)) :
    LL m c (ix2 h t) = ((∑ s, we (lg (rq h) (rk h) (rf h)) M t s : ℝ) : EReal) := by
  rw [L_at, ← sum_coe]
  refine Finset.sum_congr rfl fun s _ => ?_
  rw [hM, SS_real m c rq rk rf hq hk hf]
  exact exp_masked _ _ _ _

include hq hk hf in
theorem logits_real (h : Fin 8) (t s : Fin 16384) :
    ∑ r : Fin 128, KA m c (ix2 s (l128 h r)) * QA m c (ix2 t (l128 h r)) = ((lg (rq h) (rk h) (rf h) t s : ℝ) : EReal) := by
  have e := lane_prod (rq h t) (rk h s) (rf h t) (rf h s)
  rw [show lg (rq h) (rk h) (rf h) t s = (∑ d, rq h t d * rk h s d) * (1 / 8) + rf h t - rf h s from rfl, ← e]
  refine Finset.sum_congr rfl fun r _ => ?_
  rw [KA_at, QA_at]
  simp only [hq, hk, hf]

include hq hk hf in
/-- The weights the call computes again. -/
theorem pG_real (h : Fin 8) (t s : Fin 16384) :
    pG (QA m c) (KA m c) (LS m c) h t s = ((pw (lg (rq h) (rk h) (rf h)) t s : ℝ) : EReal) := by
  obtain ⟨M, hM⟩ := MX_real m c rq rk rf hq hk hf h t
  unfold pG
  split
  · rename_i hs
    rw [logits_real m c rq rk rf hq hk hf, LS_at, hM, LL_real m c rq rk rf hq hk hf h t M hM, Ideal.log_coe, if_neg (not_le.mpr (we_pos _ _ _)),
      ← EReal.coe_add, ← EReal.coe_sub, Ideal.exp_coe, exp_lse _ _ _ _ hs]
  · rename_i hs
    rw [pw_out _ _ _ hs, EReal.coe_zero]

include hv hd in
theorem dprob_real (h : Fin 8) (t s : Fin 16384) :
    ∑ r : Fin 128, (if r.val / 64 = h.val % 2 then PA m c (ix2 s (lval h r)) else 0) * DO m c (ix2 t (lpair h r)) = ((dw (rd h) (rv h) t s : ℝ) : EReal) := by
  rw [Cert.Fox.half (h.val % 2) (by omega) (fun d => ((rd h t d * rv h s d : ℝ) : EReal))]
  · rw [sum_coe]
    rfl
  · intro r
    split
    · rename_i hr
      rw [PA_at m c s h r hr, DO_at m c t h r hr, hv, hd, ← EReal.coe_mul, mul_comm]
    · rw [zero_mul]

include hq hk hf hv hd in
theorem mean_real (h : Fin 8) (t : Fin 16384) :
    DE m c (ix3 (pr h) (Own.hf h) t) = ((∑ s, pw (lg (rq h) (rk h) (rf h)) t s * dw (rd h) (rv h) t s : ℝ) : EReal) := by
  obtain ⟨M, hM⟩ := MX_real m c rq rk rf hq hk hf h t
  rw [DE_at, ← mean_eq, ← sum_coe]
  refine Finset.sum_congr rfl fun r _ => ?_
  rw [O_at, hd, EReal.coe_mul, ← sum_coe]
  refine congrArg (((rd h t r : ℝ) : EReal) * ·) ?_
  refine Finset.sum_congr rfl fun s _ => ?_
  rw [LL_real m c rq rk rf hq hk hf h t M hM, hM, SS_real m c rq rk rf hq hk hf, exp_masked, div_real _ _ (we_pos _ _ _).ne', we_div, hv, ← EReal.coe_mul]

include hq hk hf hv hd in
theorem dG_real (h : Fin 8) (t s : Fin 16384) :
    dG (QA m c) (KA m c) (PA m c) (DO m c) (LS m c) (DE m c) h t s = ((ds (pw (lg (rq h) (rk h) (rf h))) (dw (rd h) (rv h)) t s : ℝ) : EReal) := by
  unfold dG
  rw [pG_real m c rq rk rf hq hk hf, dprob_real m c rv rd hv hd, mean_real m c rq rk rv rd rf hq hk hv hd hf, ← EReal.coe_sub, ← EReal.coe_mul]
  rfl

include hq hk hf hv hd in
theorem TL_q_real (t : Fin 16384) (h : Fin 8) (r : Fin 64) : (TL m c main_v98 : FVec Ideal S16384x8x64 .f32) (ix3 t h r)
      = ((∑ s, ds (pw (lg (rq h) (rk h) (rf h))) (dw (rd h) (rv h)) t s * (1 / 8) * rk h s r : ℝ) : EReal) := by
  have e : ∀ s, KT m c (ix2 (l128 h ⟨r.val, by omega⟩) s) = ((rk h s r : ℝ) : EReal) := fun s => by
    rw [KT_at, KA_at]
    unfold kLane
    rw [dif_pos r.isLt]
    exact hk h s r
  rw [TL_q, dqArr_at, if_pos (by show r.val < 80; omega)]
  simp only [e, dG_real m c rq rk rv rd rf hq hk hv hd hf, c8_eq, ← EReal.coe_mul, sum_coe]
  refine congrArg Real.toEReal ?_
  rw [Finset.sum_mul]
  exact Finset.sum_congr rfl fun s _ => by ring

include hq hk hf hv hd in
theorem TL_k_real (s : Fin 16384) (h : Fin 8) (r : Fin 64) : (TL m c main_v100 : FVec Ideal S16384x8x64 .f32) (ix3 s h r)
      = ((∑ t, ds (pw (lg (rq h) (rk h) (rf h))) (dw (rd h) (rv h)) t s * (1 / 8) * rq h t r : ℝ) : EReal) := by
  have e : ∀ t, QT m c (ix2 (l128 h ⟨r.val, by omega⟩) t) = ((rq h t r * (1 / 8) : ℝ) : EReal) := fun t => by
    rw [QT_at, QA_at]
    unfold qLane
    rw [dif_pos r.isLt, EReal.coe_mul, ← c8_eq]
    exact congrArg (· * c8) (hq h t r)
  rw [TL_k, dkArr_at, if_pos (by show r.val < 80; omega)]
  simp only [e, dG_real m c rq rk rv rd rf hq hk hv hd hf, ← EReal.coe_mul, sum_coe]
  refine congrArg Real.toEReal ?_
  exact Finset.sum_congr rfl fun s _ => by ring

include hq hk hf hd in
theorem TL_v_real (s : Fin 16384) (h : Fin 8) (r : Fin 64) : (TL m c main_v101 : FVec Ideal S16384x8x64 .f32) (ix3 s h r)
      = ((∑ t, rd h t r * pw (lg (rq h) (rk h) (rf h)) t s : ℝ) : EReal) := by
  have e2 : ∀ X : Fin 16384 → EReal, (∀ t, X t = ((rd h t r * pw (lg (rq h) (rk h) (rf h)) t s : ℝ) : EReal)) →
      ∑ t, X t = ((∑ t, rd h t r * pw (lg (rq h) (rk h) (rf h)) t s : ℝ) : EReal) := fun X hX =>
    (Finset.sum_congr rfl fun t _ => hX t).trans (sum_coe _ _)
  rw [TL_v, dvArr_at]
  refine e2 _ fun t => ?_
  rw [DT_at, pG_real m c rq rk rf hq hk hf, EReal.coe_mul]
  exact congrArg (· * _) (hd h t r)

include hq hk hf hv hd in
theorem TL_f_real (h : Fin 8) (t : Fin 16384) : (TL m c main_v106 : FVec Ideal S8x16384 .f32) (ix2 h t)
      = (((∑ x, -ds (pw (lg (rq h) (rk h) (rf h))) (dw (rd h) (rv h)) x t) + ∑ s, ds (pw (lg (rq h) (rk h) (rf h))) (dw (rd h) (rv h)) t s : ℝ) : EReal) := by
  have e1 : ∀ s, KT m c (ix2 (l128 h 64) s) = ((1 : ℝ) : EReal) := fun s => by
    rw [KT_at, KA_at]
    rfl
  have e2 : ∀ s, QT m c (ix2 (l128 h 67) s) = ((1 : ℝ) : EReal) := fun s => by
    rw [QT_at, QA_at]
    rfl
  rw [TL_f, dqArr_at, dkArr_at, if_pos (by decide), if_pos (by decide)]
  simp only [e1, e2, dG_real m c rq rk rv rd rf hq hk hv hd hf, ← EReal.coe_mul, sum_coe, ← EReal.coe_sub, one_mul]
  refine congrArg Real.toEReal ?_
  rw [Finset.sum_neg_distrib]
  ring

end Cert.KernelIdeal.Own

end
-- ==== Proof.RefV.lean ====
module

public import proofs.«01_k».proof.Proof.Gen.ReferenceIdeal.Run
public import Idealize.ShloMosaic.Lib.Pointwise.Tactic

@[expose] public section

set_option maxRecDepth 16384
set_option maxHeartbeats 4000000

noncomputable section

namespace Cert.ReferenceIdeal.Own

open Cert.ReferenceIdeal Cert.ReferenceIdeal.Gen
open Idealize.ShloMosaic Idealize.ShloMosaic.TcCoe
open scoped BigOperators

abbrev A3 := FVec Ideal S16384x8x64 .f32
abbrev A2 := FVec Ideal S8x16384 .f32
abbrev P3 := FVec Ideal S8x16384x16384 .f32

/-- Which keys a query sees. -/
def mask : IVec S8x16384x16384 1 :=
  broadcastInDim S8x16384x16384 ![1, 2] bcast_S16384x16384_S8x16384x16384_1_2 (cmpi .sle (broadcastInDim S16384x16384 ![0, 1] bcast_S1x16384_S16384x16384_0_1 (broadcastInDim S1x16384 ![1] bcast_S16384_S1x16384_1 (iotaInDim S16384 32 0))) (broadcastInDim S16384x16384 ![0, 1] bcast_S16384x1_S16384x16384_0_1 (broadcastInDim S16384x1 ![0] bcast_S16384_S16384x1_0 (iotaInDim S16384 32 0))))

/-- The masked logits. -/
def logit (q k : A3) (f : A2) : P3 :=
  select mask (subf (addf (mulf (Host.dotGeneral (F := Ideal) (φ₁ := .f32) (φ₂ := .f32) dot_S16384x8x64_S16384x8x64_S8x16384x16384_2_2_0_0_1_1 none q k) (broadcastInDim S8x16384x16384 ![] bcast_S_S8x16384x16384 (constant S_ .f32 0x3E000000#32))) (broadcastInDim S8x16384x16384 ![0, 1, 2] bcast_S8x16384x1_S8x16384x16384_0_1_2 (broadcastInDim S8x16384x1 ![0, 1] bcast_S8x16384_S8x16384x1_0_1 f))) (broadcastInDim S8x16384x16384 ![0, 1, 2] bcast_S8x1x16384_S8x16384x16384_0_1_2 (broadcastInDim S8x1x16384 ![0, 2] bcast_S8x16384_S8x1x16384_0_2 f))) (broadcastInDim S8x16384x16384 ![] bcast_S_S8x16384x16384 (id (constant S_ .f32 0xFF800000#32)))

/-- A row's greatest logit. -/
def top (S : P3) : A2 :=
  maximumf (broadcastInDim S8x16384 ![] bcast_S_S8x16384 (constant S_ .f32 0xFF800000#32)) (Host.reduce FloatOps.maximumf S (constant S_ .f32 0xFF800000#32) reducesTo_S8x16384x16384_S8x16384_d2 h_S_)

/-- A pair array of one number for each row. -/
def rows (X : A2) : P3 :=
  broadcastInDim S8x16384x16384 ![0, 1, 2] bcast_S8x16384x1_S8x16384x16384_0_1_2 (broadcastInDim S8x16384x1 ![0, 1] bcast_S8x16384_S8x16384x1_0_1 X)

/-- The exponentials. -/
def wexp (S : P3) : P3 := Host.exp (subf S (rows (top S)))

/-- A row's sum. -/
def rsum (E : P3) : A2 := Host.reduceAdd E (constant (F := Ideal) S_ .f32 0x00000000#32) reducesTo_S8x16384x16384_S8x16384_d2 h_S_

/-- Transposed gradient of the outputs. -/
def dT (d : A3) : FVec Ideal S8x64x16384 .f32 := transpose S8x64x16384 [1, 2, 0] d transposes_S16384x8x64_S8x64x16384_1_2_0

/-- The gradient of the weights. -/
def dprob (d v : A3) : P3 :=
  Host.dotGeneral (F := Ideal) (φ₁ := .f32) (φ₂ := .f32) dot_S8x64x16384_S16384x8x64_S8x16384x16384_1_2_2_0_0_1 none (dT d) v

/-- The gradient of a row's sum. -/
def dsum (D E : P3) (L : A2) : A2 :=
  Host.reduceAdd (Host.negf (shapeCast S8x16384x1 (rsum (mulf (mulf D (broadcastInDim S8x16384x16384 ![0, 1, 2] bcast_S8x16384x1_S8x16384x16384_0_1_2 (Host.divf (broadcastInDim S8x16384x1 ![] bcast_S_S8x16384x1 (constant (F := Ideal) S_ .f32 0x3F800000#32)) (mulf (broadcastInDim S8x16384x1 ![0, 1] bcast_S8x16384_S8x16384x1_0_1 L) (broadcastInDim S8x16384x1 ![0, 1] bcast_S8x16384_S8x16384x1_0_1 L))))) E)) shapeCasts_S8x16384_S8x16384x1)) (constant (F := Ideal) S_ .f32 0x00000000#32) reducesTo_S8x16384x1_S8x16384_d2 h_S_

/-- The gradient of the logits. -/
def dlogit (D E : P3) (L : A2) : P3 :=
  select mask (mulf (addf (Host.divf D (rows L)) (broadcastInDim S8x16384x16384 ![0, 1] bcast_S8x16384_S8x16384x16384_0_1 (dsum D E L))) E) (broadcastInDim S8x16384x16384 ![] bcast_S_S8x16384x16384 (constant S_ .f32 0x00000000#32))

def gV (d : A3) (E : P3) (L : A2) : A3 :=
  transpose S16384x8x64 [2, 0, 1] (Host.dotGeneral (F := Ideal) (φ₁ := .f32) (φ₂ := .f32) dot_S8x64x16384_S8x16384x16384_S8x64x16384_2_1_1_2_0_0 none (dT d) (Host.divf E (rows L))) transposes_S8x64x16384_S16384x8x64_2_0_1

def gF (G : P3) : A2 :=
  addf (Host.reduceAdd (shapeCast S8x1x16384 (Host.reduceAdd (Host.negf G) (constant (F := Ideal) S_ .f32 0x00000000#32) reducesTo_S8x16384x16384_S8x16384_d1 h_S_) shapeCasts_S8x16384_S8x1x16384) (constant (F := Ideal) S_ .f32 0x00000000#32) reducesTo_S8x1x16384_S8x16384_d1 h_S_) (Host.reduceAdd (shapeCast S8x16384x1 (rsum G) shapeCasts_S8x16384_S8x16384x1) (constant (F := Ideal) S_ .f32 0x00000000#32) reducesTo_S8x16384x1_S8x16384_d2 h_S_)

/-- The gradient of the plain products. -/
def gS (G : P3) : P3 := mulf G (broadcastInDim S8x16384x16384 ![] bcast_S_S8x16384x16384 (constant S_ .f32 0x3E000000#32))

def gK (G : P3) (q : A3) : A3 :=
  transpose S16384x8x64 [1, 0, 2] (Host.dotGeneral (F := Ideal) (φ₁ := .f32) (φ₂ := .f32) dot_S8x16384x16384_S16384x8x64_S8x16384x64_1_0_2_2_0_1 none (gS G) q) transposes_S8x16384x64_S16384x8x64_1_0_2

def gQ (G : P3) (k : A3) : A3 :=
  transpose S16384x8x64 [1, 0, 2] (Host.dotGeneral (F := Ideal) (φ₁ := .f32) (φ₂ := .f32) dot_S8x16384x16384_S16384x8x64_S8x16384x64_2_0_1_2_0_1 none (gS G) k) transposes_S8x16384x64_S16384x8x64_1_0_2

variable (m : (ℓ : Loc nD τ sig) → Buf (Elt Ideal) ℓ) (c : Dev nD)

abbrev bQ : A3 := m ((c.tc : Thread nD τ).loc main_arg0)
abbrev bK : A3 := m ((c.tc : Thread nD τ).loc main_arg1)
abbrev bV : A3 := m ((c.tc : Thread nD τ).loc main_arg2)
abbrev bF : A2 := m ((c.tc : Thread nD τ).loc main_arg3)
abbrev bD : A3 := m ((c.tc : Thread nD τ).loc main_arg4)

/-- The logits, exponentials, row sums and gradient of the logits of the arguments. -/
def rS : P3 := logit (bQ m c) (bK m c) (bF m c)
def rE : P3 := wexp (rS m c)
def rL : A2 := rsum (rE m c)
def rD : P3 := dprob (bD m c) (bV m c)
def rG : P3 := dlogit (rD m c) (rE m c) (rL m c)

theorem res_v : Value.res_main_v49 m c = gV (bD m c) (rE m c) (rL m c) := by
  unfold Value.res_main_v49 gV rL rE rsum wexp rS top logit rows mask dT
  rfl

theorem res_f : Value.res_main_v70 m c = gF (rG m c) := by
  unfold Value.res_main_v70 gF rG dlogit dsum rD dprob rL rE rsum wexp rS top logit rows mask dT
  rfl

theorem res_k : Value.res_main_v74 m c = gK (rG m c) (bQ m c) := by
  unfold Value.res_main_v74 gK gS rG dlogit dsum rD dprob rL rE rsum wexp rS top logit rows mask dT
  rfl

theorem res_q : Value.res_main_v76 m c = gQ (rG m c) (bK m c) := by
  unfold Value.res_main_v76 gQ gS rG dlogit dsum rD dprob rL rE rsum wexp rS top logit rows mask dT
  rfl

end Cert.ReferenceIdeal.Own

end
-- ==== Proof.RefX.lean ====
module

public import proofs.«01_k».proof.Proof.RefV
public import Idealize.ShloMosaic.Lib.Pointwise.Tactic
public import Idealize.ShloMosaic.Lib.Pointwise.Reduce
public import Idealize.ShloMosaic.Lib.Pointwise.Contract
public import Idealize.ShloMosaic.Lib.Pointwise.Select
public import Idealize.ShloMosaic.Lib.Pointwise.Reshape

@[expose] public section

set_option maxRecDepth 16384
set_option maxHeartbeats 400000

noncomputable section

namespace Cert.ReferenceIdeal.Own

open Cert.ReferenceIdeal Cert.ReferenceIdeal.Gen
open Idealize.ShloMosaic Idealize.ShloMosaic.TcCoe
open scoped BigOperators

/-- The scale of the logits. -/
abbrev c8 : EReal := Ideal.ofBits FTy.f32 1040187392#32

theorem bot_eq : Ideal.ofBits FTy.f32 4286578688#32 = ⊥ := by
  unfold Ideal.ofBits Ideal.ieee
  simp

theorem select_causal (s t : Fin 16384) (a b : EReal) :
    Scalar.select (IntOp.cmpi CmpIPredicate.sle (BitVec.ofNat 32 s.val) (BitVec.ofNat 32 t.val)) a b = if s.val ≤ t.val then a else b := by
  have hs := s.isLt
  have ht := t.isLt
  have e : IntOp.cmpi CmpIPredicate.sle (BitVec.ofNat 32 s.val) (BitVec.ofNat 32 t.val) = 1#1 ↔ s.val ≤ t.val := by
    rw [IntOp.cmpi_sle]
    simp only [BitVec.toInt_ofNat', Int.bmod_def]
    omega
  by_cases h : s.val ≤ t.val
  · rw [if_pos h]
    exact if_pos (e.mpr h)
  · rw [if_neg h]
    exact if_neg (fun u => h (e.mp u))

theorem logit_at (q k : A3) (f : A2) (h : Fin 8) (t s : Fin 16384) :
    logit q k f (ix3 h t s) =
      if s.val ≤ t.val then (∑ d : Fin 64, q (ix3 t h d) * k (ix3 s h d)) * c8 + f (ix2 h t) - f (ix2 h s) else ⊥ := by
  unfold logit mask
  simp only [id_eq]
  pointwise
  rw [select_causal, bot_eq]

theorem rows_at (X : A2) (h : Fin 8) (t s : Fin 16384) : rows X (ix3 h t s) = X (ix2 h t) := by
  unfold rows
  pointwise

theorem greatest_at (S : P3) (h : Fin 8) (t : Fin 16384) :
    (Host.reduce FloatOps.maximumf S (constant S_ .f32 0xFF800000#32) reducesTo_S8x16384x16384_S8x16384_d2 h_S_ : A2) (ix2 h t)
      = Finset.univ.fold max (Ideal.ofBits FTy.f32 4286578688#32) (fun s : Fin 16384 => S (ix3 h t s)) := by
  pointwise

theorem top_at (S : P3) (h : Fin 8) (t : Fin 16384) :
    top S (ix2 h t) = max (Ideal.ofBits FTy.f32 4286578688#32) (Finset.univ.fold max (Ideal.ofBits FTy.f32 4286578688#32) (fun s : Fin 16384 => S (ix3 h t s))) := by
  unfold top
  rw [maximumf_apply, greatest_at]
  generalize Finset.univ.fold max (Ideal.ofBits FTy.f32 4286578688#32) (fun s : Fin 16384 => S (ix3 h t s)) = y
  pointwise

theorem wexp_at (S : P3) (h : Fin 8) (t s : Fin 16384) :
    wexp S (ix3 h t s) = Ideal.exp (S (ix3 h t s) - top S (ix2 h t)) := by
  unfold wexp
  pointwise
  rw [rows_at]

theorem rsum_at (E : P3) (h : Fin 8) (t : Fin 16384) : rsum E (ix2 h t) = ∑ s : Fin 16384, E (ix3 h t s) := by
  unfold rsum
  pointwise

theorem dprob_at (d v : A3) (h : Fin 8) (t s : Fin 16384) :
    dprob d v (ix3 h t s) = ∑ r : Fin 64, d (ix3 t h r) * v (ix3 s h r) := by
  unfold dprob dT
  pointwise

theorem dsum_at (D E : P3) (L : A2) (h : Fin 8) (t : Fin 16384) :
    dsum D E L (ix2 h t) = -(∑ s : Fin 16384, D (ix3 h t s) * Ideal.div 1 (L (ix2 h t) * L (ix2 h t)) * E (ix3 h t s)) := by
  unfold dsum
  pointwise
  simp only [Fin.sum_univ_one, rsum_at]
  pointwise

theorem dlogit_at (D E : P3) (L : A2) (h : Fin 8) (t s : Fin 16384) :
    dlogit D E L (ix3 h t s) =
      if s.val ≤ t.val then (Ideal.div (D (ix3 h t s)) (L (ix2 h t)) + dsum D E L (ix2 h t)) * E (ix3 h t s) else 0 := by
  unfold dlogit mask
  pointwise
  rw [select_causal]
  simp only [rows_at]

theorem gV_at (d : A3) (E : P3) (L : A2) (s : Fin 16384) (h : Fin 8) (r : Fin 64) :
    gV d E L (ix3 s h r) = ∑ t : Fin 16384, d (ix3 t h r) * Ideal.div (E (ix3 h t s)) (L (ix2 h t)) := by
  unfold gV dT
  pointwise
  simp only [rows_at]

theorem gF_at (G : P3) (h : Fin 8) (t : Fin 16384) :
    gF G (ix2 h t) = (∑ x : Fin 16384, -G (ix3 h x t)) + ∑ s : Fin 16384, G (ix3 h t s) := by
  unfold gF
  pointwise
  simp only [Fin.sum_univ_one, rsum_at]

theorem gK_at (G : P3) (q : A3) (s : Fin 16384) (h : Fin 8) (r : Fin 64) :
    gK G q (ix3 s h r) = ∑ t : Fin 16384, G (ix3 h t s) * c8 * q (ix3 t h r) := by
  unfold gK gS
  pointwise

theorem gQ_at (G : P3) (k : A3) (t : Fin 16384) (h : Fin 8) (r : Fin 64) :
    gQ G k (ix3 t h r) = ∑ s : Fin 16384, G (ix3 h t s) * c8 * k (ix3 s h r) := by
  unfold gQ gS
  pointwise

end Cert.ReferenceIdeal.Own

end
-- ==== Proof.RReal.lean ====
module

public import proofs.«01_k».proof.Proof.RefX
public import proofs.«01_k».proof.Proof.Real

@[expose] public section

set_option maxRecDepth 16384
set_option maxHeartbeats 400000

noncomputable section

namespace Cert.ReferenceIdeal.Own

open Cert.ReferenceIdeal Cert.ReferenceIdeal.Gen
open Idealize.ShloMosaic Idealize.ShloMosaic.TcCoe
open Cert.Fox
open scoped BigOperators

theorem c8_eq : c8 = ((1 / 8 : ℝ) : EReal) := by
  unfold c8 Ideal.ofBits Ideal.ieee
  simp
  rw [← EReal.coe_mul]
  norm_num

section Reals

variable (q k v d : A3) (f : A2) (rq rk rv rd : Fin 8 → Fin 16384 → Fin 64 → ℝ) (rf : Fin 8 → Fin 16384 → ℝ)
  (hq : ∀ h t r, q (ix3 t h r) = ((rq h t r : ℝ) : EReal)) (hk : ∀ h t r, k (ix3 t h r) = ((rk h t r : ℝ) : EReal))
  (hv : ∀ h t r, v (ix3 t h r) = ((rv h t r : ℝ) : EReal)) (hd : ∀ h t r, d (ix3 t h r) = ((rd h t r : ℝ) : EReal))
  (hf : ∀ h t, f (ix2 h t) = ((rf h t : ℝ) : EReal))

include hq hk hf in
theorem logit_real (h : Fin 8) (t s : Fin 16384) :
    logit q k f (ix3 h t s) = if s.val ≤ t.val then ((lg (rq h) (rk h) (rf h) t s : ℝ) : EReal) else ⊥ := by
  rw [logit_at]
  simp only [hq, hk, hf, c8_eq, ← EReal.coe_mul, sum_coe, ← EReal.coe_add, ← EReal.coe_sub]
  rfl

include hq hk hf in
theorem top_real (h : Fin 8) (t : Fin 16384) : ∃ M : ℝ, top (logit q k f) (ix2 h t) = ((M : ℝ) : EReal) := by
  obtain ⟨M, e⟩ := greatest_real (lg (rq h) (rk h) (rf h)) t
  refine ⟨M, ?_⟩
  rw [top_at]
  simp only [logit_real q k f rq rk rf hq hk hf, bot_eq]
  rw [e]
  exact max_eq_right bot_le

include hq hk hf in
theorem wexp_real (h : Fin 8) (t s : Fin 16384) (M : ℝ) (hM : top (logit q k f) (ix2 h t) = ((M : ℝ) : EReal)) :
    wexp (logit q k f) (ix3 h t s) = ((we (lg (rq h) (rk h) (rf h)) M t s : ℝ) : EReal) := by
  rw [wexp_at, hM, logit_real q k f rq rk rf hq hk hf]
  exact exp_masked _ _ _ _

include hq hk hf in
theorem rsum_real (h : Fin 8) (t : Fin 16384) (M : ℝ) (hM : top (logit q k f) (ix2 h t) = ((M : ℝ) : EReal)) :
    rsum (wexp (logit q k f)) (ix2 h t) = ((∑ s, we (lg (rq h) (rk h) (rf h)) M t s : ℝ) : EReal) := by
  rw [rsum_at, ← sum_coe]
  exact Finset.sum_congr rfl fun s _ => wexp_real q k f rq rk rf hq hk hf h t s M hM

include hd hv in
theorem dprob_real (h : Fin 8) (t s : Fin 16384) : dprob d v (ix3 h t s) = ((dw (rd h) (rv h) t s : ℝ) : EReal) := by
  rw [dprob_at]
  simp only [hd, hv, ← EReal.coe_mul, sum_coe]
  rfl

include hq hk hf in
theorem prob_real (h : Fin 8) (t s : Fin 16384) :
    Ideal.div (wexp (logit q k f) (ix3 h t s)) (rsum (wexp (logit q k f)) (ix2 h t)) = ((pw (lg (rq h) (rk h) (rf h)) t s : ℝ) : EReal) := by
  obtain ⟨M, hM⟩ := top_real q k f rq rk rf hq hk hf h t
  rw [wexp_real q k f rq rk rf hq hk hf h t s M hM, rsum_real q k f rq rk rf hq hk hf h t M hM, div_real _ _ (we_pos _ _ _).ne', we_div]

include hq hk hf hd hv in
theorem dlogit_real (h : Fin 8) (t s : Fin 16384) :
    dlogit (dprob d v) (wexp (logit q k f)) (rsum (wexp (logit q k f))) (ix3 h t s)
      = ((ds (pw (lg (rq h) (rk h) (rf h))) (dw (rd h) (rv h)) t s : ℝ) : EReal) := by
  obtain ⟨M, hM⟩ := top_real q k f rq rk rf hq hk hf h t
  have hl := (we_pos (lg (rq h) (rk h) (rf h)) M t).ne'
  rw [dlogit_at, dsum_at]
  split
  · rename_i hs
    simp only [rsum_real q k f rq rk rf hq hk hf h t M hM, wexp_real q k f rq rk rf hq hk hf h t _ M hM, dprob_real v d rv rd hv hd]
    rw [← EReal.coe_mul, div_real _ _ hl, ← EReal.coe_one, div_real _ _ (mul_ne_zero hl hl)]
    simp only [← EReal.coe_mul, sum_coe, ← EReal.coe_neg, ← EReal.coe_add]
    rw [ref_ds]
  · rename_i hs
    unfold ds
    rw [pw_out _ _ _ hs, zero_mul, EReal.coe_zero]

end Reals

variable (m : (ℓ : Loc nD τ sig) → Buf (Elt Ideal) ℓ) (c : Dev nD)
  (rq rk rv rd : Fin 8 → Fin 16384 → Fin 64 → ℝ) (rf : Fin 8 → Fin 16384 → ℝ)
  (hq : ∀ h t r, bQ m c (ix3 t h r) = ((rq h t r : ℝ) : EReal)) (hk : ∀ h t r, bK m c (ix3 t h r) = ((rk h t r : ℝ) : EReal))
  (hv : ∀ h t r, bV m c (ix3 t h r) = ((rv h t r : ℝ) : EReal)) (hd : ∀ h t r, bD m c (ix3 t h r) = ((rd h t r : ℝ) : EReal))
  (hf : ∀ h t, bF m c (ix2 h t) = ((rf h t : ℝ) : EReal))

include hq hk hf hd hv in
theorem rG_real (h : Fin 8) (t s : Fin 16384) :
    rG m c (ix3 h t s) = ((ds (pw (lg (rq h) (rk h) (rf h))) (dw (rd h) (rv h)) t s : ℝ) : EReal) :=
  dlogit_real (bQ m c) (bK m c) (bV m c) (bD m c) (bF m c) rq rk rv rd rf hq hk hv hd hf h t s

include hq hk hf hd hv in
theorem res_q_real (t : Fin 16384) (h : Fin 8) (r : Fin 64) :
    (Value.res_main_v76 m c : A3) (ix3 t h r)
      = ((∑ s, ds (pw (lg (rq h) (rk h) (rf h))) (dw (rd h) (rv h)) t s * (1 / 8) * rk h s r : ℝ) : EReal) := by
  rw [res_q, gQ_at]
  simp only [rG_real m c rq rk rv rd rf hq hk hv hd hf, hk, c8_eq, ← EReal.coe_mul, sum_coe]

include hq hk hf hd hv in
theorem res_k_real (s : Fin 16384) (h : Fin 8) (r : Fin 64) :
    (Value.res_main_v74 m c : A3) (ix3 s h r)
      = ((∑ t, ds (pw (lg (rq h) (rk h) (rf h))) (dw (rd h) (rv h)) t s * (1 / 8) * rq h t r : ℝ) : EReal) := by
  rw [res_k, gK_at]
  simp only [rG_real m c rq rk rv rd rf hq hk hv hd hf, hq, c8_eq, ← EReal.coe_mul, sum_coe]

include hq hk hf hd in
theorem res_v_real (s : Fin 16384) (h : Fin 8) (r : Fin 64) :
    (Value.res_main_v49 m c : A3) (ix3 s h r) = ((∑ t, rd h t r * pw (lg (rq h) (rk h) (rf h)) t s : ℝ) : EReal) := by
  rw [res_v, gV_at]
  have e := prob_real (bQ m c) (bK m c) (bF m c) rq rk rf hq hk hf h
  have e2 : ∀ X : Fin 16384 → EReal, (∀ t, X t = ((rd h t r * pw (lg (rq h) (rk h) (rf h)) t s : ℝ) : EReal)) →
      ∑ t, X t = ((∑ t, rd h t r * pw (lg (rq h) (rk h) (rf h)) t s : ℝ) : EReal) := fun X hX =>
    (Finset.sum_congr rfl fun t _ => hX t).trans (sum_coe _ _)
  exact e2 _ fun t => by rw [hd, EReal.coe_mul, ← e t s]; rfl

include hq hk hf hd hv in
theorem res_f_real (h : Fin 8) (t : Fin 16384) :
    (Value.res_main_v70 m c : A2) (ix2 h t)
      = (((∑ x, -ds (pw (lg (rq h) (rk h) (rf h))) (dw (rd h) (rv h)) x t) + ∑ s, ds (pw (lg (rq h) (rk h) (rf h))) (dw (rd h) (rv h)) t s : ℝ) : EReal) := by
  rw [res_f, gF_at]
  simp only [rG_real m c rq rk rv rd rf hq hk hv hd hf, ← EReal.coe_neg, sum_coe, ← EReal.coe_add]

end Cert.ReferenceIdeal.Own

end
-- ==== Proof.Alg.lean ====
module

public import proofs.«01_k».proof.Defs
public import proofs.«01_k».proof.Proof.KReal
public import proofs.«01_k».proof.Proof.RReal
public import Idealize.ShloMosaic.Lib.Pointwise.Select

@[expose] public section

set_option maxRecDepth 16384
set_option maxHeartbeats 1000000

noncomputable section

namespace Cert.Proof

open Idealize.ShloMosaic Idealize.ShloMosaic.TcCoe Idealize.SL.Sem
open Cert.KernelIdeal.Own (TL aQ aK aV aF aD)

/-- The shape relations of the condition on the arguments. -/
theorem finite_facts : Cert.Pre_finite.Facts where
  bcast_S_S16384x8x64 := by decide
  transposes_S8x16384_S16384x8_1_0 := by decide
  bcast_S_S16384x8 := by decide
  bcast_S16384x8_S16384x8x1_0_1 := by decide
  bcast_S16384x8x1_S16384x8x64_0_1_2 := by decide

theorem top_eq : Ideal.ofBits FTy.f32 2139095040#32 = ⊤ := by
  unfold Ideal.ofBits Ideal.ieee
  simp

theorem both (a b : BitVec 1) (h : IntOp.andi a b = 1#1) : a = 1#1 ∧ b = 1#1 := by
  revert a b
  decide

/-- A number below infinity in size is real. -/
theorem real_of_lt (x : EReal) (h : BitVec.ofBool (decide (max x (-x) < ⊤)) = 1#1) : ∃ r : ℝ, x = ((r : ℝ) : EReal) := by
  have h' : max x (-x) < ⊤ := by
    by_contra n
    rw [decide_eq_false n] at h
    exact absurd h (by decide)
  have h1 := lt_of_le_of_lt (le_max_left x (-x)) h'
  have h2 := lt_of_le_of_lt (le_max_right x (-x)) h'
  refine ⟨x.toReal, (EReal.coe_toReal h1.ne fun e => ?_).symm⟩
  rw [e] at h2
  exact absurd h2 (by simp)

/-- What the condition says of every entry. -/
theorem finite_at [Cert.Pre_finite.Facts] (q k v : FVec Ideal Cert.Pre_finite.S16384x8x64 .f32) (f : FVec Ideal Cert.Pre_finite.S8x16384 .f32)
    (d : FVec Ideal Cert.Pre_finite.S16384x8x64 .f32) (e : Cert.Pre_finite.fn (F := Ideal) q k v f d = fun _ => 1#1) (t : Fin 16384) (h : Fin 8) (r : Fin 64) :
    ((∃ x : ℝ, q (ix3 t h r) = ((x : ℝ) : EReal)) ∧ (∃ x : ℝ, k (ix3 t h r) = ((x : ℝ) : EReal)) ∧ (∃ x : ℝ, v (ix3 t h r) = ((x : ℝ) : EReal)))
      ∧ (∃ x : ℝ, d (ix3 t h r) = ((x : ℝ) : EReal)) ∧ ∃ x : ℝ, f (ix2 h t) = ((x : ℝ) : EReal) := by
  have e' := congrFun e (ix3 t h r)
  have e2 : IntOp.andi (IntOp.andi (IntOp.andi (IntOp.andi
      (BitVec.ofBool (decide (max (q (ix3 t h r)) (-(q (ix3 t h r))) < ⊤))) (BitVec.ofBool (decide (max (k (ix3 t h r)) (-(k (ix3 t h r))) < ⊤))))
      (BitVec.ofBool (decide (max (v (ix3 t h r)) (-(v (ix3 t h r))) < ⊤)))) (BitVec.ofBool (decide (max (d (ix3 t h r)) (-(d (ix3 t h r))) < ⊤))))
      (BitVec.ofBool (decide (max (f (ix2 h t)) (-(f (ix2 h t))) < ⊤))) = 1#1 := by
    rw [← e', ← top_eq]
    unfold Cert.Pre_finite.fn Cert.Pre_finite.fn_part1
    pointwise
    rfl
  obtain ⟨e3, hf⟩ := both _ _ e2
  obtain ⟨e4, hd⟩ := both _ _ e3
  obtain ⟨e5, hv⟩ := both _ _ e4
  obtain ⟨hq, hk⟩ := both _ _ e5
  exact ⟨⟨real_of_lt _ hq, real_of_lt _ hk, real_of_lt _ hv⟩, real_of_lt _ hd, real_of_lt _ hf⟩

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Both programs hold the same real numbers in their arguments. -/
theorem reals [Cert.Pre_finite.Facts] (hpre : Cert.Pre_KernelIdeal_finite m) (c : Dev Cert.KernelIdeal.nD) :
    ∃ (rq rk rv rd : Fin 8 → Fin 16384 → Fin 64 → ℝ) (rf : Fin 8 → Fin 16384 → ℝ),
      (∀ h t r, aQ m c (ix3 t h r) = ((rq h t r : ℝ) : EReal)) ∧ (∀ h t r, aK m c (ix3 t h r) = ((rk h t r : ℝ) : EReal))
      ∧ (∀ h t r, aV m c (ix3 t h r) = ((rv h t r : ℝ) : EReal)) ∧ (∀ h t r, aD m c (ix3 t h r) = ((rd h t r : ℝ) : EReal))
      ∧ ∀ h t, aF m c (ix2 h t) = ((rf h t : ℝ) : EReal) := by
  have H := finite_at _ _ _ _ _ (hpre c)
  exact ⟨fun h t r => (H t h r).1.1.choose, fun h t r => (H t h r).1.2.1.choose, fun h t r => (H t h r).1.2.2.choose,
    fun h t r => (H t h r).2.1.choose, fun h t => (H t h 0).2.2.choose,
    fun h t r => (H t h r).1.1.choose_spec, fun h t r => (H t h r).1.2.1.choose_spec, fun h t r => (H t h r).1.2.2.choose_spec,
    fun h t r => (H t h r).2.1.choose_spec, fun h t => (H t h 0).2.2.choose_spec⟩

variable [Cert.Pre_finite.Facts] (hpre : Cert.Pre_KernelIdeal_finite m) (c : Dev Cert.KernelIdeal.nD)
  (h0 : Cert.ReferenceIdeal.Own.bQ m' c = aQ m c) (h1 : Cert.ReferenceIdeal.Own.bK m' c = aK m c) (h2 : Cert.ReferenceIdeal.Own.bV m' c = aV m c)
  (h3 : Cert.ReferenceIdeal.Own.bF m' c = aF m c) (h4 : Cert.ReferenceIdeal.Own.bD m' c = aD m c)

include hpre h0 h1 h2 h3 h4 in
/-- The four gradients agree. -/
theorem values :
    (Cert.ReferenceIdeal.Value.res_main_v76 m' c : FVec Ideal Cert.KernelIdeal.S16384x8x64 .f32) = TL m c Cert.KernelIdeal.main_v98
    ∧ (Cert.ReferenceIdeal.Value.res_main_v74 m' c : FVec Ideal Cert.KernelIdeal.S16384x8x64 .f32) = TL m c Cert.KernelIdeal.main_v100
    ∧ (Cert.ReferenceIdeal.Value.res_main_v49 m' c : FVec Ideal Cert.KernelIdeal.S16384x8x64 .f32) = TL m c Cert.KernelIdeal.main_v101
    ∧ (Cert.ReferenceIdeal.Value.res_main_v70 m' c : FVec Ideal Cert.KernelIdeal.S8x16384 .f32) = TL m c Cert.KernelIdeal.main_v106 := by
  obtain ⟨rq, rk, rv, rd, rf, hq, hk, hv, hd, hf⟩ := reals m hpre c
  have gq : ∀ h t r, Cert.ReferenceIdeal.Own.bQ m' c (ix3 t h r) = ((rq h t r : ℝ) : EReal) := fun h t r => by rw [h0]; exact hq h t r
  have gk : ∀ h t r, Cert.ReferenceIdeal.Own.bK m' c (ix3 t h r) = ((rk h t r : ℝ) : EReal) := fun h t r => by rw [h1]; exact hk h t r
  have gv : ∀ h t r, Cert.ReferenceIdeal.Own.bV m' c (ix3 t h r) = ((rv h t r : ℝ) : EReal) := fun h t r => by rw [h2]; exact hv h t r
  have gf : ∀ h t, Cert.ReferenceIdeal.Own.bF m' c (ix2 h t) = ((rf h t : ℝ) : EReal) := fun h t => by rw [h3]; exact hf h t
  have gd : ∀ h t r, Cert.ReferenceIdeal.Own.bD m' c (ix3 t h r) = ((rd h t r : ℝ) : EReal) := fun h t r => by rw [h4]; exact hd h t r
  refine ⟨funext fun y => ?_, funext fun y => ?_, funext fun y => ?_, funext fun y => ?_⟩
  · rw [eq_ix3 y]
    exact (Cert.ReferenceIdeal.Own.res_q_real m' c rq rk rv rd rf gq gk gv gd gf _ _ _).trans
      (Cert.KernelIdeal.Own.TL_q_real m c rq rk rv rd rf hq hk hv hd hf _ _ _).symm
  · rw [eq_ix3 y]
    exact (Cert.ReferenceIdeal.Own.res_k_real m' c rq rk rv rd rf gq gk gv gd gf _ _ _).trans
      (Cert.KernelIdeal.Own.TL_k_real m c rq rk rv rd rf hq hk hv hd hf _ _ _).symm
  · rw [eq_ix3 y]
    exact (Cert.ReferenceIdeal.Own.res_v_real m' c rq rk rd rf gq gk gd gf _ _ _).trans
      (Cert.KernelIdeal.Own.TL_v_real m c rq rk rd rf hq hk hd hf _ _ _).symm
  · rw [eq_ix2 y]
    exact (Cert.ReferenceIdeal.Own.res_f_real m' c rq rk rv rd rf gq gk gv gd gf _ _).trans
      (Cert.KernelIdeal.Own.TL_f_real m c rq rk rv rd rf hq hk hv hd hf _ _).symm

end Values

open Cert.KernelIdeal Cert.KernelIdeal.Gen Cert.KernelIdeal.Own in
/-- What the kernel's run leaves. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v98) = TL m c main_v98 ∧ r.2.mem ((c.tc : Thread nD τ).loc main_v100) = TL m c main_v100
      ∧ r.2.mem ((c.tc : Thread nD τ).loc main_v101) = TL m c main_v101 ∧ r.2.mem ((c.tc : Thread nD τ).loc main_v106) = TL m c main_v106) :=
  (θ_run defs _ _).mono (fun _ h c => ⟨(h c).2 main_v98 (Pipeline.mem_restRefs_of main_v98 (by decide) (by decide)),
    (h c).2 main_v100 (Pipeline.mem_restRefs_of main_v100 (by decide) (by decide)),
    (h c).2 main_v101 (Pipeline.mem_restRefs_of main_v101 (by decide) (by decide)),
    (h c).2 main_v106 (Pipeline.mem_restRefs_of main_v106 (by decide) (by decide))⟩) (run_main m g)

/-- Over the reals the kernel leaves the gradients of the reference. -/
theorem gradients [Cert.Pre_finite.Facts] : Cert.algebraic_KernelIdeal_ReferenceIdeal_pre_finite := by
  intro m g m' g' hpre hagree
  have V := fun c => values m m' hpre c (hagree c).1 (hagree c).2.1 (hagree c).2.2.1 (hagree c).2.2.2.1 (hagree c).2.2.2.2
  refine ⟨fun c => TL m c _, fun c => TL m c _, fun c => TL m c _, fun c => TL m c _, ?_, ?_⟩
  · exact (θ_run Cert.KernelIdeal.defs _ _).mono (fun r h c => ⟨(h.1 c).1, (h.1 c).2.1, (h.1 c).2.2.1, (h.1 c).2.2.2, h.2.1 c⟩)
      (θ_run_and (kernel_run m g) (Cert.KernelIdeal.Own.frame_own (F := Ideal) m g))
  · exact (θ_run Cert.ReferenceIdeal.defs _ _).mono (fun r h c => ⟨(h c).1.trans (V c).1, (h c).2.1.trans (V c).2.1, (h c).2.2.1.trans (V c).2.2.1,
      (h c).2.2.2.1.trans (V c).2.2.2, (h c).2.2.2.2⟩) (Cert.ReferenceIdeal.Value.run (F := Ideal) m' g')

end Cert.Proof

end
-- ==== Proof.Dact.lean ====
module

public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.ValueKit
public import Idealize.ShloMosaic.Lib.StableHlo.RunRead
public import Idealize.ShloMosaic.Lib.Pointwise.Tactic
public import Idealize.ShloMosaic.Lib.Pointwise.Contract
public import Idealize.ShloMosaic.Lib.Pointwise.Select

@[expose] public section

set_option maxRecDepth 16384

noncomputable section

namespace Cert.Kernel2Ideal.Own

open Cert.Kernel2Ideal Cert.Kernel2Ideal.Gen
open Idealize.ShloMosaic Idealize.ShloMosaic.TcCoe
open scoped BigOperators

/-- The number two, as the two programs write it. -/
abbrev two : EReal := Ideal.ofBits FTy.f32 1073741824#32

/-- The gradient of a squared relu at `a`, behind a gradient `g` of its value. -/
def dsq (g a : EReal) : EReal := g * (two * max a 0)

theorem pay_at (X : Vec Ideal S2048x1024 .bf16) (Y : Vec Ideal S1024x1024 .bf16) (A : Vec Ideal S2048x1024 .bf16) (p : Fin 2048) (q : Fin 1024) :
    k0_pay1 X Y A (ix2 p q) = dsq (∑ k : Fin 1024, X (ix2 p k) * Y (ix2 q k)) (A (ix2 p q)) := by
  unfold dsq
  pointwise [k0_pay1]

theorem out_at (X : Vec Ideal S2048x1024 .bf16) (Y : Vec Ideal S1024x1024 .bf16) (A : Vec Ideal S2048x1024 .bf16) (p : Fin 2048) (q : Fin 1024) :
    out0_3 X Y A (ix2 p q) = dsq (∑ k : Fin 1024, X (ix2 p k) * Y (ix2 q k)) (A (ix2 p q)) := by
  have hz : (![0, 0] : Fin 2 → Nat) = fun _ => 0 := by decide
  unfold out0_3
  rw [View.canon_unit_zero hz]
  simp only [View.ld_unit_zero (S := S2048x1024) hz, View.ld_unit_zero (S := S1024x1024) hz]
  exact pay_at X Y A p q

theorem point_lt (t : Fin grid0.N) : t.val < 32 := lt_of_lt_of_eq t.isLt N_0

/-- Where each window's block lies. -/
theorem idx : ∀ t : Fin grid0.N, win0_0.index t = ![t.val / 4, 0] ∧ win0_1.index t = ![t.val % 4, 0]
    ∧ win0_2.index t = ![t.val / 4, t.val % 4] ∧ win0_3.index t = ![t.val / 4, t.val % 4] := by
  decide +kernel

/-- Row `p` and column `q` of a point's block, among the rows and the columns of the arrays. -/
def row (t : Fin grid0.N) (p : Fin 2048) : Fin 16384 := ⟨2048 * (t.val / 4) + p.val, by have := point_lt t; omega⟩
def col (t : Fin grid0.N) (q : Fin 1024) : Fin 4096 := ⟨1024 * (t.val % 4) + q.val, by omega⟩

variable (m : (ℓ : Loc nD τ sig) → Buf (Elt Ideal) ℓ) (c : Dev nD)

abbrev aA : Vec Ideal S16384x4096 .f32 := m ((c : Thread nD τ).loc main_arg0)
abbrev aW : Vec Ideal S4096x1024 .f32 := m ((c : Thread nD τ).loc main_arg1)
abbrev aY : Vec Ideal S16384x1024 .f32 := m ((c : Thread nD τ).loc main_arg2)

theorem host_y (x : Fin 16384) (k : Fin 1024) : (V m c main_v0 : Vec Ideal S16384x1024 .bf16) (ix2 x k) = aY m c (ix2 x k) := by
  simp only [V, hostOps0]
  after_reads_simp
  rfl

theorem host_w (x : Fin 4096) (k : Fin 1024) : (V m c main_v1 : Vec Ideal S4096x1024 .bf16) (ix2 x k) = aW m c (ix2 x k) := by
  simp only [V, hostOps0]
  after_reads_simp
  rfl

theorem host_a (x : Fin 16384) (k : Fin 4096) : (V m c main_v2 : Vec Ideal S16384x4096 .bf16) (ix2 x k) = aA m c (ix2 x k) := by
  simp only [V, hostOps0]
  after_reads_simp
  rfl

theorem blk0 (t : Fin cfg0.N) (p : Fin 2048) (k : Fin 1024) :
    (iblk m c 0 t : Vec Ideal S2048x1024 .bf16) (ix2 p k) = aY m c (ix2 (row t p) k) := by
  have h := idx t
  rw [← host_y]
  unfold row
  blk_simp [iblk]
  refine congrArg _ ?_
  blk_ext [h]

theorem blk1 (t : Fin cfg0.N) (q k : Fin 1024) :
    (iblk m c 1 t : Vec Ideal S1024x1024 .bf16) (ix2 q k) = aW m c (ix2 (col t q) k) := by
  have h := idx t
  rw [← host_w]
  unfold col
  blk_simp [iblk]
  refine congrArg _ ?_
  blk_ext [h]

theorem blk2 (t : Fin cfg0.N) (p : Fin 2048) (q : Fin 1024) :
    (iblk m c 2 t : Vec Ideal S2048x1024 .bf16) (ix2 p q) = aA m c (ix2 (row t p) (col t q)) := by
  have h := idx t
  rw [← host_a]
  unfold row col
  blk_simp [iblk]
  refine congrArg _ ?_
  blk_ext [h]

/-- The array the call makes. -/
def dArr : Vec Ideal S16384x4096 .bf16 := fun y =>
  dsq (∑ k : Fin 1024, aY m c (ix2 (y 0) k) * aW m c (ix2 (y 1) k)) (aA m c (ix2 (y 0) (y 1)))

theorem emb3 (t : Fin cfg0.N) (p : Fin 2048) (q : Fin 1024) :
    (win0_3.blk t).view.emb (ix2 p q) = (ix2 (row t p) (col t q) : S16384x4096.Idx) := by
  have hi := idx t
  funext a
  apply Fin.ext
  fin_cases a
  · refine (Pipeline.Window.rect_emb_val win0_3 t (ix2 p q) 0).trans ?_
    rw [hi.2.2.2]
    show t.val / 4 * 2048 + p.val = 2048 * (t.val / 4) + p.val
    omega
  · refine (Pipeline.Window.rect_emb_val win0_3 t (ix2 p q) 1).trans ?_
    rw [hi.2.2.2]
    show t.val % 4 * 1024 + q.val = 1024 * (t.val % 4) + q.val
    omega

theorem arr3 : (dats m 0 c).arrAt 3 cfg0.N = dArr m c := by
  refine (dats m 0 c).arrAt_eq_of_covers 3 _ (by decide +kernel) fun t hf y => ?_
  blk_simp
  rw [after0_3]
  obtain ⟨p, q, rfl⟩ : ∃ (p : Fin 2048) (q : Fin 1024), y = (ix2 p q : S2048x1024.Idx) := ⟨y 0, y 1, eq_ix2 y⟩
  refine (out_at _ _ _ p q).trans (Eq.trans ?_ (congrArg (dArr m c) (emb3 t p q)).symm)
  simp only [blk0, blk1, blk2]
  rfl

end Cert.Kernel2Ideal.Own

namespace Cert.Reference2Ideal.Own

open Cert.Reference2Ideal Cert.Reference2Ideal.Gen
open Idealize.ShloMosaic Idealize.ShloMosaic.TcCoe
open scoped BigOperators
open Cert.Kernel2Ideal.Own (dsq two)

/-- Where the argument is not positive the factor of a squared relu is zero already. -/
theorem ite_dsq (g a : EReal) : (if 0 < a then dsq g a else 0) = dsq g a := by
  by_cases h : 0 < a
  · rw [if_pos h]
  · have e : max a 0 = 0 := max_eq_right (not_lt.mp h)
    rw [if_neg h]
    unfold dsq
    rw [e, mul_zero, mul_zero]

theorem res_at (A : FVec Ideal S16384x4096 .f32) (W : FVec Ideal S4096x1024 .f32) (Y : FVec Ideal S16384x1024 .f32) (p : Fin 16384) (q : Fin 4096) :
    (truncf .bf16 (select (cmpf .ogt A (broadcastInDim S16384x4096 ![] bcast_S_S16384x4096 (constant S_ .f32 0x00000000#32))) (mulf (Host.dotGeneral dot_S16384x1024_S4096x1024_S16384x4096_1_1_0_0_n_n none Y W) (mulf (broadcastInDim S16384x4096 ![] bcast_S_S16384x4096 (constant S_ .f32 0x40000000#32)) (maximumf A (broadcastInDim S16384x4096 ![] bcast_S_S16384x4096 (constant S_ .f32 0x00000000#32))))) (broadcastInDim S16384x4096 ![] bcast_S_S16384x4096 (constant S_ .f32 0x00000000#32))) bitsLt_bf16_f32 : FVec Ideal S16384x4096 .bf16) (ix2 p q)
      = dsq (∑ k : Fin 1024, Y (ix2 p k) * W (ix2 q k)) (A (ix2 p q)) := by
  pointwise
  exact ite_dsq _ _

end Cert.Reference2Ideal.Own

namespace Cert.Proof

open Idealize.ShloMosaic Idealize.SL.Sem

/-- Over the reals the call of the activation's gradient leaves the reference's. -/
theorem activation : Cert.algebraic_Kernel2Ideal_Reference2Ideal := by
  intro m g m' g' _ hagree
  refine ⟨fun c => Cert.Kernel2Ideal.Own.dArr m c, ?_, ?_⟩
  · exact (θ_run Cert.Kernel2Ideal.defs _ _).mono (fun r h c => ⟨(h c).1.trans (Cert.Kernel2Ideal.Own.arr3 m c), (h c).2⟩)
      (Cert.Kernel2Ideal.Value.run_blocks (F := Ideal) m g)
  · refine (θ_run Cert.Reference2Ideal.defs _ _).mono (fun r h c => ⟨(h c).1.trans ?_, (h c).2⟩) (Cert.Reference2Ideal.Value.run (F := Ideal) m' g')
    obtain ⟨e0, e1, e2⟩ := hagree c
    funext y
    rw [eq_ix2 y]
    refine (Cert.Reference2Ideal.Own.res_at _ _ _ _ _).trans ?_
    rw [e0, e1, e2]
    rfl

end Cert.Proof

end
-- ==== Proof.Accum.lean ====
module

public import proofs.«01_k».proof.Proof.Sums

@[expose] public section

noncomputable section

namespace Cert.Sums

open scoped BigOperators

/-- Adding up four blocks of rows: a value that starts at zero every fourth step and adds the terms of a block at each step
    is the sum of the terms of the rows so far. -/
theorem running {N : ℕ} (acc : (n : ℕ) → n < N → EReal) (g : (n : ℕ) → n < N → Fin 16384 → EReal)
    (hg : ∀ n hn h', n % 4 ≠ 0 → g (n - 1) h' = g n hn)
    (step : ∀ n hn, acc n hn = (if n % 4 = 0 then 0 else acc (n - 1) (Nat.lt_of_le_of_lt (Nat.sub_le _ _) hn))
      + ∑ k : Fin 4096, g n hn ⟨4096 * (n % 4) + k.val, by have := k.isLt; omega⟩) :
    ∀ n hn, acc n hn = ∑ x : Fin 16384, if x.val < 4096 * (n % 4) + 4096 then g n hn x else 0 := by
  intro n
  induction n using Nat.strong_induction_on with
  | _ n ih =>
  intro hn
  rw [← sum_extend (g n hn) (4096 * (n % 4)) 4096 (by omega)]
  refine (step n hn).trans (congrArg₂ (· + ·) ?_ rfl)
  by_cases h0 : n % 4 = 0
  · rw [if_pos h0]
    exact (Finset.sum_eq_zero fun x _ => if_neg (by omega)).symm
  · rw [if_neg h0, ih (n - 1) (by omega), hg n hn _ h0, show 4096 * ((n - 1) % 4) + 4096 = 4096 * (n % 4) by omega]

end Cert.Sums

end
-- ==== Proof.WgradTwo.lean ====
module

public import proofs.«01_k».proof.Defs
public import proofs.«01_k».proof.Proof.Accum
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.ValueKit
public import Idealize.ShloMosaic.Lib.StableHlo.RunRead
public import Idealize.ShloMosaic.Lib.Pointwise.Tactic
public import Idealize.ShloMosaic.Lib.Pointwise.Contract

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open scoped BigOperators

abbrev Acc := Vec Ideal S1024x1024 .f32
abbrev Rows := Vec Ideal S4096x1024 .bf16

theorem pay1_at (p q : Fin 1024) : (k0_pay1 : FVec Ideal S1024x1024 .f32) (ix2 p q) = 0 := by
  pointwise [k0_pay1]

theorem pay2_at (A : Acc) (X Y : Rows) (p q : Fin 1024) :
    k0_pay2 A X Y (ix2 p q) = A (ix2 p q) + ∑ k : Fin 4096, X (ix2 k p) * Y (ix2 k q) := by
  pointwise [k0_pay2]

/-! ## What a point leaves -/

section Cases

variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole) (X Y : Rows) (A : Acc)

theorem zero2 : (![0, 0] : Fin 2 → Nat) = fun _ => 0 := by decide

theorem acc_A (hc0 : cond0_0 i) (hc1 : ¬cond0_1 i) : sout0_A_0 c i a3 h3 a4 h4 a5 h5 a6 h6 hc0 hc1 X Y = k0_pay2 k0_pay1 X Y := by
  unfold sout0_A_0
  rw [View.read_writes_eq_canon _ _ _ (scover0_A_0 c i a3 h3 a4 h4 a5 h5 a6 h6 hc0 hc1 X Y)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S4096x1024) zero2]

theorem acc_B (hc0 : ¬cond0_0 i) (hc1 : ¬cond0_1 i) : sout0_B_0 c i a3 h3 a4 h4 a5 h5 a6 h6 hc0 hc1 X Y A = k0_pay2 A X Y := by
  unfold sout0_B_0
  rw [View.read_writes_eq_canon _ _ _ (scover0_B_0 c i a3 h3 a4 h4 a5 h5 a6 h6 hc0 hc1 X Y A)]
  unfold kernelRun0_B
  dsimp only
  rw [View.canon_unit_zero (S := S1024x1024) zero2]
  simp only [View.readAt_eq_ld, h3.read_unread, h4.read_unread, h6.read_unread, View.ld_unit_zero (S := S4096x1024) zero2, View.ld_unit_zero (S := S1024x1024) zero2]

theorem acc_C (hc0 : ¬cond0_0 i) (hc1 : cond0_1 i) : sout0_C_0 c i a3 h3 a4 h4 a5 h5 a6 h6 hc0 hc1 X Y A = k0_pay2 A X Y := by
  unfold sout0_C_0
  rw [View.read_writes_eq_canon _ _ _ (scover0_C_0 c i a3 h3 a4 h4 a5 h5 a6 h6 hc0 hc1 X Y A)]
  unfold kernelRun0_C
  dsimp only
  sl_unfold_words
  rw [View.canon_unit_zero (S := S1024x1024) zero2]
  simp only [View.readAt_eq_ld, h3.read_unread, h4.read_unread, h6.read_unread, View.ld_unit_zero (S := S4096x1024) zero2, View.ld_unit_zero (S := S1024x1024) zero2]

theorem out_C (hc0 : ¬cond0_0 i) (hc1 : cond0_1 i) : out0_C_2 c i a3 h3 a4 h4 a5 h5 a6 h6 hc0 hc1 X Y A = k0_pay3 (k0_pay2 A X Y) := by
  unfold out0_C_2
  rw [View.read_writes_eq_canon _ _ _ (cover0_C_2 c i a3 h3 a4 h4 a5 h5 a6 h6 hc0 hc1 X Y A)]
  unfold kernelRun0_C
  dsimp only
  sl_unfold_words
  rw [View.canon_unit_zero (S := S1024x1024) zero2, View.readCov_unit_zero (S := S1024x1024) _ zero2]
  simp only [View.readAt_eq_ld, h3.read_unread, h4.read_unread, h6.read_unread, View.ld_unit_zero (S := S4096x1024) zero2, View.ld_unit_zero (S := S1024x1024) zero2]

end Cases

theorem point_lt (t : Fin grid0.N) : t.val < 16 := lt_of_lt_of_eq t.isLt N_0

/-- Where each window's block lies. -/
theorem idx : ∀ t : Fin grid0.N, win0_0.index t = ![t.val % 4, t.val / 4] ∧ win0_1.index t = ![t.val % 4, 0]
    ∧ win0_2.index t = ![t.val / 4, 0] := by
  decide +kernel

/-- Row `k` of a point's block among the rows of the factors, and row `p` of its result among the rows of the product. -/
def row (t : Fin grid0.N) (k : Fin 4096) : Fin 16384 := ⟨4096 * (t.val % 4) + k.val, by omega⟩
def res (t : Fin grid0.N) (p : Fin 1024) : Fin 4096 := ⟨1024 * (t.val / 4) + p.val, by have := point_lt t; omega⟩

variable (m : (ℓ : Loc nD τ sig) → Buf (Elt Ideal) ℓ) (c : Dev nD)

abbrev aX : Vec Ideal S16384x4096 .f32 := m ((c : Thread nD τ).loc main_arg0)
abbrev aY : Vec Ideal S16384x1024 .f32 := m ((c : Thread nD τ).loc main_arg1)

theorem host_x (x : Fin 16384) (k : Fin 4096) : (V m c main_v0 : Vec Ideal S16384x4096 .bf16) (ix2 x k) = aX m c (ix2 x k) := by
  simp only [V, hostOps0]
  after_reads_simp
  rfl

theorem host_y (x : Fin 16384) (k : Fin 1024) : (V m c main_v1 : Vec Ideal S16384x1024 .bf16) (ix2 x k) = aY m c (ix2 x k) := by
  simp only [V, hostOps0]
  after_reads_simp
  rfl

theorem blk0 (t : Fin cfg0.N) (k : Fin 4096) (p : Fin 1024) :
    (iblk m c 0 t : Rows) (ix2 k p) = aX m c (ix2 (row t k) (res t p)) := by
  have h := idx t
  rw [← host_x]
  unfold row res
  blk_simp [iblk]
  refine congrArg _ ?_
  blk_ext [h]

theorem blk1 (t : Fin cfg0.N) (k : Fin 4096) (q : Fin 1024) :
    (iblk m c 1 t : Rows) (ix2 k q) = aY m c (ix2 (row t k) q) := by
  have h := idx t
  rw [← host_y]
  unfold row
  blk_simp [iblk]
  refine congrArg _ ?_
  blk_ext [h]

/-- The accumulator after a point adds the product of the point's blocks to what it held, or to zero at the first. -/
theorem acc_step (t : Fin cfg0.N) (p q : Fin 1024) : (outsAt0 m c t.val t.isLt).2 (ix2 p q)
    = (if t.val % 4 = 0 then 0 else (outsAt0 m c (t.val - 1) (Nat.lt_of_le_of_lt (Nat.sub_le _ _) t.isLt)).2 (ix2 p q))
      + ∑ k : Fin 4096, aX m c (ix2 (row t k) (res t p)) * aY m c (ix2 (row t k) q) := by
  have e : ∀ X Y : Rows, X = iblk m c 0 t → Y = iblk m c 1 t → (∑ k : Fin 4096, X (ix2 k p) * Y (ix2 k q)) = ∑ k : Fin 4096, aX m c (ix2 (row t k) (res t p)) * aY m c (ix2 (row t k) q) := by
    rintro _ _ rfl rfl
    exact Finset.sum_congr rfl fun k _ => congrArg₂ (· * ·) (blk0 m c t k p) (blk1 m c t k q)
  by_cases h0 : t.val % 4 = 0
  · rw [outsAt0_A m c t h0 (by omega), if_pos h0]
    dsimp only
    rw [acc_A, pay2_at, pay1_at]
    exact congrArg₂ (· + ·) rfl (e _ _ rfl rfl)
  · rw [if_neg h0]
    by_cases h1 : t.val % 4 = 3
    · rw [outsAt0_C m c t h0 h1]
      dsimp only
      rw [acc_C, pay2_at]
      exact congrArg₂ (· + ·) rfl (e _ _ rfl rfl)
    · rw [outsAt0_B m c t h0 h1]
      dsimp only
      rw [acc_B, pay2_at]
      exact congrArg₂ (· + ·) rfl (e _ _ rfl rfl)

/-- The accumulator after a point: the sum over the rows of the blocks so far. -/
theorem acc_sum (n : ℕ) (hn : n < cfg0.N) (p q : Fin 1024) : (outsAt0 m c n hn).2 (ix2 p q)
    = ∑ x : Fin 16384, (if x.val < 4096 * (n % 4) + 4096 then aX m c (ix2 x (res ⟨n, hn⟩ p)) * aY m c (ix2 x q) else 0) := by
  refine Cert.Sums.running (fun n hn => (outsAt0 m c n hn).2 (ix2 p q)) (fun n hn x => aX m c (ix2 x (res ⟨n, hn⟩ p)) * aY m c (ix2 x q)) (fun n hn h' h0 => ?_)
    (fun n hn => acc_step m c ⟨n, hn⟩ p q) n hn
  have hr : res ⟨n - 1, h'⟩ p = res ⟨n, hn⟩ p :=
    Fin.ext (by show 1024 * ((n - 1) / 4) + p.val = 1024 * (n / 4) + p.val; omega)
  simp only [hr]

/-- The array the call makes. -/
def wArr : Vec Ideal S4096x1024 .bf16 := fun y => ∑ x : Fin 16384, aX m c (ix2 x (y 0)) * aY m c (ix2 x (y 1))

theorem out_at (t : Fin cfg0.N) (ht : t.val % 4 = 3) (p q : Fin 1024) :
    (outsAt0 m c t.val t.isLt).1 (ix2 p q) = ∑ x : Fin 16384, aX m c (ix2 x (res t p)) * aY m c (ix2 x q) := by
  have e : (outsAt0 m c t.val t.isLt).1 (ix2 p q) = (outsAt0 m c t.val t.isLt).2 (ix2 p q) := by
    rw [outsAt0_C m c t (by omega) ht]
    dsimp only
    rw [out_C, acc_C]
    rfl
  rw [e, acc_sum]
  refine Finset.sum_congr rfl fun x _ => if_pos ?_
  have := x.isLt
  omega

theorem emb2 (t : Fin cfg0.N) (p q : Fin 1024) :
    (win0_2.blk t).view.emb (ix2 p q) = (ix2 (res t p) q : S4096x1024.Idx) := by
  have hi := idx t
  funext a
  apply Fin.ext
  fin_cases a
  · refine (Pipeline.Window.rect_emb_val win0_2 t (ix2 p q) 0).trans ?_
    rw [hi.2.2]
    show t.val / 4 * 1024 + p.val = 1024 * (t.val / 4) + p.val
    omega
  · refine (Pipeline.Window.rect_emb_val win0_2 t (ix2 p q) 1).trans ?_
    rw [hi.2.2]
    show 0 * 1024 + q.val = q.val
    omega

theorem arr2 : (dats m 0 c).arrAt 2 cfg0.N = wArr m c := by
  refine (dats m 0 c).arrAt_eq_of_covers 2 _ (by decide +kernel) fun t hf y => ?_
  have h3 := (flush0_2 t).mp hf
  blk_simp
  rw [after0_2]
  obtain ⟨p, q, rfl⟩ : ∃ (p q : Fin 1024), y = (ix2 p q : S1024x1024.Idx) := ⟨y 0, y 1, eq_ix2 y⟩
  exact (out_at m c t h3 p q).trans (congrArg (wArr m c) (emb2 t p q)).symm

end Cert.Kernel3Ideal.Own

namespace Cert.Reference3Ideal.Own

open Cert.Reference3Ideal Cert.Reference3Ideal.Gen
open Idealize.ShloMosaic Idealize.ShloMosaic.TcCoe
open scoped BigOperators

theorem res_at (X : FVec Ideal S16384x4096 .f32) (Y : FVec Ideal S16384x1024 .f32) (p : Fin 4096) (q : Fin 1024) :
    (truncf .bf16 (transpose S4096x1024 [1, 0] (Host.dotGeneral dot_S16384x1024_S16384x4096_S1024x4096_0_0_1_1_n_n none Y X) transposes_S1024x4096_S4096x1024_1_0) bitsLt_bf16_f32 : FVec Ideal S4096x1024 .bf16) (ix2 p q)
      = ∑ x : Fin 16384, Y (ix2 x q) * X (ix2 x p) := by
  pointwise

end Cert.Reference3Ideal.Own

namespace Cert.Proof

open Idealize.ShloMosaic Idealize.SL.Sem

/-- Over the reals the call of the second feed-forward weight's gradient leaves the reference's. -/
theorem weightTwo : Cert.algebraic_Kernel3Ideal_Reference3Ideal := by
  intro m g m' g' _ hagree
  refine ⟨fun c => Cert.Kernel3Ideal.Own.wArr m c, ?_, ?_⟩
  · exact (θ_run Cert.Kernel3Ideal.defs _ _).mono (fun r h c => ⟨(h c).1.trans (Cert.Kernel3Ideal.Own.arr2 m c), (h c).2⟩)
      (Cert.Kernel3Ideal.Value.run_blocks (F := Ideal) m g)
  · refine (θ_run Cert.Reference3Ideal.defs _ _).mono (fun r h c => ⟨(h c).1.trans ?_, (h c).2⟩) (Cert.Reference3Ideal.Value.run (F := Ideal) m' g')
    obtain ⟨e0, e1⟩ := hagree c
    funext y
    rw [eq_ix2 y]
    refine (Cert.Reference3Ideal.Own.res_at _ _ _ _).trans ?_
    rw [e0, e1]
    exact Finset.sum_congr rfl fun x _ => mul_comm _ _

end Cert.Proof

end
-- ==== Proof.WgradOne.lean ====
module

public import proofs.«01_k».proof.Defs
public import proofs.«01_k».proof.Proof.Accum
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.ValueKit
public import Idealize.ShloMosaic.Lib.StableHlo.RunRead
public import Idealize.ShloMosaic.Lib.Pointwise.Tactic
public import Idealize.ShloMosaic.Lib.Pointwise.Contract
public import Idealize.ShloMosaic.Lib.Pointwise.Reshape

@[expose] public section

set_option maxRecDepth 16384

noncomputable section

namespace Cert.Kernel4Ideal.Own

open Cert.Kernel4Ideal Cert.Kernel4Ideal.Gen
open Idealize.ShloMosaic Idealize.ShloMosaic.TcCoe Idealize.ShloMosaic.Tactic
open scoped BigOperators

abbrev Acc := Vec Ideal S1024x1024 .f32
abbrev Rows := Vec Ideal S4096x1024 .bf16

theorem pay1_at (p q : Fin 1024) : (k0_pay1 : FVec Ideal S1024x1024 .f32) (ix2 p q) = 0 := by
  pointwise [k0_pay1]

theorem pay2_at (A : Acc) (X Y : Rows) (p q : Fin 1024) :
    k0_pay2 A X Y (ix2 p q) = A (ix2 p q) + ∑ k : Fin 4096, X (ix2 k p) * Y (ix2 k q) := by
  pointwise [k0_pay2]

/-! ## What a point leaves -/

section Cases

variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S2x1024x512 .bf16) (h5 : a5.IsWhole)
  (a6 : Memref sig .tc .vmem S1024x1024 .f32) (h6 : a6.IsWhole) (X Y : Rows) (A : Acc)

theorem zero2 : (![0, 0] : Fin 2 → Nat) = fun _ => 0 := by decide

theorem acc_A (hc0 : cond0_0 i) (hc1 : ¬cond0_1 i) : sout0_A_0 c i a3 h3 a4 h4 a5 h5 a6 h6 hc0 hc1 X Y = k0_pay2 k0_pay1 X Y := by
  unfold sout0_A_0
  rw [View.read_writes_eq_canon _ _ _ (scover0_A_0 c i a3 h3 a4 h4 a5 h5 a6 h6 hc0 hc1 X Y)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S4096x1024) zero2]

theorem acc_B (hc0 : ¬cond0_0 i) (hc1 : ¬cond0_1 i) : sout0_B_0 c i a3 h3 a4 h4 a5 h5 a6 h6 hc0 hc1 X Y A = k0_pay2 A X Y := by
  unfold sout0_B_0
  rw [View.read_writes_eq_canon _ _ _ (scover0_B_0 c i a3 h3 a4 h4 a5 h5 a6 h6 hc0 hc1 X Y A)]
  unfold kernelRun0_B
  dsimp only
  rw [View.canon_unit_zero (S := S1024x1024) zero2]
  simp only [View.readAt_eq_ld, h3.read_unread, h4.read_unread, h6.read_unread, View.ld_unit_zero (S := S4096x1024) zero2, View.ld_unit_zero (S := S1024x1024) zero2]

theorem acc_C (hc0 : ¬cond0_0 i) (hc1 : cond0_1 i) : sout0_C_0 c i a3 h3 a4 h4 a5 h5 a6 h6 hc0 hc1 X Y A = k0_pay2 A X Y := by
  unfold sout0_C_0
  rw [View.read_writes_eq_canon _ _ _ (scover0_C_0 c i a3 h3 a4 h4 a5 h5 a6 h6 hc0 hc1 X Y A)]
  unfold kernelRun0_C
  dsimp only
  sl_unfold_words
  rw [View.canon_unit_zero (S := S1024x1024) zero2]
  simp only [View.readAt_eq_ld, h3.read_unread, h4.read_unread, h6.read_unread, View.ld_unit_zero (S := S4096x1024) zero2, View.ld_unit_zero (S := S1024x1024) zero2]

/-- Column `q` of half `b` among the columns of the accumulator. -/
def both (b : Fin 2) (q : Fin 512) : Fin 1024 := ⟨512 * b.val + q.val, by omega⟩

theorem out_C (hc0 : ¬cond0_0 i) (hc1 : cond0_1 i) (b : Fin 2) (p : Fin 1024) (q : Fin 512) :
    out0_C_2 c i a3 h3 a4 h4 a5 h5 a6 h6 hc0 hc1 X Y A (ix3 b p q) = k0_pay2 A X Y (ix2 p (both b q)) := by
  unfold out0_C_2
  rw [View.read_writes_junk_eq_canon]
  unfold kernelRun0_C
  dsimp only
  sl_unfold_words
  simp only [View.readCov_eq_canon', View.canon_unit_zero (S := S1024x1024) zero2, View.readAt_eq_ld, h3.read_unread, h4.read_unread, h6.read_unread,
    View.ld_unit_zero (S := S4096x1024) zero2, View.ld_unit_zero (S := S1024x1024) zero2]
  generalize k0_pay2 A X Y = B
  fin_cases b
  · refine (View.canon_cons_of_not_mem _ _ ?_).trans ?_
    · intro hm
      exact absurd ((Rect.mem_set_unit (s := S2x1024x512) (off := ![1, 0, 0]) (size := S1x1024x512.size) (inb := inb_S2x1024x512_S1x1024x512_1_0_0)).mp hm 0).1 (by show ¬(1 ≤ 0); omega)
    · have e : (ix3 0 p q : S2x1024x512.Idx) = (Rect.unit (s := S2x1024x512) ![0, 0, 0] S1x1024x512.size inb_S2x1024x512_S1x1024x512_0_0_0).emb (ix3 0 p q) := by
        funext a
        apply Fin.ext
        fin_cases a
        · exact (show 0 = 0 + 1 * 0 by omega)
        · exact (show p.val = 0 + 1 * p.val by omega)
        · exact (show q.val = 0 + 1 * q.val by omega)
      refine (congrArg _ e).trans ((View.canon_cons_emb _ _ _ _).trans ?_)
      pointwise [k0_pay3]
      exact congrArg (fun r => B (ix2 p r)) (Fin.ext (by show q.val = 512 * 0 + q.val; omega))
  · have e : (ix3 1 p q : S2x1024x512.Idx) = (Rect.unit (s := S2x1024x512) ![1, 0, 0] S1x1024x512.size inb_S2x1024x512_S1x1024x512_1_0_0).emb (ix3 0 p q) := by
      funext a
      apply Fin.ext
      fin_cases a
      · exact (show 1 = 1 + 1 * 0 by omega)
      · exact (show p.val = 0 + 1 * p.val by omega)
      · exact (show q.val = 0 + 1 * q.val by omega)
    refine (congrArg _ e).trans ((View.canon_cons_emb _ _ _ _).trans ?_)
    pointwise [k0_pay4]
    rfl

end Cases

theorem point_lt (t : Fin grid0.N) : t.val < 16 := lt_of_lt_of_eq t.isLt N_0

/-- Where each window's block lies. -/
theorem idx : ∀ t : Fin grid0.N, win0_0.index t = ![t.val % 4, 0] ∧ win0_1.index t = ![t.val % 4, t.val / 4]
    ∧ win0_2.index t = ![t.val / 4, 0, 0] := by
  decide +kernel

/-- Row `k` of a point's block among the rows of the factors, and column `q` of its result among the columns of the product. -/
def row (t : Fin grid0.N) (k : Fin 4096) : Fin 16384 := ⟨4096 * (t.val % 4) + k.val, by omega⟩
def res (t : Fin grid0.N) (q : Fin 1024) : Fin 4096 := ⟨1024 * (t.val / 4) + q.val, by have := point_lt t; omega⟩

variable (m : (ℓ : Loc nD τ sig) → Buf (Elt Ideal) ℓ) (c : Dev nD)

abbrev aX : Vec Ideal S16384x1024 .f32 := m ((c : Thread nD τ).loc main_arg0)
abbrev aY : Vec Ideal S16384x4096 .f32 := m ((c : Thread nD τ).loc main_arg1)

theorem host_x (x : Fin 16384) (k : Fin 1024) : (V m c main_v0 : Vec Ideal S16384x1024 .bf16) (ix2 x k) = aX m c (ix2 x k) := by
  simp only [V, hostOps0]
  after_reads_simp
  rfl

theorem host_y (x : Fin 16384) (k : Fin 4096) : (V m c main_v1 : Vec Ideal S16384x4096 .bf16) (ix2 x k) = aY m c (ix2 x k) := by
  simp only [V, hostOps0]
  after_reads_simp
  rfl

theorem blk0 (t : Fin cfg0.N) (k : Fin 4096) (p : Fin 1024) :
    (iblk m c 0 t : Rows) (ix2 k p) = aX m c (ix2 (row t k) p) := by
  have h := idx t
  rw [← host_x]
  unfold row
  blk_simp [iblk]
  refine congrArg _ ?_
  blk_ext [h]

theorem blk1 (t : Fin cfg0.N) (k : Fin 4096) (q : Fin 1024) :
    (iblk m c 1 t : Rows) (ix2 k q) = aY m c (ix2 (row t k) (res t q)) := by
  have h := idx t
  rw [← host_y]
  unfold row res
  blk_simp [iblk]
  refine congrArg _ ?_
  blk_ext [h]

/-- The accumulator after a point adds the product of the point's blocks to what it held, or to zero at the first. -/
theorem acc_step (t : Fin cfg0.N) (p q : Fin 1024) : (outsAt0 m c t.val t.isLt).2 (ix2 p q)
    = (if t.val % 4 = 0 then 0 else (outsAt0 m c (t.val - 1) (Nat.lt_of_le_of_lt (Nat.sub_le _ _) t.isLt)).2 (ix2 p q))
      + ∑ k : Fin 4096, aX m c (ix2 (row t k) p) * aY m c (ix2 (row t k) (res t q)) := by
  have e : ∀ X Y : Rows, X = iblk m c 0 t → Y = iblk m c 1 t → (∑ k : Fin 4096, X (ix2 k p) * Y (ix2 k q)) = ∑ k : Fin 4096, aX m c (ix2 (row t k) p) * aY m c (ix2 (row t k) (res t q)) := by
    rintro _ _ rfl rfl
    exact Finset.sum_congr rfl fun k _ => congrArg₂ (· * ·) (blk0 m c t k p) (blk1 m c t k q)
  by_cases h0 : t.val % 4 = 0
  · rw [outsAt0_A m c t h0 (by omega), if_pos h0]
    dsimp only
    rw [acc_A, pay2_at, pay1_at]
    exact congrArg₂ (· + ·) rfl (e _ _ rfl rfl)
  · rw [if_neg h0]
    by_cases h1 : t.val % 4 = 3
    · rw [outsAt0_C m c t h0 h1]
      dsimp only
      rw [acc_C, pay2_at]
      exact congrArg₂ (· + ·) rfl (e _ _ rfl rfl)
    · rw [outsAt0_B m c t h0 h1]
      dsimp only
      rw [acc_B, pay2_at]
      exact congrArg₂ (· + ·) rfl (e _ _ rfl rfl)

/-- The accumulator after a point: the sum over the rows of the blocks so far. -/
theorem acc_sum (n : ℕ) (hn : n < cfg0.N) (p q : Fin 1024) : (outsAt0 m c n hn).2 (ix2 p q)
    = ∑ x : Fin 16384, (if x.val < 4096 * (n % 4) + 4096 then aX m c (ix2 x p) * aY m c (ix2 x (res ⟨n, hn⟩ q)) else 0) := by
  refine Cert.Sums.running (fun n hn => (outsAt0 m c n hn).2 (ix2 p q)) (fun n hn x => aX m c (ix2 x p) * aY m c (ix2 x (res ⟨n, hn⟩ q))) (fun n hn h' h0 => ?_)
    (fun n hn => acc_step m c ⟨n, hn⟩ p q) n hn
  have hr : res ⟨n - 1, h'⟩ q = res ⟨n, hn⟩ q :=
    Fin.ext (by show 1024 * ((n - 1) / 4) + q.val = 1024 * (n / 4) + q.val; omega)
  simp only [hr]

/-- Column `q` of slab `b` among the columns of the product, and the slab and the column of the slab a point's half lies in. -/
def slab (b : Fin 8) (q : Fin 512) : Fin 4096 := ⟨512 * b.val + q.val, by omega⟩
def own (t : Fin grid0.N) (b : Fin 2) : Fin 8 := ⟨2 * (t.val / 4) + b.val, by have := point_lt t; omega⟩

/-- The array the call makes. -/
def wArr : Vec Ideal S8x1024x512 .bf16 := fun y => ∑ x : Fin 16384, aX m c (ix2 x (y 1)) * aY m c (ix2 x (slab (y 0) (y 2)))

theorem out_at (t : Fin cfg0.N) (ht : t.val % 4 = 3) (b : Fin 2) (p : Fin 1024) (q : Fin 512) :
    (outsAt0 m c t.val t.isLt).1 (ix3 b p q) = ∑ x : Fin 16384, aX m c (ix2 x p) * aY m c (ix2 x (slab (own t b) q)) := by
  have e : (outsAt0 m c t.val t.isLt).1 (ix3 b p q) = (outsAt0 m c t.val t.isLt).2 (ix2 p (both b q)) := by
    rw [outsAt0_C m c t (by omega) ht]
    dsimp only
    rw [out_C, acc_C]
  have hs : res t (both b q) = slab (own t b) q :=
    Fin.ext (by show 1024 * (t.val / 4) + (512 * b.val + q.val) = 512 * (2 * (t.val / 4) + b.val) + q.val; omega)
  rw [e, acc_sum, hs]
  refine Finset.sum_congr rfl fun x _ => if_pos ?_
  have := x.isLt
  omega

theorem emb2 (t : Fin cfg0.N) (b : Fin 2) (p : Fin 1024) (q : Fin 512) :
    (win0_2.blk t).view.emb (ix3 b p q) = (ix3 (own t b) p q : S8x1024x512.Idx) := by
  have hi := idx t
  funext a
  apply Fin.ext
  fin_cases a
  · refine (Pipeline.Window.rect_emb_val win0_2 t (ix3 b p q) 0).trans ?_
    rw [hi.2.2]
    show t.val / 4 * 2 + b.val = 2 * (t.val / 4) + b.val
    omega
  · refine (Pipeline.Window.rect_emb_val win0_2 t (ix3 b p q) 1).trans ?_
    rw [hi.2.2]
    show 0 * 1024 + p.val = p.val
    omega
  · refine (Pipeline.Window.rect_emb_val win0_2 t (ix3 b p q) 2).trans ?_
    rw [hi.2.2]
    show 0 * 512 + q.val = q.val
    omega

theorem arr2 : (dats m 0 c).arrAt 2 cfg0.N = wArr m c := by
  refine (dats m 0 c).arrAt_eq_of_covers 2 _ (by decide +kernel) fun t hf y => ?_
  have h3 := (flush0_2 t).mp hf
  blk_simp
  rw [after0_2]
  obtain ⟨b, p, q, rfl⟩ : ∃ (b : Fin 2) (p : Fin 1024) (q : Fin 512), y = (ix3 b p q : S2x1024x512.Idx) := ⟨y 0, y 1, y 2, eq_ix3 y⟩
  exact (out_at m c t h3 b p q).trans (congrArg (wArr m c) (emb2 t b p q)).symm

end Cert.Kernel4Ideal.Own

namespace Cert.Reference4Ideal.Own

open Cert.Reference4Ideal Cert.Reference4Ideal.Gen
open Idealize.ShloMosaic Idealize.ShloMosaic.TcCoe
open scoped BigOperators

theorem res_at (X : FVec Ideal S16384x1024 .f32) (Y : FVec Ideal S16384x4096 .f32) (b : Fin 8) (p : Fin 1024) (q : Fin 512) :
    (truncf .bf16 (transpose S8x1024x512 [1, 0, 2] (shapeCast _ (transpose S1024x4096 [1, 0] (Host.dotGeneral dot_S16384x4096_S16384x1024_S4096x1024_0_0_1_1_n_n none Y X) transposes_S4096x1024_S1024x4096_1_0) shapeCasts_S1024x4096_S1024x8x512) transposes_S1024x8x512_S8x1024x512_1_0_2) bitsLt_bf16_f32 : FVec Ideal S8x1024x512 .bf16) (ix3 b p q)
      = ∑ x : Fin 16384, Y (ix2 x (Cert.Kernel4Ideal.Own.slab b q)) * X (ix2 x p) := by
  have e : Cert.Kernel4Ideal.Own.slab b q = ⟨b.val * 512 + q.val, by omega⟩ :=
    Fin.ext (by show 512 * b.val + q.val = b.val * 512 + q.val; omega)
  rw [e]
  pointwise

end Cert.Reference4Ideal.Own

namespace Cert.Proof

open Idealize.ShloMosaic Idealize.SL.Sem

/-- Over the reals the call of the first feed-forward weight's gradient leaves the reference's. -/
theorem weightOne : Cert.algebraic_Kernel4Ideal_Reference4Ideal := by
  intro m g m' g' _ hagree
  refine ⟨fun c => Cert.Kernel4Ideal.Own.wArr m c, ?_, ?_⟩
  · exact (θ_run Cert.Kernel4Ideal.defs _ _).mono (fun r h c => ⟨(h c).1.trans (Cert.Kernel4Ideal.Own.arr2 m c), (h c).2⟩)
      (Cert.Kernel4Ideal.Value.run_blocks (F := Ideal) m g)
  · refine (θ_run Cert.Reference4Ideal.defs _ _).mono (fun r h c => ⟨(h c).1.trans ?_, (h c).2⟩) (Cert.Reference4Ideal.Value.run (F := Ideal) m' g')
    obtain ⟨e0, e1⟩ := hagree c
    funext y
    rw [eq_ix3 y]
    refine (Cert.Reference4Ideal.Own.res_at _ _ _ _ _).trans ?_
    rw [e0, e1]
    exact Finset.sum_congr rfl fun x _ => mul_comm _ _

end Cert.Proof

end
-- ==== Proof.FfOne.lean ====
module

public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.ValueKit
public import Idealize.ShloMosaic.Lib.StableHlo.RunRead
public import Idealize.ShloMosaic.Lib.Pointwise.Tactic
public import Idealize.ShloMosaic.Lib.Pointwise.Contract

@[expose] public section

set_option maxRecDepth 16384

noncomputable section

namespace Cert.Kernel5Ideal.Own

open Cert.Kernel5Ideal Cert.Kernel5Ideal.Gen
open Idealize.ShloMosaic Idealize.ShloMosaic.TcCoe
open scoped BigOperators

/-- The square of a relu. -/
def reluSq (a : EReal) : EReal := max a 0 * max a 0

theorem pay1_at (X : Vec Ideal S2048x1024 .bf16) (Y : Vec Ideal S1024x1024 .bf16) (p : Fin 2048) (q : Fin 1024) :
    k0_pay1 X Y (ix2 p q) = ∑ k : Fin 1024, X (ix2 p k) * Y (ix2 k q) := by
  pointwise [k0_pay1]

theorem zero2 : (![0, 0] : Fin 2 → Nat) = fun _ => 0 := by decide

theorem out2_at (X : Vec Ideal S2048x1024 .bf16) (Y : Vec Ideal S1024x1024 .bf16) (p : Fin 2048) (q : Fin 1024) :
    out0_2 X Y (ix2 p q) = ∑ k : Fin 1024, X (ix2 p k) * Y (ix2 k q) := by
  unfold out0_2
  rw [View.canon_unit_zero zero2]
  simp only [View.ld_unit_zero (S := S2048x1024) zero2, View.ld_unit_zero (S := S1024x1024) zero2]
  exact pay1_at X Y p q

theorem pay3_at (X : Vec Ideal S2048x1024 .bf16) (Y : Vec Ideal S1024x1024 .bf16) (p : Fin 2048) (q : Fin 1024) :
    k0_pay3 X Y (ix2 p q) = reluSq (k0_pay1 X Y (ix2 p q)) := by
  unfold reluSq k0_pay3
  generalize k0_pay1 X Y = B
  pointwise

theorem out3_at (X : Vec Ideal S2048x1024 .bf16) (Y : Vec Ideal S1024x1024 .bf16) (p : Fin 2048) (q : Fin 1024) :
    out0_3 X Y (ix2 p q) = reluSq (∑ k : Fin 1024, X (ix2 p k) * Y (ix2 k q)) := by
  unfold out0_3
  rw [View.canon_unit_zero zero2]
  simp only [View.ld_unit_zero (S := S2048x1024) zero2, View.ld_unit_zero (S := S1024x1024) zero2]
  rw [← pay1_at]
  exact pay3_at X Y p q

theorem point_lt (t : Fin grid0.N) : t.val < 32 := lt_of_lt_of_eq t.isLt N_0

/-- Where each window's block lies. -/
theorem idx : ∀ t : Fin grid0.N, win0_0.index t = ![t.val / 4, 0] ∧ win0_1.index t = ![0, t.val % 4]
    ∧ win0_2.index t = ![t.val / 4, t.val % 4] ∧ win0_3.index t = ![t.val / 4, t.val % 4] := by
  decide +kernel

/-- Row `p` and column `q` of a point's block, among the rows and the columns of the arrays. -/
def row (t : Fin grid0.N) (p : Fin 2048) : Fin 16384 := ⟨2048 * (t.val / 4) + p.val, by have := point_lt t; omega⟩
def col (t : Fin grid0.N) (q : Fin 1024) : Fin 4096 := ⟨1024 * (t.val % 4) + q.val, by omega⟩

variable (m : (ℓ : Loc nD τ sig) → Buf (Elt Ideal) ℓ) (c : Dev nD)

abbrev aU : Vec Ideal S16384x1024 .f32 := m ((c : Thread nD τ).loc main_arg0)
abbrev aW : Vec Ideal S1024x4096 .f32 := m ((c : Thread nD τ).loc main_arg1)

theorem host_u (x : Fin 16384) (k : Fin 1024) : (V m c main_v0 : Vec Ideal S16384x1024 .bf16) (ix2 x k) = aU m c (ix2 x k) := by
  simp only [V, hostOps0]
  after_reads_simp
  rfl

theorem host_w (k : Fin 1024) (x : Fin 4096) : (V m c main_v1 : Vec Ideal S1024x4096 .bf16) (ix2 k x) = aW m c (ix2 k x) := by
  simp only [V, hostOps0]
  after_reads_simp
  rfl

theorem blk0 (t : Fin cfg0.N) (p : Fin 2048) (k : Fin 1024) :
    (iblk m c 0 t : Vec Ideal S2048x1024 .bf16) (ix2 p k) = aU m c (ix2 (row t p) k) := by
  have h := idx t
  rw [← host_u]
  unfold row
  blk_simp [iblk]
  refine congrArg _ ?_
  blk_ext [h]

theorem blk1 (t : Fin cfg0.N) (k q : Fin 1024) :
    (iblk m c 1 t : Vec Ideal S1024x1024 .bf16) (ix2 k q) = aW m c (ix2 k (col t q)) := by
  have h := idx t
  rw [← host_w]
  unfold col
  blk_simp [iblk]
  refine congrArg _ ?_
  blk_ext [h]

/-- The product that the call makes. -/
def pArr : Vec Ideal S16384x4096 .bf16 := fun y => ∑ k : Fin 1024, aU m c (ix2 (y 0) k) * aW m c (ix2 k (y 1))

theorem emb2 (t : Fin cfg0.N) (p : Fin 2048) (q : Fin 1024) :
    (win0_2.blk t).view.emb (ix2 p q) = (ix2 (row t p) (col t q) : S16384x4096.Idx) := by
  have hi := idx t
  funext a
  apply Fin.ext
  fin_cases a
  · refine (Pipeline.Window.rect_emb_val win0_2 t (ix2 p q) 0).trans ?_
    rw [hi.2.2.1]
    show t.val / 4 * 2048 + p.val = 2048 * (t.val / 4) + p.val
    omega
  · refine (Pipeline.Window.rect_emb_val win0_2 t (ix2 p q) 1).trans ?_
    rw [hi.2.2.1]
    show t.val % 4 * 1024 + q.val = 1024 * (t.val % 4) + q.val
    omega

theorem arr2 : (dats m 0 c).arrAt 2 cfg0.N = pArr m c := by
  refine (dats m 0 c).arrAt_eq_of_covers 2 _ (by decide +kernel) fun t hf y => ?_
  blk_simp
  rw [after0_2]
  obtain ⟨p, q, rfl⟩ : ∃ (p : Fin 2048) (q : Fin 1024), y = (ix2 p q : S2048x1024.Idx) := ⟨y 0, y 1, eq_ix2 y⟩
  refine (out2_at _ _ p q).trans (Eq.trans ?_ (congrArg (pArr m c) (emb2 t p q)).symm)
  simp only [blk0, blk1]
  rfl

/-- Its squared relu. -/
def sArr : Vec Ideal S16384x4096 .bf16 := fun y => reluSq (pArr m c y)

theorem emb3 (t : Fin cfg0.N) (p : Fin 2048) (q : Fin 1024) :
    (win0_3.blk t).view.emb (ix2 p q) = (ix2 (row t p) (col t q) : S16384x4096.Idx) := by
  have hi := idx t
  funext a
  apply Fin.ext
  fin_cases a
  · refine (Pipeline.Window.rect_emb_val win0_3 t (ix2 p q) 0).trans ?_
    rw [hi.2.2.2]
    show t.val / 4 * 2048 + p.val = 2048 * (t.val / 4) + p.val
    omega
  · refine (Pipeline.Window.rect_emb_val win0_3 t (ix2 p q) 1).trans ?_
    rw [hi.2.2.2]
    show t.val % 4 * 1024 + q.val = 1024 * (t.val % 4) + q.val
    omega

theorem arr3 : (dats m 0 c).arrAt 3 cfg0.N = sArr m c := by
  refine (dats m 0 c).arrAt_eq_of_covers 3 _ (by decide +kernel) fun t hf y => ?_
  blk_simp
  rw [after0_3]
  obtain ⟨p, q, rfl⟩ : ∃ (p : Fin 2048) (q : Fin 1024), y = (ix2 p q : S2048x1024.Idx) := ⟨y 0, y 1, eq_ix2 y⟩
  refine (out3_at _ _ p q).trans (Eq.trans ?_ (congrArg (sArr m c) (emb3 t p q)).symm)
  simp only [blk0, blk1]
  rfl

end Cert.Kernel5Ideal.Own

namespace Cert.Reference5Ideal.Own

open Cert.Reference5Ideal Cert.Reference5Ideal.Gen
open Idealize.ShloMosaic Idealize.ShloMosaic.TcCoe
open scoped BigOperators
open Cert.Kernel5Ideal.Own (reluSq)

theorem dot_at (X : FVec Ideal S16384x1024 .f32) (W : FVec Ideal S1024x4096 .f32) (p : Fin 16384) (q : Fin 4096) :
    (Host.dotGeneral dot_S16384x1024_S1024x4096_S16384x4096_1_0_0_1_n_n none X W : FVec Ideal S16384x4096 .f32) (ix2 p q)
      = ∑ k : Fin 1024, X (ix2 p k) * W (ix2 k q) := by
  pointwise

theorem sq_at (B : FVec Ideal S16384x4096 .f32) (p : Fin 16384) (q : Fin 4096) :
    (truncf .bf16 (mulf (maximumf B (broadcastInDim S16384x4096 ![] bcast_S_S16384x4096 (constant S_ .f32 0x00000000#32))) (maximumf B (broadcastInDim S16384x4096 ![] bcast_S_S16384x4096 (constant S_ .f32 0x00000000#32)))) bitsLt_bf16_f32 : FVec Ideal S16384x4096 .bf16) (ix2 p q)
      = reluSq (B (ix2 p q)) := by
  unfold reluSq
  pointwise

end Cert.Reference5Ideal.Own

namespace Cert.Proof

open Idealize.ShloMosaic Idealize.SL.Sem

/-- Over the reals the feed-forward's first call leaves the reference's product and its squared relu. -/
theorem firstProduct : Cert.algebraic_Kernel5Ideal_Reference5Ideal := by
  intro m g m' g' _ hagree
  refine ⟨fun c => Cert.Kernel5Ideal.Own.pArr m c, fun c => Cert.Kernel5Ideal.Own.sArr m c, ?_, ?_⟩
  · exact (θ_run Cert.Kernel5Ideal.defs _ _).mono
      (fun r h c => ⟨(h c).1.trans (Cert.Kernel5Ideal.Own.arr2 m c), (h c).2.1.trans (Cert.Kernel5Ideal.Own.arr3 m c), (h c).2.2⟩)
      (Cert.Kernel5Ideal.Value.run_blocks (F := Ideal) m g)
  · refine (θ_run Cert.Reference5Ideal.defs _ _).mono (fun r h c => ⟨(h c).1.trans ?_, (h c).2.1.trans ?_, (h c).2.2⟩)
      (Cert.Reference5Ideal.Value.run (F := Ideal) m' g')
    · obtain ⟨e0, e1⟩ := hagree c
      funext y
      rw [eq_ix2 y, e0, e1]
      exact Cert.Reference5Ideal.Own.dot_at _ _ _ _
    · obtain ⟨e0, e1⟩ := hagree c
      funext y
      rw [eq_ix2 y, e0, e1]
      exact (Cert.Reference5Ideal.Own.sq_at _ _ _).trans (congrArg Cert.Kernel5Ideal.Own.reluSq (Cert.Reference5Ideal.Own.dot_at _ _ _ _))

end Cert.Proof

end
-- ==== Proof.WgradIn.lean ====
module

public import proofs.«01_k».proof.Defs
public import proofs.«01_k».proof.Proof.Accum
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import Idealize.ShloMosaic.Lib.Pipeline.ValueKit
public import Idealize.ShloMosaic.Lib.StableHlo.RunRead
public import Idealize.ShloMosaic.Lib.Pointwise.Tactic
public import Idealize.ShloMosaic.Lib.Pointwise.Contract

@[expose] public section

set_option maxRecDepth 16384

noncomputable section

namespace Cert.Kernel6Ideal.Own

open Cert.Kernel6Ideal Cert.Kernel6Ideal.Gen
open Idealize.ShloMosaic Idealize.ShloMosaic.TcCoe Idealize.ShloMosaic.Tactic
open scoped BigOperators

abbrev Acc := Vec Ideal S1024x1024 .f32
abbrev Rows := Vec Ideal S4096x1024 .bf16

theorem pay1_at (p q : Fin 1024) : (k0_pay1 : FVec Ideal S1024x1024 .f32) (ix2 p q) = 0 := by
  pointwise [k0_pay1]

theorem pay2_at (A : Acc) (X Y : Rows) (p q : Fin 1024) :
    k0_pay2 A X Y (ix2 p q) = A (ix2 p q) + ∑ k : Fin 4096, X (ix2 k p) * Y (ix2 k q) := by
  pointwise [k0_pay2]

/-! ## What a point leaves -/

section Cases

variable (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole) (X Y : Rows) (A : Acc)

theorem zero2 : (![0, 0] : Fin 2 → Nat) = fun _ => 0 := by decide

theorem acc_A (hc0 : cond0_0 i) (hc1 : ¬cond0_1 i) : sout0_A_0 c i a3 h3 a4 h4 a5 h5 a6 h6 hc0 hc1 X Y = k0_pay2 k0_pay1 X Y := by
  unfold sout0_A_0
  rw [View.read_writes_eq_canon _ _ _ (scover0_A_0 c i a3 h3 a4 h4 a5 h5 a6 h6 hc0 hc1 X Y)]
  unfold kernelRun0_A
  dsimp only
  sl_unfold_words
  rw [View.canon_cons_unit_zero (S := S1024x1024) zero2, View.readCov_unit_zero (S := S1024x1024) _ zero2]
  simp only [View.readAt_eq_ld, h3.read_unread, h4.read_unread, View.ld_unit_zero (S := S4096x1024) zero2]

theorem acc_B (hc0 : ¬cond0_0 i) (hc1 : ¬cond0_1 i) : sout0_B_0 c i a3 h3 a4 h4 a5 h5 a6 h6 hc0 hc1 X Y A = k0_pay2 A X Y := by
  unfold sout0_B_0
  rw [View.read_writes_eq_canon _ _ _ (scover0_B_0 c i a3 h3 a4 h4 a5 h5 a6 h6 hc0 hc1 X Y A)]
  unfold kernelRun0_B
  dsimp only
  rw [View.canon_unit_zero (S := S1024x1024) zero2]
  simp only [View.readAt_eq_ld, h3.read_unread, h4.read_unread, h6.read_unread, View.ld_unit_zero (S := S4096x1024) zero2, View.ld_unit_zero (S := S1024x1024) zero2]

theorem acc_C (hc0 : ¬cond0_0 i) (hc1 : cond0_1 i) : sout0_C_0 c i a3 h3 a4 h4 a5 h5 a6 h6 hc0 hc1 X Y A = k0_pay2 A X Y := by
  unfold sout0_C_0
  rw [View.read_writes_eq_canon _ _ _ (scover0_C_0 c i a3 h3 a4 h4 a5 h5 a6 h6 hc0 hc1 X Y A)]
  unfold kernelRun0_C
  dsimp only
  sl_unfold_words
  rw [View.canon_unit_zero (S := S1024x1024) zero2]
  simp only [View.readAt_eq_ld, h3.read_unread, h4.read_unread, h6.read_unread, View.ld_unit_zero (S := S4096x1024) zero2, View.ld_unit_zero (S := S1024x1024) zero2]

theorem out_C (hc0 : ¬cond0_0 i) (hc1 : cond0_1 i) : out0_C_2 c i a3 h3 a4 h4 a5 h5 a6 h6 hc0 hc1 X Y A = k0_pay3 (k0_pay2 A X Y) := by
  unfold out0_C_2
  rw [View.read_writes_eq_canon _ _ _ (cover0_C_2 c i a3 h3 a4 h4 a5 h5 a6 h6 hc0 hc1 X Y A)]
  unfold kernelRun0_C
  dsimp only
  sl_unfold_words
  rw [View.canon_unit_zero (S := S1024x1024) zero2, View.readCov_unit_zero (S := S1024x1024) _ zero2]
  simp only [View.readAt_eq_ld, h3.read_unread, h4.read_unread, h6.read_unread, View.ld_unit_zero (S := S4096x1024) zero2, View.ld_unit_zero (S := S1024x1024) zero2]

end Cases

theorem point_lt (t : Fin grid0.N) : t.val < 32 := lt_of_lt_of_eq t.isLt N_0

/-- Where each window's block lies. -/
theorem idx : ∀ t : Fin grid0.N, win0_0.index t = ![t.val % 4, 0] ∧ win0_1.index t = ![t.val % 4, t.val / 4]
    ∧ win0_2.index t = ![0, t.val / 4] := by
  decide +kernel

/-- Row `k` of a point's block among the rows of the factors, and column `q` of its result among the columns of the product. -/
def row (t : Fin grid0.N) (k : Fin 4096) : Fin 16384 := ⟨4096 * (t.val % 4) + k.val, by omega⟩
def res (t : Fin grid0.N) (q : Fin 1024) : Fin 8192 := ⟨1024 * (t.val / 4) + q.val, by have := point_lt t; omega⟩

variable (m : (ℓ : Loc nD τ sig) → Buf (Elt Ideal) ℓ) (c : Dev nD)

abbrev aX : Vec Ideal S16384x1024 .f32 := m ((c : Thread nD τ).loc main_arg0)
abbrev aY : Vec Ideal S16384x8192 .f32 := m ((c : Thread nD τ).loc main_arg1)

theorem host_x (x : Fin 16384) (k : Fin 1024) : (V m c main_v0 : Vec Ideal S16384x1024 .bf16) (ix2 x k) = aX m c (ix2 x k) := by
  simp only [V, hostOps0]
  after_reads_simp
  rfl

theorem host_y (x : Fin 16384) (k : Fin 8192) : (V m c main_v1 : Vec Ideal S16384x8192 .bf16) (ix2 x k) = aY m c (ix2 x k) := by
  simp only [V, hostOps0]
  after_reads_simp
  rfl

theorem blk0 (t : Fin cfg0.N) (k : Fin 4096) (p : Fin 1024) :
    (iblk m c 0 t : Rows) (ix2 k p) = aX m c (ix2 (row t k) p) := by
  have h := idx t
  rw [← host_x]
  unfold row
  blk_simp [iblk]
  refine congrArg _ ?_
  blk_ext [h]

theorem blk1 (t : Fin cfg0.N) (k : Fin 4096) (q : Fin 1024) :
    (iblk m c 1 t : Rows) (ix2 k q) = aY m c (ix2 (row t k) (res t q)) := by
  have h := idx t
  rw [← host_y]
  unfold row res
  blk_simp [iblk]
  refine congrArg _ ?_
  blk_ext [h]

/-- The accumulator after a point adds the product of the point's blocks to what it held, or to zero at the first. -/
theorem acc_step (t : Fin cfg0.N) (p q : Fin 1024) : (outsAt0 m c t.val t.isLt).2 (ix2 p q)
    = (if t.val % 4 = 0 then 0 else (outsAt0 m c (t.val - 1) (Nat.lt_of_le_of_lt (Nat.sub_le _ _) t.isLt)).2 (ix2 p q))
      + ∑ k : Fin 4096, aX m c (ix2 (row t k) p) * aY m c (ix2 (row t k) (res t q)) := by
  have e : ∀ X Y : Rows, X = iblk m c 0 t → Y = iblk m c 1 t → (∑ k : Fin 4096, X (ix2 k p) * Y (ix2 k q)) = ∑ k : Fin 4096, aX m c (ix2 (row t k) p) * aY m c (ix2 (row t k) (res t q)) := by
    rintro _ _ rfl rfl
    exact Finset.sum_congr rfl fun k _ => congrArg₂ (· * ·) (blk0 m c t k p) (blk1 m c t k q)
  by_cases h0 : t.val % 4 = 0
  · rw [outsAt0_A m c t h0 (by omega), if_pos h0]
    dsimp only
    rw [acc_A, pay2_at, pay1_at]
    exact congrArg₂ (· + ·) rfl (e _ _ rfl rfl)
  · rw [if_neg h0]
    by_cases h1 : t.val % 4 = 3
    · rw [outsAt0_C m c t h0 h1]
      dsimp only
      rw [acc_C, pay2_at]
      exact congrArg₂ (· + ·) rfl (e _ _ rfl rfl)
    · rw [outsAt0_B m c t h0 h1]
      dsimp only
      rw [acc_B, pay2_at]
      exact congrArg₂ (· + ·) rfl (e _ _ rfl rfl)

/-- The accumulator after a point: the sum over the rows of the blocks so far. -/
theorem acc_sum (n : ℕ) (hn : n < cfg0.N) (p q : Fin 1024) : (outsAt0 m c n hn).2 (ix2 p q)
    = ∑ x : Fin 16384, (if x.val < 4096 * (n % 4) + 4096 then aX m c (ix2 x p) * aY m c (ix2 x (res ⟨n, hn⟩ q)) else 0) := by
  refine Cert.Sums.running (fun n hn => (outsAt0 m c n hn).2 (ix2 p q)) (fun n hn x => aX m c (ix2 x p) * aY m c (ix2 x (res ⟨n, hn⟩ q))) (fun n hn h' h0 => ?_)
    (fun n hn => acc_step m c ⟨n, hn⟩ p q) n hn
  have hr : res ⟨n - 1, h'⟩ q = res ⟨n, hn⟩ q :=
    Fin.ext (by show 1024 * ((n - 1) / 4) + q.val = 1024 * (n / 4) + q.val; omega)
  simp only [hr]

/-- The array the call makes. -/
def wArr : Vec Ideal S1024x8192 .bf16 := fun y => ∑ x : Fin 16384, aX m c (ix2 x (y 0)) * aY m c (ix2 x (y 1))

theorem out_at (t : Fin cfg0.N) (ht : t.val % 4 = 3) (p q : Fin 1024) :
    (outsAt0 m c t.val t.isLt).1 (ix2 p q) = ∑ x : Fin 16384, aX m c (ix2 x p) * aY m c (ix2 x (res t q)) := by
  have e : (outsAt0 m c t.val t.isLt).1 (ix2 p q) = (outsAt0 m c t.val t.isLt).2 (ix2 p q) := by
    rw [outsAt0_C m c t (by omega) ht]
    dsimp only
    rw [out_C, acc_C]
    rfl
  rw [e, acc_sum]
  refine Finset.sum_congr rfl fun x _ => if_pos ?_
  have := x.isLt
  omega

theorem emb2 (t : Fin cfg0.N) (p q : Fin 1024) :
    (win0_2.blk t).view.emb (ix2 p q) = (ix2 p (res t q) : S1024x8192.Idx) := by
  have hi := idx t
  funext a
  apply Fin.ext
  fin_cases a
  · refine (Pipeline.Window.rect_emb_val win0_2 t (ix2 p q) 0).trans ?_
    rw [hi.2.2]
    show 0 * 1024 + p.val = p.val
    omega
  · refine (Pipeline.Window.rect_emb_val win0_2 t (ix2 p q) 1).trans ?_
    rw [hi.2.2]
    show t.val / 4 * 1024 + q.val = 1024 * (t.val / 4) + q.val
    omega

theorem arr2 : (dats m 0 c).arrAt 2 cfg0.N = wArr m c := by
  refine (dats m 0 c).arrAt_eq_of_covers 2 _ (by decide +kernel) fun t hf y => ?_
  have h3 := (flush0_2 t).mp hf
  blk_simp
  rw [after0_2]
  obtain ⟨p, q, rfl⟩ : ∃ (p q : Fin 1024), y = (ix2 p q : S1024x1024.Idx) := ⟨y 0, y 1, eq_ix2 y⟩
  exact (out_at m c t h3 p q).trans (congrArg (wArr m c) (emb2 t p q)).symm

end Cert.Kernel6Ideal.Own

namespace Cert.Reference6Ideal.Own

open Cert.Reference6Ideal Cert.Reference6Ideal.Gen
open Idealize.ShloMosaic Idealize.ShloMosaic.TcCoe
open scoped BigOperators

theorem res_at (X : FVec Ideal S16384x1024 .f32) (Y : FVec Ideal S16384x8192 .f32) (p : Fin 1024) (q : Fin 8192) :
    (truncf .bf16 (transpose S1024x8192 [1, 0] (Host.dotGeneral dot_S16384x8192_S16384x1024_S8192x1024_0_0_1_1_n_n none Y X) transposes_S8192x1024_S1024x8192_1_0) bitsLt_bf16_f32 : FVec Ideal S1024x8192 .bf16) (ix2 p q)
      = ∑ x : Fin 16384, Y (ix2 x q) * X (ix2 x p) := by
  pointwise

end Cert.Reference6Ideal.Own

namespace Cert.Proof

open Idealize.ShloMosaic Idealize.SL.Sem

/-- Over the reals the call of the input weight's gradient leaves the reference's. -/
theorem weightIn : Cert.algebraic_Kernel6Ideal_Reference6Ideal := by
  intro m g m' g' _ hagree
  refine ⟨fun c => Cert.Kernel6Ideal.Own.wArr m c, ?_, ?_⟩
  · exact (θ_run Cert.Kernel6Ideal.defs _ _).mono (fun r h c => ⟨(h c).1.trans (Cert.Kernel6Ideal.Own.arr2 m c), (h c).2⟩)
      (Cert.Kernel6Ideal.Value.run_blocks (F := Ideal) m g)
  · refine (θ_run Cert.Reference6Ideal.defs _ _).mono (fun r h c => ⟨(h c).1.trans ?_, (h c).2⟩) (Cert.Reference6Ideal.Value.run (F := Ideal) m' g')
    obtain ⟨e0, e1⟩ := hagree c
    funext y
    rw [eq_ix2 y]
    refine (Cert.Reference6Ideal.Own.res_at _ _ _ _).trans ?_
    rw [e0, e1]
    exact Finset.sum_congr rfl fun x _ => mul_comm _ _

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Alg
public import proofs.«01_k».proof.Proof.Dact
public import proofs.«01_k».proof.Proof.WgradTwo
public import proofs.«01_k».proof.Proof.WgradOne
public import proofs.«01_k».proof.Proof.FfOne
public import proofs.«01_k».proof.Proof.WgradIn
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import Idealize.ShloMosaic.Adequacy
public import Idealize.ShloMosaic.Init

@[expose] public section

set_option maxRecDepth 16384
set_option maxHeartbeats 4000000

noncomputable section

namespace Cert.Proof

open Idealize.ShloMosaic Idealize.SL.Sem

/-- The kernel's frame: the two kernel programs have one text, so its run is the run over any float values. -/
theorem frame_kernel : Cert.quiescent_Kernel := fun m ρ _ => by
  have h := Cert.KernelIdeal.Own.frame_own (F := Bits) m ρ
  rw [← eq_defs, ← eq_main] at h
  exact h

/-- The frame of the kernel over the reals. -/
theorem frame_kernelIdeal : Cert.quiescent_KernelIdeal := fun m ρ _ =>
  Cert.KernelIdeal.Own.frame_own (F := Ideal) m ρ

/-- The reference's frame: its run leaves the arguments alone, and it has no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

set_option smartUnfolding false in
/-- The procedures of the two texts of the call for the gradient of the activation are the same. -/
theorem eq_defs2 : @Cert.Kernel2.defs Bits _ Cert.Kernel2.Gen.facts = @Cert.Kernel2Ideal.defs Bits _ Cert.Kernel2Ideal.Gen.facts := rfl

/-- So are their programs. -/
theorem eq_main2 : @Cert.Kernel2.main Bits _ Cert.Kernel2.Gen.facts = @Cert.Kernel2Ideal.main Bits _ Cert.Kernel2Ideal.Gen.facts := rfl

/-- The frame of the call for the gradient of the activation. -/
theorem frame_kernel2 : Cert.quiescent_Kernel2 := fun m ρ _ => by
  have h := Cert.Kernel2Ideal.Gen.frame (F := Bits) m ρ
  rw [← eq_defs2, ← eq_main2] at h
  exact h

/-- The same over the reals. -/
theorem frame_kernel2Ideal : Cert.quiescent_Kernel2Ideal := fun m ρ _ =>
  Cert.Kernel2Ideal.Gen.frame (F := Ideal) m ρ

/-- The frame of its reference. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

set_option smartUnfolding false in
/-- The procedures of the two texts of the call for the gradient of the second weight are the same. -/
theorem eq_defs3 : @Cert.Kernel3.defs Bits _ Cert.Kernel3.Gen.facts = @Cert.Kernel3Ideal.defs Bits _ Cert.Kernel3Ideal.Gen.facts := rfl

/-- So are their programs. -/
theorem eq_main3 : @Cert.Kernel3.main Bits _ Cert.Kernel3.Gen.facts = @Cert.Kernel3Ideal.main Bits _ Cert.Kernel3Ideal.Gen.facts := rfl

/-- The frame of the call for the gradient of the second weight. -/
theorem frame_kernel3 : Cert.quiescent_Kernel3 := fun m ρ _ => by
  have h := Cert.Kernel3Ideal.Gen.frame (F := Bits) m ρ
  rw [← eq_defs3, ← eq_main3] at h
  exact h

/-- The same over the reals. -/
theorem frame_kernel3Ideal : Cert.quiescent_Kernel3Ideal := fun m ρ _ =>
  Cert.Kernel3Ideal.Gen.frame (F := Ideal) m ρ

/-- The frame of its reference. -/
theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

set_option smartUnfolding false in
/-- The procedures of the two texts of the call for the gradient of the first weight are the same. -/
theorem eq_defs4 : @Cert.Kernel4.defs Bits _ Cert.Kernel4.Gen.facts = @Cert.Kernel4Ideal.defs Bits _ Cert.Kernel4Ideal.Gen.facts := rfl

/-- So are their programs. -/
theorem eq_main4 : @Cert.Kernel4.main Bits _ Cert.Kernel4.Gen.facts = @Cert.Kernel4Ideal.main Bits _ Cert.Kernel4Ideal.Gen.facts := rfl

/-- The frame of the call for the gradient of the first weight. -/
theorem frame_kernel4 : Cert.quiescent_Kernel4 := fun m ρ _ => by
  have h := Cert.Kernel4Ideal.Gen.frame (F := Bits) m ρ
  rw [← eq_defs4, ← eq_main4] at h
  exact h

/-- The same over the reals. -/
theorem frame_kernel4Ideal : Cert.quiescent_Kernel4Ideal := fun m ρ _ =>
  Cert.Kernel4Ideal.Gen.frame (F := Ideal) m ρ

/-- The frame of its reference. -/
theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

set_option smartUnfolding false in
/-- The procedures of the two texts of the call for the feed-forward's first product are the same. -/
theorem eq_defs5 : @Cert.Kernel5.defs Bits _ Cert.Kernel5.Gen.facts = @Cert.Kernel5Ideal.defs Bits _ Cert.Kernel5Ideal.Gen.facts := rfl

/-- So are their programs. -/
theorem eq_main5 : @Cert.Kernel5.main Bits _ Cert.Kernel5.Gen.facts = @Cert.Kernel5Ideal.main Bits _ Cert.Kernel5Ideal.Gen.facts := rfl

/-- The frame of the call for the feed-forward's first product. -/
theorem frame_kernel5 : Cert.quiescent_Kernel5 := fun m ρ _ => by
  have h := Cert.Kernel5Ideal.Gen.frame (F := Bits) m ρ
  rw [← eq_defs5, ← eq_main5] at h
  exact h

/-- The same over the reals. -/
theorem frame_kernel5Ideal : Cert.quiescent_Kernel5Ideal := fun m ρ _ =>
  Cert.Kernel5Ideal.Gen.frame (F := Ideal) m ρ

/-- The frame of its reference. -/
theorem frame_reference5 : Cert.quiescent_Reference5Ideal := fun m ρ _ =>
  (θ_run Cert.Reference5Ideal.defs _ _).mono
    (fun r h => ⟨fun c => (h c).2.2, sem_eq_zero_of_no_sems (by decide) r.2⟩)
    (Cert.Reference5Ideal.Value.run (F := Ideal) m ρ)

set_option smartUnfolding false in
/-- The procedures of the two texts of the call for the gradient of the input weight are the same. -/
theorem eq_defs6 : @Cert.Kernel6.defs Bits _ Cert.Kernel6.Gen.facts = @Cert.Kernel6Ideal.defs Bits _ Cert.Kernel6Ideal.Gen.facts := rfl

/-- So are their programs. -/
theorem eq_main6 : @Cert.Kernel6.main Bits _ Cert.Kernel6.Gen.facts = @Cert.Kernel6Ideal.main Bits _ Cert.Kernel6Ideal.Gen.facts := rfl

/-- The frame of the call for the gradient of the input weight. -/
theorem frame_kernel6 : Cert.quiescent_Kernel6 := fun m ρ _ => by
  have h := Cert.Kernel6Ideal.Gen.frame (F := Bits) m ρ
  rw [← eq_defs6, ← eq_main6] at h
  exact h

/-- The same over the reals. -/
theorem frame_kernel6Ideal : Cert.quiescent_Kernel6Ideal := fun m ρ _ =>
  Cert.Kernel6Ideal.Gen.frame (F := Ideal) m ρ

/-- The frame of its reference. -/
theorem frame_reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  finite_facts,
  frame_kernel, frame_kernelIdeal, fun m ρ _ => frame_kernelIdeal m ρ trivial, frame_reference, fun m ρ _ => frame_reference m ρ trivial,
  frame_kernel2, frame_kernel2Ideal, frame_reference2,
  frame_kernel3, frame_kernel3Ideal, frame_reference3,
  frame_kernel4, frame_kernel4Ideal, frame_reference4,
  frame_kernel5, frame_kernel5Ideal, frame_reference5,
  frame_kernel6, frame_kernel6Ideal, frame_reference6,
  trivial, @gradients finite_facts, trivial, activation, trivial, weightTwo, trivial, weightOne,
  trivial, firstProduct, trivial, weightIn⟩

end Cert.Proof

end
